-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x2048 : Shape := ⟨2, ![2048, 2048]⟩
abbrev S2048x128 : Shape := ⟨2, ![2048, 128]⟩
abbrev S8x2048x256 : Shape := ⟨3, ![8, 2048, 256]⟩
abbrev S8x128x256 : Shape := ⟨3, ![8, 128, 256]⟩
abbrev S16x128x128 : Shape := ⟨3, ![16, 128, 128]⟩
abbrev S_ : Shape := ⟨0, ![]⟩
abbrev S8 : Shape := ⟨1, ![8]⟩
abbrev S16 : Shape := ⟨1, ![16]⟩
abbrev S1 : Shape := ⟨1, ![1]⟩
abbrev S1x2048x256 : Shape := ⟨3, ![1, 2048, 256]⟩
abbrev S2048x256 : Shape := ⟨2, ![2048, 256]⟩
abbrev S128x256 : Shape := ⟨2, ![128, 256]⟩
abbrev S1x128x256 : Shape := ⟨3, ![1, 128, 256]⟩
abbrev S1x128x128 : Shape := ⟨3, ![1, 128, 128]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048x128, .f32⟩
  | .local _ .vmem, ⟨0, _⟩ => ⟨S128x2048, .f32⟩
  | .local _ .vmem, ⟨1, _⟩ => ⟨S8x2048x256, .f32⟩
  | .local _ .vmem, ⟨2, _⟩ => ⟨S8x128x256, .bf16⟩
  | .local _ .vmem, ⟨3, _⟩ => ⟨S16x128x128, .bf16⟩
  | .local _ .vmem, ⟨4, _⟩ => ⟨S2048x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_off1 (d0 : Dev nD) (c3_i32_15 : BitVec 32) (c3_i32 : BitVec 32) (c0_i32_13 : BitVec 32) (c0_i32_14 : BitVec 32) (c0_i32_16 : BitVec 32) : Fin 2 → Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v30 : BitVec 1 := Scalar.cmpi .eq v19 c0_i32_11
  let c1_i32_12 : BitVec 32 := 1#32
  let v31 : BitVec 1 := Scalar.cmpi .eq v19 c1_i32_12
  let c2_i32 : BitVec 32 := 2#32
  let v32 : BitVec 1 := Scalar.cmpi .eq v19 c2_i32
  let v33 : BitVec 32 := Scalar.select v32 c0_i32_13 c0_i32_14
  let v34 : BitVec 32 := Scalar.select v31 c3_i32 v33
  let v35 : BitVec 32 := Scalar.select v30 c3_i32_15 v34
  let c512_i32 : BitVec 32 := 512#32
  let v36 : BitVec 32 := Scalar.muli v35 c512_i32
  let v37 : BitVec 32 := Scalar.addi v36 c0_i32_16
  ![0, v37.toNat]
def k0_off1_at (r : Fin 8) : BitVec 32 × BitVec 32 × BitVec 32 × BitVec 32 × BitVec 32 :=
  if r.val < 4 then
    if r.val < 2 then
      if r.val < 1 then
        (3#32, 3#32, 0#32, 0#32, 0#32)
      else
        (3#32, 3#32, 0#32, 0#32, 256#32)
    else
      if r.val < 3 then
        (2#32, 2#32, 1#32, 1#32, 0#32)
      else
        (2#32, 2#32, 1#32, 1#32, 256#32)
  else
    if r.val < 6 then
      if r.val < 5 then
        (1#32, 0#32, 3#32, 2#32, 0#32)
      else
        (1#32, 0#32, 3#32, 2#32, 256#32)
    else
      if r.val < 7 then
        (0#32, 1#32, 2#32, 3#32, 0#32)
      else
        (0#32, 1#32, 2#32, 3#32, 256#32)
def k0_dev1 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_116 : BitVec 32 := 1#32
  let v135 : BitVec 32 := Scalar.addi v2 c1_i32_116
  let c16_i32_117 : BitVec 32 := 16#32
  let c0_i32_118 : BitVec 32 := 0#32
  let v136 : BitVec 1 := Scalar.cmpi .eq c16_i32_117 c0_i32_118
  let c1_i32_119 : BitVec 32 := 1#32
  let v137 : BitVec 32 := Scalar.select v136 c1_i32_119 c16_i32_117
  let v138 : BitVec 32 := Scalar.remsi v135 v137
  let c0_i32_121 : BitVec 32 := 0#32
  let v140 : BitVec 1 := Scalar.cmpi .slt v138 c0_i32_121
  let c0_i32_122 : BitVec 32 := 0#32
  let v141 : BitVec 1 := Scalar.cmpi .slt v137 c0_i32_122
  let v142 : BitVec 1 := Scalar.xori v140 v141
  let c0_i32_120 : BitVec 32 := 0#32
  let v139 : BitVec 1 := Scalar.cmpi .ne v138 c0_i32_120
  let v143 : BitVec 1 := Scalar.andi v142 v139
  let v144 : BitVec 32 := Scalar.addi v138 v137
  let v145 : BitVec 32 := Scalar.select v143 v144 v138
  let c1_i32_124 : BitVec 32 := 1#32
  let v146 : BitVec 32 := Scalar.muli v145 c1_i32_124
  let v147 : BitVec 32 := Scalar.addi c0_i32_125 v146
  v147.toNat
def k0_dev2 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_126 : BitVec 32 := 2#32
  let v148 : BitVec 32 := Scalar.addi v2 c2_i32_126
  let c16_i32_127 : BitVec 32 := 16#32
  let c0_i32_128 : BitVec 32 := 0#32
  let v149 : BitVec 1 := Scalar.cmpi .eq c16_i32_127 c0_i32_128
  let c1_i32_129 : BitVec 32 := 1#32
  let v150 : BitVec 32 := Scalar.select v149 c1_i32_129 c16_i32_127
  let v151 : BitVec 32 := Scalar.remsi v148 v150
  let c0_i32_131 : BitVec 32 := 0#32
  let v153 : BitVec 1 := Scalar.cmpi .slt v151 c0_i32_131
  let c0_i32_132 : BitVec 32 := 0#32
  let v154 : BitVec 1 := Scalar.cmpi .slt v150 c0_i32_132
  let v155 : BitVec 1 := Scalar.xori v153 v154
  let c0_i32_130 : BitVec 32 := 0#32
  let v152 : BitVec 1 := Scalar.cmpi .ne v151 c0_i32_130
  let v156 : BitVec 1 := Scalar.andi v155 v152
  let v157 : BitVec 32 := Scalar.addi v151 v150
  let v158 : BitVec 32 := Scalar.select v156 v157 v151
  let c1_i32_134 : BitVec 32 := 1#32
  let v159 : BitVec 32 := Scalar.muli v158 c1_i32_134
  let v160 : BitVec 32 := Scalar.addi c0_i32_135 v159
  v160.toNat
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_136 : BitVec 32 := 3#32
  let v161 : BitVec 32 := Scalar.addi v2 c3_i32_136
  let c16_i32_137 : BitVec 32 := 16#32
  let c0_i32_138 : BitVec 32 := 0#32
  let v162 : BitVec 1 := Scalar.cmpi .eq c16_i32_137 c0_i32_138
  let c1_i32_139 : BitVec 32 := 1#32
  let v163 : BitVec 32 := Scalar.select v162 c1_i32_139 c16_i32_137
  let v164 : BitVec 32 := Scalar.remsi v161 v163
  let c0_i32_141 : BitVec 32 := 0#32
  let v166 : BitVec 1 := Scalar.cmpi .slt v164 c0_i32_141
  let c0_i32_142 : BitVec 32 := 0#32
  let v167 : BitVec 1 := Scalar.cmpi .slt v163 c0_i32_142
  let v168 : BitVec 1 := Scalar.xori v166 v167
  let c0_i32_140 : BitVec 32 := 0#32
  let v165 : BitVec 1 := Scalar.cmpi .ne v164 c0_i32_140
  let v169 : BitVec 1 := Scalar.andi v168 v165
  let v170 : BitVec 32 := Scalar.addi v164 v163
  let v171 : BitVec 32 := Scalar.select v169 v170 v164
  let c1_i32_144 : BitVec 32 := 1#32
  let v172 : BitVec 32 := Scalar.muli v171 c1_i32_144
  let v173 : BitVec 32 := Scalar.addi c0_i32_145 v172
  v173.toNat
def k0_dev4 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_146 : BitVec 32 := 4#32
  let v174 : BitVec 32 := Scalar.addi v2 c4_i32_146
  let c16_i32_147 : BitVec 32 := 16#32
  let c0_i32_148 : BitVec 32 := 0#32
  let v175 : BitVec 1 := Scalar.cmpi .eq c16_i32_147 c0_i32_148
  let c1_i32_149 : BitVec 32 := 1#32
  let v176 : BitVec 32 := Scalar.select v175 c1_i32_149 c16_i32_147
  let v177 : BitVec 32 := Scalar.remsi v174 v176
  let c0_i32_151 : BitVec 32 := 0#32
  let v179 : BitVec 1 := Scalar.cmpi .slt v177 c0_i32_151
  let c0_i32_152 : BitVec 32 := 0#32
  let v180 : BitVec 1 := Scalar.cmpi .slt v176 c0_i32_152
  let v181 : BitVec 1 := Scalar.xori v179 v180
  let c0_i32_150 : BitVec 32 := 0#32
  let v178 : BitVec 1 := Scalar.cmpi .ne v177 c0_i32_150
  let v182 : BitVec 1 := Scalar.andi v181 v178
  let v183 : BitVec 32 := Scalar.addi v177 v176
  let v184 : BitVec 32 := Scalar.select v182 v183 v177
  let c1_i32_154 : BitVec 32 := 1#32
  let v185 : BitVec 32 := Scalar.muli v184 c1_i32_154
  let v186 : BitVec 32 := Scalar.addi c0_i32_155 v185
  v186.toNat
def k0_dev5 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_156 : BitVec 32 := 5#32
  let v187 : BitVec 32 := Scalar.addi v2 c5_i32_156
  let c16_i32_157 : BitVec 32 := 16#32
  let c0_i32_158 : BitVec 32 := 0#32
  let v188 : BitVec 1 := Scalar.cmpi .eq c16_i32_157 c0_i32_158
  let c1_i32_159 : BitVec 32 := 1#32
  let v189 : BitVec 32 := Scalar.select v188 c1_i32_159 c16_i32_157
  let v190 : BitVec 32 := Scalar.remsi v187 v189
  let c0_i32_161 : BitVec 32 := 0#32
  let v192 : BitVec 1 := Scalar.cmpi .slt v190 c0_i32_161
  let c0_i32_162 : BitVec 32 := 0#32
  let v193 : BitVec 1 := Scalar.cmpi .slt v189 c0_i32_162
  let v194 : BitVec 1 := Scalar.xori v192 v193
  let c0_i32_160 : BitVec 32 := 0#32
  let v191 : BitVec 1 := Scalar.cmpi .ne v190 c0_i32_160
  let v195 : BitVec 1 := Scalar.andi v194 v191
  let v196 : BitVec 32 := Scalar.addi v190 v189
  let v197 : BitVec 32 := Scalar.select v195 v196 v190
  let c1_i32_164 : BitVec 32 := 1#32
  let v198 : BitVec 32 := Scalar.muli v197 c1_i32_164
  let v199 : BitVec 32 := Scalar.addi c0_i32_165 v198
  v199.toNat
def k0_dev6 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_166 : BitVec 32 := 6#32
  let v200 : BitVec 32 := Scalar.addi v2 c6_i32_166
  let c16_i32_167 : BitVec 32 := 16#32
  let c0_i32_168 : BitVec 32 := 0#32
  let v201 : BitVec 1 := Scalar.cmpi .eq c16_i32_167 c0_i32_168
  let c1_i32_169 : BitVec 32 := 1#32
  let v202 : BitVec 32 := Scalar.select v201 c1_i32_169 c16_i32_167
  let v203 : BitVec 32 := Scalar.remsi v200 v202
  let c0_i32_171 : BitVec 32 := 0#32
  let v205 : BitVec 1 := Scalar.cmpi .slt v203 c0_i32_171
  let c0_i32_172 : BitVec 32 := 0#32
  let v206 : BitVec 1 := Scalar.cmpi .slt v202 c0_i32_172
  let v207 : BitVec 1 := Scalar.xori v205 v206
  let c0_i32_170 : BitVec 32 := 0#32
  let v204 : BitVec 1 := Scalar.cmpi .ne v203 c0_i32_170
  let v208 : BitVec 1 := Scalar.andi v207 v204
  let v209 : BitVec 32 := Scalar.addi v203 v202
  let v210 : BitVec 32 := Scalar.select v208 v209 v203
  let c1_i32_174 : BitVec 32 := 1#32
  let v211 : BitVec 32 := Scalar.muli v210 c1_i32_174
  let v212 : BitVec 32 := Scalar.addi c0_i32_175 v211
  v212.toNat
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_176 : BitVec 32 := 7#32
  let v213 : BitVec 32 := Scalar.addi v2 c7_i32_176
  let c16_i32_177 : BitVec 32 := 16#32
  let c0_i32_178 : BitVec 32 := 0#32
  let v214 : BitVec 1 := Scalar.cmpi .eq c16_i32_177 c0_i32_178
  let c1_i32_179 : BitVec 32 := 1#32
  let v215 : BitVec 32 := Scalar.select v214 c1_i32_179 c16_i32_177
  let v216 : BitVec 32 := Scalar.remsi v213 v215
  let c0_i32_181 : BitVec 32 := 0#32
  let v218 : BitVec 1 := Scalar.cmpi .slt v216 c0_i32_181
  let c0_i32_182 : BitVec 32 := 0#32
  let v219 : BitVec 1 := Scalar.cmpi .slt v215 c0_i32_182
  let v220 : BitVec 1 := Scalar.xori v218 v219
  let c0_i32_180 : BitVec 32 := 0#32
  let v217 : BitVec 1 := Scalar.cmpi .ne v216 c0_i32_180
  let v221 : BitVec 1 := Scalar.andi v220 v217
  let v222 : BitVec 32 := Scalar.addi v216 v215
  let v223 : BitVec 32 := Scalar.select v221 v222 v216
  let c1_i32_184 : BitVec 32 := 1#32
  let v224 : BitVec 32 := Scalar.muli v223 c1_i32_184
  let v225 : BitVec 32 := Scalar.addi c0_i32_185 v224
  v225.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v226 : BitVec 32 := Scalar.addi v2 c8_i32
  let c16_i32_186 : BitVec 32 := 16#32
  let c0_i32_187 : BitVec 32 := 0#32
  let v227 : BitVec 1 := Scalar.cmpi .eq c16_i32_186 c0_i32_187
  let c1_i32_188 : BitVec 32 := 1#32
  let v228 : BitVec 32 := Scalar.select v227 c1_i32_188 c16_i32_186
  let v229 : BitVec 32 := Scalar.remsi v226 v228
  let c0_i32_190 : BitVec 32 := 0#32
  let v231 : BitVec 1 := Scalar.cmpi .slt v229 c0_i32_190
  let c0_i32_191 : BitVec 32 := 0#32
  let v232 : BitVec 1 := Scalar.cmpi .slt v228 c0_i32_191
  let v233 : BitVec 1 := Scalar.xori v231 v232
  let c0_i32_189 : BitVec 32 := 0#32
  let v230 : BitVec 1 := Scalar.cmpi .ne v229 c0_i32_189
  let v234 : BitVec 1 := Scalar.andi v233 v230
  let v235 : BitVec 32 := Scalar.addi v229 v228
  let v236 : BitVec 32 := Scalar.select v234 v235 v229
  let c1_i32_193 : BitVec 32 := 1#32
  let v237 : BitVec 32 := Scalar.muli v236 c1_i32_193
  let v238 : BitVec 32 := Scalar.addi c0_i32_194 v237
  v238.toNat
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v239 : BitVec 32 := Scalar.addi v2 c9_i32
  let c16_i32_195 : BitVec 32 := 16#32
  let c0_i32_196 : BitVec 32 := 0#32
  let v240 : BitVec 1 := Scalar.cmpi .eq c16_i32_195 c0_i32_196
  let c1_i32_197 : BitVec 32 := 1#32
  let v241 : BitVec 32 := Scalar.select v240 c1_i32_197 c16_i32_195
  let v242 : BitVec 32 := Scalar.remsi v239 v241
  let c0_i32_199 : BitVec 32 := 0#32
  let v244 : BitVec 1 := Scalar.cmpi .slt v242 c0_i32_199
  let c0_i32_200 : BitVec 32 := 0#32
  let v245 : BitVec 1 := Scalar.cmpi .slt v241 c0_i32_200
  let v246 : BitVec 1 := Scalar.xori v244 v245
  let c0_i32_198 : BitVec 32 := 0#32
  let v243 : BitVec 1 := Scalar.cmpi .ne v242 c0_i32_198
  let v247 : BitVec 1 := Scalar.andi v246 v243
  let v248 : BitVec 32 := Scalar.addi v242 v241
  let v249 : BitVec 32 := Scalar.select v247 v248 v242
  let c1_i32_202 : BitVec 32 := 1#32
  let v250 : BitVec 32 := Scalar.muli v249 c1_i32_202
  let v251 : BitVec 32 := Scalar.addi c0_i32_203 v250
  v251.toNat
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v252 : BitVec 32 := Scalar.addi v2 c10_i32
  let c16_i32_204 : BitVec 32 := 16#32
  let c0_i32_205 : BitVec 32 := 0#32
  let v253 : BitVec 1 := Scalar.cmpi .eq c16_i32_204 c0_i32_205
  let c1_i32_206 : BitVec 32 := 1#32
  let v254 : BitVec 32 := Scalar.select v253 c1_i32_206 c16_i32_204
  let v255 : BitVec 32 := Scalar.remsi v252 v254
  let c0_i32_208 : BitVec 32 := 0#32
  let v257 : BitVec 1 := Scalar.cmpi .slt v255 c0_i32_208
  let c0_i32_209 : BitVec 32 := 0#32
  let v258 : BitVec 1 := Scalar.cmpi .slt v254 c0_i32_209
  let v259 : BitVec 1 := Scalar.xori v257 v258
  let c0_i32_207 : BitVec 32 := 0#32
  let v256 : BitVec 1 := Scalar.cmpi .ne v255 c0_i32_207
  let v260 : BitVec 1 := Scalar.andi v259 v256
  let v261 : BitVec 32 := Scalar.addi v255 v254
  let v262 : BitVec 32 := Scalar.select v260 v261 v255
  let c1_i32_211 : BitVec 32 := 1#32
  let v263 : BitVec 32 := Scalar.muli v262 c1_i32_211
  let v264 : BitVec 32 := Scalar.addi c0_i32_212 v263
  v264.toNat
def k0_dev11 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v265 : BitVec 32 := Scalar.addi v2 c11_i32
  let c16_i32_213 : BitVec 32 := 16#32
  let c0_i32_214 : BitVec 32 := 0#32
  let v266 : BitVec 1 := Scalar.cmpi .eq c16_i32_213 c0_i32_214
  let c1_i32_215 : BitVec 32 := 1#32
  let v267 : BitVec 32 := Scalar.select v266 c1_i32_215 c16_i32_213
  let v268 : BitVec 32 := Scalar.remsi v265 v267
  let c0_i32_217 : BitVec 32 := 0#32
  let v270 : BitVec 1 := Scalar.cmpi .slt v268 c0_i32_217
  let c0_i32_218 : BitVec 32 := 0#32
  let v271 : BitVec 1 := Scalar.cmpi .slt v267 c0_i32_218
  let v272 : BitVec 1 := Scalar.xori v270 v271
  let c0_i32_216 : BitVec 32 := 0#32
  let v269 : BitVec 1 := Scalar.cmpi .ne v268 c0_i32_216
  let v273 : BitVec 1 := Scalar.andi v272 v269
  let v274 : BitVec 32 := Scalar.addi v268 v267
  let v275 : BitVec 32 := Scalar.select v273 v274 v268
  let c1_i32_220 : BitVec 32 := 1#32
  let v276 : BitVec 32 := Scalar.muli v275 c1_i32_220
  let v277 : BitVec 32 := Scalar.addi c0_i32_221 v276
  v277.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v278 : BitVec 32 := Scalar.addi v2 c12_i32
  let c16_i32_222 : BitVec 32 := 16#32
  let c0_i32_223 : BitVec 32 := 0#32
  let v279 : BitVec 1 := Scalar.cmpi .eq c16_i32_222 c0_i32_223
  let c1_i32_224 : BitVec 32 := 1#32
  let v280 : BitVec 32 := Scalar.select v279 c1_i32_224 c16_i32_222
  let v281 : BitVec 32 := Scalar.remsi v278 v280
  let c0_i32_226 : BitVec 32 := 0#32
  let v283 : BitVec 1 := Scalar.cmpi .slt v281 c0_i32_226
  let c0_i32_227 : BitVec 32 := 0#32
  let v284 : BitVec 1 := Scalar.cmpi .slt v280 c0_i32_227
  let v285 : BitVec 1 := Scalar.xori v283 v284
  let c0_i32_225 : BitVec 32 := 0#32
  let v282 : BitVec 1 := Scalar.cmpi .ne v281 c0_i32_225
  let v286 : BitVec 1 := Scalar.andi v285 v282
  let v287 : BitVec 32 := Scalar.addi v281 v280
  let v288 : BitVec 32 := Scalar.select v286 v287 v281
  let c1_i32_229 : BitVec 32 := 1#32
  let v289 : BitVec 32 := Scalar.muli v288 c1_i32_229
  let v290 : BitVec 32 := Scalar.addi c0_i32_230 v289
  v290.toNat
def k0_dev13 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v291 : BitVec 32 := Scalar.addi v2 c13_i32
  let c16_i32_231 : BitVec 32 := 16#32
  let c0_i32_232 : BitVec 32 := 0#32
  let v292 : BitVec 1 := Scalar.cmpi .eq c16_i32_231 c0_i32_232
  let c1_i32_233 : BitVec 32 := 1#32
  let v293 : BitVec 32 := Scalar.select v292 c1_i32_233 c16_i32_231
  let v294 : BitVec 32 := Scalar.remsi v291 v293
  let c0_i32_235 : BitVec 32 := 0#32
  let v296 : BitVec 1 := Scalar.cmpi .slt v294 c0_i32_235
  let c0_i32_236 : BitVec 32 := 0#32
  let v297 : BitVec 1 := Scalar.cmpi .slt v293 c0_i32_236
  let v298 : BitVec 1 := Scalar.xori v296 v297
  let c0_i32_234 : BitVec 32 := 0#32
  let v295 : BitVec 1 := Scalar.cmpi .ne v294 c0_i32_234
  let v299 : BitVec 1 := Scalar.andi v298 v295
  let v300 : BitVec 32 := Scalar.addi v294 v293
  let v301 : BitVec 32 := Scalar.select v299 v300 v294
  let c1_i32_238 : BitVec 32 := 1#32
  let v302 : BitVec 32 := Scalar.muli v301 c1_i32_238
  let v303 : BitVec 32 := Scalar.addi c0_i32_239 v302
  v303.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v304 : BitVec 32 := Scalar.addi v2 c14_i32
  let c16_i32_240 : BitVec 32 := 16#32
  let c0_i32_241 : BitVec 32 := 0#32
  let v305 : BitVec 1 := Scalar.cmpi .eq c16_i32_240 c0_i32_241
  let c1_i32_242 : BitVec 32 := 1#32
  let v306 : BitVec 32 := Scalar.select v305 c1_i32_242 c16_i32_240
  let v307 : BitVec 32 := Scalar.remsi v304 v306
  let c0_i32_244 : BitVec 32 := 0#32
  let v309 : BitVec 1 := Scalar.cmpi .slt v307 c0_i32_244
  let c0_i32_245 : BitVec 32 := 0#32
  let v310 : BitVec 1 := Scalar.cmpi .slt v306 c0_i32_245
  let v311 : BitVec 1 := Scalar.xori v309 v310
  let c0_i32_243 : BitVec 32 := 0#32
  let v308 : BitVec 1 := Scalar.cmpi .ne v307 c0_i32_243
  let v312 : BitVec 1 := Scalar.andi v311 v308
  let v313 : BitVec 32 := Scalar.addi v307 v306
  let v314 : BitVec 32 := Scalar.select v312 v313 v307
  let c1_i32_247 : BitVec 32 := 1#32
  let v315 : BitVec 32 := Scalar.muli v314 c1_i32_247
  let v316 : BitVec 32 := Scalar.addi c0_i32_248 v315
  v316.toNat
def k0_dev15 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v317 : BitVec 32 := Scalar.addi v2 c15_i32
  let c16_i32_249 : BitVec 32 := 16#32
  let c0_i32_250 : BitVec 32 := 0#32
  let v318 : BitVec 1 := Scalar.cmpi .eq c16_i32_249 c0_i32_250
  let c1_i32_251 : BitVec 32 := 1#32
  let v319 : BitVec 32 := Scalar.select v318 c1_i32_251 c16_i32_249
  let v320 : BitVec 32 := Scalar.remsi v317 v319
  let c0_i32_253 : BitVec 32 := 0#32
  let v322 : BitVec 1 := Scalar.cmpi .slt v320 c0_i32_253
  let c0_i32_254 : BitVec 32 := 0#32
  let v323 : BitVec 1 := Scalar.cmpi .slt v319 c0_i32_254
  let v324 : BitVec 1 := Scalar.xori v322 v323
  let c0_i32_252 : BitVec 32 := 0#32
  let v321 : BitVec 1 := Scalar.cmpi .ne v320 c0_i32_252
  let v325 : BitVec 1 := Scalar.andi v324 v321
  let v326 : BitVec 32 := Scalar.addi v320 v319
  let v327 : BitVec 32 := Scalar.select v325 v326 v320
  let c1_i32_256 : BitVec 32 := 1#32
  let v328 : BitVec 32 := Scalar.muli v327 c1_i32_256
  let v329 : BitVec 32 := Scalar.addi c0_i32_257 v328
  v329.toNat
def k0_off2 (d0 : Dev nD) (c3_i32_266 : BitVec 32) (c3_i32_265 : BitVec 32) (c0_i32_263 : BitVec 32) (c0_i32_264 : BitVec 32) (c0_i32_279 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_260 : BitVec 32 := 0#32
  let v331 : BitVec 1 := Scalar.cmpi .eq v19 c0_i32_260
  let c1_i32_261 : BitVec 32 := 1#32
  let v332 : BitVec 1 := Scalar.cmpi .eq v19 c1_i32_261
  let c2_i32_262 : BitVec 32 := 2#32
  let v333 : BitVec 1 := Scalar.cmpi .eq v19 c2_i32_262
  let v334 : BitVec 32 := Scalar.select v333 c0_i32_263 c0_i32_264
  let v335 : BitVec 32 := Scalar.select v332 c3_i32_265 v334
  let v336 : BitVec 32 := Scalar.select v331 c3_i32_266 v335
  let c4_i32_278 : BitVec 32 := 4#32
  let v349 : BitVec 32 := Scalar.muli v336 c4_i32_278
  let v350 : BitVec 32 := Scalar.addi v349 c0_i32_279
  ![v350.toNat]
def k0_off2_at (r : Fin 12) : BitVec 32 × BitVec 32 × BitVec 32 × BitVec 32 × BitVec 32 :=
  if r.val < 6 then
    if r.val < 3 then
      if r.val < 1 then
        (3#32, 3#32, 0#32, 0#32, 0#32)
      else
        if r.val < 2 then
          (3#32, 3#32, 0#32, 0#32, 1#32)
        else
          (3#32, 3#32, 0#32, 0#32, 2#32)
    else
      if r.val < 4 then
        (3#32, 3#32, 0#32, 0#32, 3#32)
      else
        if r.val < 5 then
          (2#32, 2#32, 1#32, 1#32, 0#32)
        else
          (2#32, 2#32, 1#32, 1#32, 1#32)
  else
    if r.val < 9 then
      if r.val < 7 then
        (2#32, 2#32, 1#32, 1#32, 2#32)
      else
        if r.val < 8 then
          (2#32, 2#32, 1#32, 1#32, 3#32)
        else
          (1#32, 0#32, 3#32, 2#32, 0#32)
    else
      if r.val < 10 then
        (1#32, 0#32, 3#32, 2#32, 1#32)
      else
        if r.val < 11 then
          (1#32, 0#32, 3#32, 2#32, 2#32)
        else
          (1#32, 0#32, 3#32, 2#32, 3#32)
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_260 : BitVec 32 := 0#32
  let v331 : BitVec 1 := Scalar.cmpi .eq v19 c0_i32_260
  let c3_i32_266 : BitVec 32 := 3#32
  let c1_i32_261 : BitVec 32 := 1#32
  let v332 : BitVec 1 := Scalar.cmpi .eq v19 c1_i32_261
  let c3_i32_265 : BitVec 32 := 3#32
  let c2_i32_262 : BitVec 32 := 2#32
  let v333 : BitVec 1 := Scalar.cmpi .eq v19 c2_i32_262
  let c0_i32_263 : BitVec 32 := 0#32
  let c0_i32_264 : BitVec 32 := 0#32
  let v334 : BitVec 32 := Scalar.select v333 c0_i32_263 c0_i32_264
  let v335 : BitVec 32 := Scalar.select v332 c3_i32_265 v334
  let v336 : BitVec 32 := Scalar.select v331 c3_i32_266 v335
  let c4_i32_278 : BitVec 32 := 4#32
  let v349 : BitVec 32 := Scalar.muli v336 c4_i32_278
  let c0_i32_279 : BitVec 32 := 0#32
  let v350 : BitVec 32 := Scalar.addi v349 c0_i32_279
  let c1_i32_281 : BitVec 32 := 1#32
  let v351 : BitVec 32 := Scalar.muli v350 c1_i32_281
  let v352 : BitVec 32 := Scalar.addi c0_i32_282 v351
  v352.toNat
def k0_dev17 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_260 : BitVec 32 := 0#32
  let v331 : BitVec 1 := Scalar.cmpi .eq v19 c0_i32_260
  let c3_i32_266 : BitVec 32 := 3#32
  let c1_i32_261 : BitVec 32 := 1#32
  let v332 : BitVec 1 := Scalar.cmpi .eq v19 c1_i32_261
  let c3_i32_265 : BitVec 32 := 3#32
  let c2_i32_262 : BitVec 32 := 2#32
  let v333 : BitVec 1 := Scalar.cmpi .eq v19 c2_i32_262
  let c0_i32_263 : BitVec 32 := 0#32
  let c0_i32_264 : BitVec 32 := 0#32
  let v334 : BitVec 32 := Scalar.select v333 c0_i32_263 c0_i32_264
  let v335 : BitVec 32 := Scalar.select v332 c3_i32_265 v334
  let v336 : BitVec 32 := Scalar.select v331 c3_i32_266 v335
  let c4_i32_287 : BitVec 32 := 4#32
  let v361 : BitVec 32 := Scalar.muli v336 c4_i32_287
  let c1_i32_288 : BitVec 32 := 1#32
  let v362 : BitVec 32 := Scalar.addi v361 c1_i32_288
  let c1_i32_290 : BitVec 32 := 1#32
  let v363 : BitVec 32 := Scalar.muli v362 c1_i32_290
  let v364 : BitVec 32 := Scalar.addi c0_i32_291 v363
  v364.toNat
def k0_dev18 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_295 : BitVec 32 := 0#32
  let v373 : BitVec 1 := Scalar.cmpi .eq v19 c0_i32_295
  let c3_i32_301 : BitVec 32 := 3#32
  let c1_i32_296 : BitVec 32 := 1#32
  let v374 : BitVec 1 := Scalar.cmpi .eq v19 c1_i32_296
  let c3_i32_300 : BitVec 32 := 3#32
  let c2_i32_297 : BitVec 32 := 2#32
  let v375 : BitVec 1 := Scalar.cmpi .eq v19 c2_i32_297
  let c0_i32_298 : BitVec 32 := 0#32
  let c0_i32_299 : BitVec 32 := 0#32
  let v376 : BitVec 32 := Scalar.select v375 c0_i32_298 c0_i32_299
  let v377 : BitVec 32 := Scalar.select v374 c3_i32_300 v376
  let v378 : BitVec 32 := Scalar.select v373 c3_i32_301 v377
  let c4_i32_313 : BitVec 32 := 4#32
  let v391 : BitVec 32 := Scalar.muli v378 c4_i32_313
  let c2_i32_314 : BitVec 32 := 2#32
  let v392 : BitVec 32 := Scalar.addi v391 c2_i32_314
  let c1_i32_316 : BitVec 32 := 1#32
  let v393 : BitVec 32 := Scalar.muli v392 c1_i32_316
  let v394 : BitVec 32 := Scalar.addi c0_i32_317 v393
  v394.toNat
def k0_dev19 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_295 : BitVec 32 := 0#32
  let v373 : BitVec 1 := Scalar.cmpi .eq v19 c0_i32_295
  let c3_i32_301 : BitVec 32 := 3#32
  let c1_i32_296 : BitVec 32 := 1#32
  let v374 : BitVec 1 := Scalar.cmpi .eq v19 c1_i32_296
  let c3_i32_300 : BitVec 32 := 3#32
  let c2_i32_297 : BitVec 32 := 2#32
  let v375 : BitVec 1 := Scalar.cmpi .eq v19 c2_i32_297
  let c0_i32_298 : BitVec 32 := 0#32
  let c0_i32_299 : BitVec 32 := 0#32
  let v376 : BitVec 32 := Scalar.select v375 c0_i32_298 c0_i32_299
  let v377 : BitVec 32 := Scalar.select v374 c3_i32_300 v376
  let v378 : BitVec 32 := Scalar.select v373 c3_i32_301 v377
  let c4_i32_322 : BitVec 32 := 4#32
  let v403 : BitVec 32 := Scalar.muli v378 c4_i32_322
  let c3_i32_323 : BitVec 32 := 3#32
  let v404 : BitVec 32 := Scalar.addi v403 c3_i32_323
  let c1_i32_325 : BitVec 32 := 1#32
  let v405 : BitVec 32 := Scalar.muli v404 c1_i32_325
  let v406 : BitVec 32 := Scalar.addi c0_i32_326 v405
  v406.toNat
def k0_dev20 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_331 : BitVec 32 := 0#32
  let v415 : BitVec 1 := Scalar.cmpi .eq v19 c0_i32_331
  let c2_i32_337 : BitVec 32 := 2#32
  let c1_i32_332 : BitVec 32 := 1#32
  let v416 : BitVec 1 := Scalar.cmpi .eq v19 c1_i32_332
  let c2_i32_336 : BitVec 32 := 2#32
  let c2_i32_333 : BitVec 32 := 2#32
  let v417 : BitVec 1 := Scalar.cmpi .eq v19 c2_i32_333
  let c1_i32_334 : BitVec 32 := 1#32
  let c1_i32_335 : BitVec 32 := 1#32
  let v418 : BitVec 32 := Scalar.select v417 c1_i32_334 c1_i32_335
  let v419 : BitVec 32 := Scalar.select v416 c2_i32_336 v418
  let v420 : BitVec 32 := Scalar.select v415 c2_i32_337 v419
  let c4_i32_349 : BitVec 32 := 4#32
  let v433 : BitVec 32 := Scalar.muli v420 c4_i32_349
  let c0_i32_350 : BitVec 32 := 0#32
  let v434 : BitVec 32 := Scalar.addi v433 c0_i32_350
  let c1_i32_352 : BitVec 32 := 1#32
  let v435 : BitVec 32 := Scalar.muli v434 c1_i32_352
  let v436 : BitVec 32 := Scalar.addi c0_i32_353 v435
  v436.toNat
def k0_dev21 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_331 : BitVec 32 := 0#32
  let v415 : BitVec 1 := Scalar.cmpi .eq v19 c0_i32_331
  let c2_i32_337 : BitVec 32 := 2#32
  let c1_i32_332 : BitVec 32 := 1#32
  let v416 : BitVec 1 := Scalar.cmpi .eq v19 c1_i32_332
  let c2_i32_336 : BitVec 32 := 2#32
  let c2_i32_333 : BitVec 32 := 2#32
  let v417 : BitVec 1 := Scalar.cmpi .eq v19 c2_i32_333
  let c1_i32_334 : BitVec 32 := 1#32
  let c1_i32_335 : BitVec 32 := 1#32
  let v418 : BitVec 32 := Scalar.select v417 c1_i32_334 c1_i32_335
  let v419 : BitVec 32 := Scalar.select v416 c2_i32_336 v418
  let v420 : BitVec 32 := Scalar.select v415 c2_i32_337 v419
  let c4_i32_358 : BitVec 32 := 4#32
  let v445 : BitVec 32 := Scalar.muli v420 c4_i32_358
  let c1_i32_359 : BitVec 32 := 1#32
  let v446 : BitVec 32 := Scalar.addi v445 c1_i32_359
  let c1_i32_361 : BitVec 32 := 1#32
  let v447 : BitVec 32 := Scalar.muli v446 c1_i32_361
  let v448 : BitVec 32 := Scalar.addi c0_i32_362 v447
  v448.toNat
def k0_dev22 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_367 : BitVec 32 := 0#32
  let v457 : BitVec 1 := Scalar.cmpi .eq v19 c0_i32_367
  let c2_i32_373 : BitVec 32 := 2#32
  let c1_i32_368 : BitVec 32 := 1#32
  let v458 : BitVec 1 := Scalar.cmpi .eq v19 c1_i32_368
  let c2_i32_372 : BitVec 32 := 2#32
  let c2_i32_369 : BitVec 32 := 2#32
  let v459 : BitVec 1 := Scalar.cmpi .eq v19 c2_i32_369
  let c1_i32_370 : BitVec 32 := 1#32
  let c1_i32_371 : BitVec 32 := 1#32
  let v460 : BitVec 32 := Scalar.select v459 c1_i32_370 c1_i32_371
  let v461 : BitVec 32 := Scalar.select v458 c2_i32_372 v460
  let v462 : BitVec 32 := Scalar.select v457 c2_i32_373 v461
  let c4_i32_385 : BitVec 32 := 4#32
  let v475 : BitVec 32 := Scalar.muli v462 c4_i32_385
  let c2_i32_386 : BitVec 32 := 2#32
  let v476 : BitVec 32 := Scalar.addi v475 c2_i32_386
  let c1_i32_388 : BitVec 32 := 1#32
  let v477 : BitVec 32 := Scalar.muli v476 c1_i32_388
  let v478 : BitVec 32 := Scalar.addi c0_i32_389 v477
  v478.toNat
def k0_dev23 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_367 : BitVec 32 := 0#32
  let v457 : BitVec 1 := Scalar.cmpi .eq v19 c0_i32_367
  let c2_i32_373 : BitVec 32 := 2#32
  let c1_i32_368 : BitVec 32 := 1#32
  let v458 : BitVec 1 := Scalar.cmpi .eq v19 c1_i32_368
  let c2_i32_372 : BitVec 32 := 2#32
  let c2_i32_369 : BitVec 32 := 2#32
  let v459 : BitVec 1 := Scalar.cmpi .eq v19 c2_i32_369
  let c1_i32_370 : BitVec 32 := 1#32
  let c1_i32_371 : BitVec 32 := 1#32
  let v460 : BitVec 32 := Scalar.select v459 c1_i32_370 c1_i32_371
  let v461 : BitVec 32 := Scalar.select v458 c2_i32_372 v460
  let v462 : BitVec 32 := Scalar.select v457 c2_i32_373 v461
  let c4_i32_394 : BitVec 32 := 4#32
  let v487 : BitVec 32 := Scalar.muli v462 c4_i32_394
  let c3_i32_395 : BitVec 32 := 3#32
  let v488 : BitVec 32 := Scalar.addi v487 c3_i32_395
  let c1_i32_397 : BitVec 32 := 1#32
  let v489 : BitVec 32 := Scalar.muli v488 c1_i32_397
  let v490 : BitVec 32 := Scalar.addi c0_i32_398 v489
  v490.toNat
def k0_dev24 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_403 : BitVec 32 := 0#32
  let v499 : BitVec 1 := Scalar.cmpi .eq v19 c0_i32_403
  let c1_i32_409 : BitVec 32 := 1#32
  let c1_i32_404 : BitVec 32 := 1#32
  let v500 : BitVec 1 := Scalar.cmpi .eq v19 c1_i32_404
  let c0_i32_408 : BitVec 32 := 0#32
  let c2_i32_405 : BitVec 32 := 2#32
  let v501 : BitVec 1 := Scalar.cmpi .eq v19 c2_i32_405
  let c3_i32_406 : BitVec 32 := 3#32
  let c2_i32_407 : BitVec 32 := 2#32
  let v502 : BitVec 32 := Scalar.select v501 c3_i32_406 c2_i32_407
  let v503 : BitVec 32 := Scalar.select v500 c0_i32_408 v502
  let v504 : BitVec 32 := Scalar.select v499 c1_i32_409 v503
  let c4_i32_421 : BitVec 32 := 4#32
  let v517 : BitVec 32 := Scalar.muli v504 c4_i32_421
  let c0_i32_422 : BitVec 32 := 0#32
  let v518 : BitVec 32 := Scalar.addi v517 c0_i32_422
  let c1_i32_424 : BitVec 32 := 1#32
  let v519 : BitVec 32 := Scalar.muli v518 c1_i32_424
  let v520 : BitVec 32 := Scalar.addi c0_i32_425 v519
  v520.toNat
def k0_dev25 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_403 : BitVec 32 := 0#32
  let v499 : BitVec 1 := Scalar.cmpi .eq v19 c0_i32_403
  let c1_i32_409 : BitVec 32 := 1#32
  let c1_i32_404 : BitVec 32 := 1#32
  let v500 : BitVec 1 := Scalar.cmpi .eq v19 c1_i32_404
  let c0_i32_408 : BitVec 32 := 0#32
  let c2_i32_405 : BitVec 32 := 2#32
  let v501 : BitVec 1 := Scalar.cmpi .eq v19 c2_i32_405
  let c3_i32_406 : BitVec 32 := 3#32
  let c2_i32_407 : BitVec 32 := 2#32
  let v502 : BitVec 32 := Scalar.select v501 c3_i32_406 c2_i32_407
  let v503 : BitVec 32 := Scalar.select v500 c0_i32_408 v502
  let v504 : BitVec 32 := Scalar.select v499 c1_i32_409 v503
  let c4_i32_430 : BitVec 32 := 4#32
  let v529 : BitVec 32 := Scalar.muli v504 c4_i32_430
  let c1_i32_431 : BitVec 32 := 1#32
  let v530 : BitVec 32 := Scalar.addi v529 c1_i32_431
  let c1_i32_433 : BitVec 32 := 1#32
  let v531 : BitVec 32 := Scalar.muli v530 c1_i32_433
  let v532 : BitVec 32 := Scalar.addi c0_i32_434 v531
  v532.toNat
def k0_dev26 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_439 : BitVec 32 := 0#32
  let v541 : BitVec 1 := Scalar.cmpi .eq v19 c0_i32_439
  let c1_i32_445 : BitVec 32 := 1#32
  let c1_i32_440 : BitVec 32 := 1#32
  let v542 : BitVec 1 := Scalar.cmpi .eq v19 c1_i32_440
  let c0_i32_444 : BitVec 32 := 0#32
  let c2_i32_441 : BitVec 32 := 2#32
  let v543 : BitVec 1 := Scalar.cmpi .eq v19 c2_i32_441
  let c3_i32_442 : BitVec 32 := 3#32
  let c2_i32_443 : BitVec 32 := 2#32
  let v544 : BitVec 32 := Scalar.select v543 c3_i32_442 c2_i32_443
  let v545 : BitVec 32 := Scalar.select v542 c0_i32_444 v544
  let v546 : BitVec 32 := Scalar.select v541 c1_i32_445 v545
  let c4_i32_457 : BitVec 32 := 4#32
  let v559 : BitVec 32 := Scalar.muli v546 c4_i32_457
  let c2_i32_458 : BitVec 32 := 2#32
  let v560 : BitVec 32 := Scalar.addi v559 c2_i32_458
  let c1_i32_460 : BitVec 32 := 1#32
  let v561 : BitVec 32 := Scalar.muli v560 c1_i32_460
  let v562 : BitVec 32 := Scalar.addi c0_i32_461 v561
  v562.toNat
def k0_dev27 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_439 : BitVec 32 := 0#32
  let v541 : BitVec 1 := Scalar.cmpi .eq v19 c0_i32_439
  let c1_i32_445 : BitVec 32 := 1#32
  let c1_i32_440 : BitVec 32 := 1#32
  let v542 : BitVec 1 := Scalar.cmpi .eq v19 c1_i32_440
  let c0_i32_444 : BitVec 32 := 0#32
  let c2_i32_441 : BitVec 32 := 2#32
  let v543 : BitVec 1 := Scalar.cmpi .eq v19 c2_i32_441
  let c3_i32_442 : BitVec 32 := 3#32
  let c2_i32_443 : BitVec 32 := 2#32
  let v544 : BitVec 32 := Scalar.select v543 c3_i32_442 c2_i32_443
  let v545 : BitVec 32 := Scalar.select v542 c0_i32_444 v544
  let v546 : BitVec 32 := Scalar.select v541 c1_i32_445 v545
  let c4_i32_466 : BitVec 32 := 4#32
  let v571 : BitVec 32 := Scalar.muli v546 c4_i32_466
  let c3_i32_467 : BitVec 32 := 3#32
  let v572 : BitVec 32 := Scalar.addi v571 c3_i32_467
  let c1_i32_469 : BitVec 32 := 1#32
  let v573 : BitVec 32 := Scalar.muli v572 c1_i32_469
  let v574 : BitVec 32 := Scalar.addi c0_i32_470 v573
  v574.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_495 : BitVec 32 := 0#32
  let v603 : BitVec 1 := Scalar.cmpi .eq v29 c0_i32_495
  let v604 : BitVec 32 := Scalar.extui v603
  let c0_i32_496 : BitVec 32 := 0#32
  let v605 : BitVec 1 := Scalar.cmpi .ne v604 c0_i32_496
  v605

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_767 : BitVec 32 := 128#32
  let v972 : BitVec 32 := Scalar.muli v2 c128_i32_767
  let v973 : Index := Scalar.indexCast v972
  let c0_768 : Index := 0#32
  ![v973.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_497 : BitVec 32 := 0#32
  let v606 : BitVec 1 := Scalar.cmpi .ne v29 c0_i32_497
  let v607 : BitVec 32 := Scalar.extui v606
  let c0_i32_498 : BitVec 32 := 0#32
  let v608 : BitVec 1 := Scalar.cmpi .ne v607 c0_i32_498
  v608

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_475 : BitVec 32 := 0#32
  let v583 : BitVec 1 := Scalar.cmpi .eq v19 c0_i32_475
  let c0_i32_481 : BitVec 32 := 0#32
  let c1_i32_476 : BitVec 32 := 1#32
  let v584 : BitVec 1 := Scalar.cmpi .eq v19 c1_i32_476
  let c1_i32_480 : BitVec 32 := 1#32
  let c2_i32_477 : BitVec 32 := 2#32
  let v585 : BitVec 1 := Scalar.cmpi .eq v19 c2_i32_477
  let c2_i32_478 : BitVec 32 := 2#32
  let c3_i32_479 : BitVec 32 := 3#32
  let v586 : BitVec 32 := Scalar.select v585 c2_i32_478 c3_i32_479
  let v587 : BitVec 32 := Scalar.select v584 c1_i32_480 v586
  let v588 : BitVec 32 := Scalar.select v583 c0_i32_481 v587
  let c4_i32_493 : BitVec 32 := 4#32
  let v601 : BitVec 32 := Scalar.muli v588 c4_i32_493
  let c0_i32_494 : BitVec 32 := 0#32
  let v602 : BitVec 32 := Scalar.addi v601 c0_i32_494
  ![v602.toNat]
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_770 : BitVec 32 := 0#32
  let c0_i32_771 : BitVec 32 := 0#32
  ![v2.toNat, 0, 0]
def k0_dev28 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_475 : BitVec 32 := 0#32
  let v583 : BitVec 1 := Scalar.cmpi .eq v19 c0_i32_475
  let c0_i32_481 : BitVec 32 := 0#32
  let c1_i32_476 : BitVec 32 := 1#32
  let v584 : BitVec 1 := Scalar.cmpi .eq v19 c1_i32_476
  let c1_i32_480 : BitVec 32 := 1#32
  let c2_i32_477 : BitVec 32 := 2#32
  let v585 : BitVec 1 := Scalar.cmpi .eq v19 c2_i32_477
  let c2_i32_478 : BitVec 32 := 2#32
  let c3_i32_479 : BitVec 32 := 3#32
  let v586 : BitVec 32 := Scalar.select v585 c2_i32_478 c3_i32_479
  let v587 : BitVec 32 := Scalar.select v584 c1_i32_480 v586
  let v588 : BitVec 32 := Scalar.select v583 c0_i32_481 v587
  let c4_i32_493 : BitVec 32 := 4#32
  let v601 : BitVec 32 := Scalar.muli v588 c4_i32_493
  let c0_i32_494 : BitVec 32 := 0#32
  let v602 : BitVec 32 := Scalar.addi v601 c0_i32_494
  let c1_i32_768 : BitVec 32 := 1#32
  let v971 : BitVec 32 := Scalar.muli v602 c1_i32_768
  let v972 : BitVec 32 := Scalar.addi c0_i32_769 v971
  v972.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_501 : BitVec 32 := 1#32
  let v611 : BitVec 1 := Scalar.cmpi .eq v29 c1_i32_501
  let v612 : BitVec 32 := Scalar.extui v611
  let c0_i32_502 : BitVec 32 := 0#32
  let v613 : BitVec 1 := Scalar.cmpi .ne v612 c0_i32_502
  v613

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_767 : BitVec 32 := 128#32
  let v972 : BitVec 32 := Scalar.muli v2 c128_i32_767
  let v973 : Index := Scalar.indexCast v972
  let c0_768 : Index := 0#32
  ![v973.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_503 : BitVec 32 := 1#32
  let v614 : BitVec 1 := Scalar.cmpi .ne v29 c1_i32_503
  let v615 : BitVec 32 := Scalar.extui v614
  let c0_i32_504 : BitVec 32 := 0#32
  let v616 : BitVec 1 := Scalar.cmpi .ne v615 c0_i32_504
  v616

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_475 : BitVec 32 := 0#32
  let v583 : BitVec 1 := Scalar.cmpi .eq v19 c0_i32_475
  let c0_i32_481 : BitVec 32 := 0#32
  let c1_i32_476 : BitVec 32 := 1#32
  let v584 : BitVec 1 := Scalar.cmpi .eq v19 c1_i32_476
  let c1_i32_480 : BitVec 32 := 1#32
  let c2_i32_477 : BitVec 32 := 2#32
  let v585 : BitVec 1 := Scalar.cmpi .eq v19 c2_i32_477
  let c2_i32_478 : BitVec 32 := 2#32
  let c3_i32_479 : BitVec 32 := 3#32
  let v586 : BitVec 32 := Scalar.select v585 c2_i32_478 c3_i32_479
  let v587 : BitVec 32 := Scalar.select v584 c1_i32_480 v586
  let v588 : BitVec 32 := Scalar.select v583 c0_i32_481 v587
  let c4_i32_499 : BitVec 32 := 4#32
  let v609 : BitVec 32 := Scalar.muli v588 c4_i32_499
  let c1_i32_500 : BitVec 32 := 1#32
  let v610 : BitVec 32 := Scalar.addi v609 c1_i32_500
  ![v610.toNat]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_770 : BitVec 32 := 0#32
  let c0_i32_771 : BitVec 32 := 0#32
  ![v2.toNat, 0, 0]
def k0_dev29 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_475 : BitVec 32 := 0#32
  let v583 : BitVec 1 := Scalar.cmpi .eq v19 c0_i32_475
  let c0_i32_481 : BitVec 32 := 0#32
  let c1_i32_476 : BitVec 32 := 1#32
  let v584 : BitVec 1 := Scalar.cmpi .eq v19 c1_i32_476
  let c1_i32_480 : BitVec 32 := 1#32
  let c2_i32_477 : BitVec 32 := 2#32
  let v585 : BitVec 1 := Scalar.cmpi .eq v19 c2_i32_477
  let c2_i32_478 : BitVec 32 := 2#32
  let c3_i32_479 : BitVec 32 := 3#32
  let v586 : BitVec 32 := Scalar.select v585 c2_i32_478 c3_i32_479
  let v587 : BitVec 32 := Scalar.select v584 c1_i32_480 v586
  let v588 : BitVec 32 := Scalar.select v583 c0_i32_481 v587
  let c4_i32_499 : BitVec 32 := 4#32
  let v609 : BitVec 32 := Scalar.muli v588 c4_i32_499
  let c1_i32_500 : BitVec 32 := 1#32
  let v610 : BitVec 32 := Scalar.addi v609 c1_i32_500
  let c1_i32_768 : BitVec 32 := 1#32
  let v971 : BitVec 32 := Scalar.muli v610 c1_i32_768
  let v972 : BitVec 32 := Scalar.addi c0_i32_769 v971
  v972.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_525 : BitVec 32 := 2#32
  let v637 : BitVec 1 := Scalar.cmpi .eq v29 c2_i32_525
  let v638 : BitVec 32 := Scalar.extui v637
  let c0_i32_526 : BitVec 32 := 0#32
  let v639 : BitVec 1 := Scalar.cmpi .ne v638 c0_i32_526
  v639

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_767 : BitVec 32 := 128#32
  let v972 : BitVec 32 := Scalar.muli v2 c128_i32_767
  let v973 : Index := Scalar.indexCast v972
  let c0_768 : Index := 0#32
  ![v973.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_527 : BitVec 32 := 2#32
  let v640 : BitVec 1 := Scalar.cmpi .ne v29 c2_i32_527
  let v641 : BitVec 32 := Scalar.extui v640
  let c0_i32_528 : BitVec 32 := 0#32
  let v642 : BitVec 1 := Scalar.cmpi .ne v641 c0_i32_528
  v642

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_505 : BitVec 32 := 0#32
  let v617 : BitVec 1 := Scalar.cmpi .eq v19 c0_i32_505
  let c0_i32_511 : BitVec 32 := 0#32
  let c1_i32_506 : BitVec 32 := 1#32
  let v618 : BitVec 1 := Scalar.cmpi .eq v19 c1_i32_506
  let c1_i32_510 : BitVec 32 := 1#32
  let c2_i32_507 : BitVec 32 := 2#32
  let v619 : BitVec 1 := Scalar.cmpi .eq v19 c2_i32_507
  let c2_i32_508 : BitVec 32 := 2#32
  let c3_i32_509 : BitVec 32 := 3#32
  let v620 : BitVec 32 := Scalar.select v619 c2_i32_508 c3_i32_509
  let v621 : BitVec 32 := Scalar.select v618 c1_i32_510 v620
  let v622 : BitVec 32 := Scalar.select v617 c0_i32_511 v621
  let c4_i32_523 : BitVec 32 := 4#32
  let v635 : BitVec 32 := Scalar.muli v622 c4_i32_523
  let c2_i32_524 : BitVec 32 := 2#32
  let v636 : BitVec 32 := Scalar.addi v635 c2_i32_524
  ![v636.toNat]
def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_770 : BitVec 32 := 0#32
  let c0_i32_771 : BitVec 32 := 0#32
  ![v2.toNat, 0, 0]
def k0_dev30 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_505 : BitVec 32 := 0#32
  let v617 : BitVec 1 := Scalar.cmpi .eq v19 c0_i32_505
  let c0_i32_511 : BitVec 32 := 0#32
  let c1_i32_506 : BitVec 32 := 1#32
  let v618 : BitVec 1 := Scalar.cmpi .eq v19 c1_i32_506
  let c1_i32_510 : BitVec 32 := 1#32
  let c2_i32_507 : BitVec 32 := 2#32
  let v619 : BitVec 1 := Scalar.cmpi .eq v19 c2_i32_507
  let c2_i32_508 : BitVec 32 := 2#32
  let c3_i32_509 : BitVec 32 := 3#32
  let v620 : BitVec 32 := Scalar.select v619 c2_i32_508 c3_i32_509
  let v621 : BitVec 32 := Scalar.select v618 c1_i32_510 v620
  let v622 : BitVec 32 := Scalar.select v617 c0_i32_511 v621
  let c4_i32_523 : BitVec 32 := 4#32
  let v635 : BitVec 32 := Scalar.muli v622 c4_i32_523
  let c2_i32_524 : BitVec 32 := 2#32
  let v636 : BitVec 32 := Scalar.addi v635 c2_i32_524
  let c1_i32_768 : BitVec 32 := 1#32
  let v971 : BitVec 32 := Scalar.muli v636 c1_i32_768
  let v972 : BitVec 32 := Scalar.addi c0_i32_769 v971
  v972.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_531 : BitVec 32 := 3#32
  let v645 : BitVec 1 := Scalar.cmpi .eq v29 c3_i32_531
  let v646 : BitVec 32 := Scalar.extui v645
  let c0_i32_532 : BitVec 32 := 0#32
  let v647 : BitVec 1 := Scalar.cmpi .ne v646 c0_i32_532
  v647

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_767 : BitVec 32 := 128#32
  let v972 : BitVec 32 := Scalar.muli v2 c128_i32_767
  let v973 : Index := Scalar.indexCast v972
  let c0_768 : Index := 0#32
  ![v973.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_533 : BitVec 32 := 3#32
  let v648 : BitVec 1 := Scalar.cmpi .ne v29 c3_i32_533
  let v649 : BitVec 32 := Scalar.extui v648
  let c0_i32_534 : BitVec 32 := 0#32
  let v650 : BitVec 1 := Scalar.cmpi .ne v649 c0_i32_534
  v650

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_505 : BitVec 32 := 0#32
  let v617 : BitVec 1 := Scalar.cmpi .eq v19 c0_i32_505
  let c0_i32_511 : BitVec 32 := 0#32
  let c1_i32_506 : BitVec 32 := 1#32
  let v618 : BitVec 1 := Scalar.cmpi .eq v19 c1_i32_506
  let c1_i32_510 : BitVec 32 := 1#32
  let c2_i32_507 : BitVec 32 := 2#32
  let v619 : BitVec 1 := Scalar.cmpi .eq v19 c2_i32_507
  let c2_i32_508 : BitVec 32 := 2#32
  let c3_i32_509 : BitVec 32 := 3#32
  let v620 : BitVec 32 := Scalar.select v619 c2_i32_508 c3_i32_509
  let v621 : BitVec 32 := Scalar.select v618 c1_i32_510 v620
  let v622 : BitVec 32 := Scalar.select v617 c0_i32_511 v621
  let c4_i32_529 : BitVec 32 := 4#32
  let v643 : BitVec 32 := Scalar.muli v622 c4_i32_529
  let c3_i32_530 : BitVec 32 := 3#32
  let v644 : BitVec 32 := Scalar.addi v643 c3_i32_530
  ![v644.toNat]
def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_770 : BitVec 32 := 0#32
  let c0_i32_771 : BitVec 32 := 0#32
  ![v2.toNat, 0, 0]
def k0_dev31 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_505 : BitVec 32 := 0#32
  let v617 : BitVec 1 := Scalar.cmpi .eq v19 c0_i32_505
  let c0_i32_511 : BitVec 32 := 0#32
  let c1_i32_506 : BitVec 32 := 1#32
  let v618 : BitVec 1 := Scalar.cmpi .eq v19 c1_i32_506
  let c1_i32_510 : BitVec 32 := 1#32
  let c2_i32_507 : BitVec 32 := 2#32
  let v619 : BitVec 1 := Scalar.cmpi .eq v19 c2_i32_507
  let c2_i32_508 : BitVec 32 := 2#32
  let c3_i32_509 : BitVec 32 := 3#32
  let v620 : BitVec 32 := Scalar.select v619 c2_i32_508 c3_i32_509
  let v621 : BitVec 32 := Scalar.select v618 c1_i32_510 v620
  let v622 : BitVec 32 := Scalar.select v617 c0_i32_511 v621
  let c4_i32_529 : BitVec 32 := 4#32
  let v643 : BitVec 32 := Scalar.muli v622 c4_i32_529
  let c3_i32_530 : BitVec 32 := 3#32
  let v644 : BitVec 32 := Scalar.addi v643 c3_i32_530
  let c1_i32_768 : BitVec 32 := 1#32
  let v971 : BitVec 32 := Scalar.muli v644 c1_i32_768
  let v972 : BitVec 32 := Scalar.addi c0_i32_769 v971
  v972.toNat
def k0_off21 (d0 : Dev nD) (c3_i32_541 : BitVec 32) (c3_i32_540 : BitVec 32) (c0_i32_538 : BitVec 32) (c0_i32_539 : BitVec 32) (c0_i32_543 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_535 : BitVec 32 := 0#32
  let v651 : BitVec 1 := Scalar.cmpi .eq v19 c0_i32_535
  let c1_i32_536 : BitVec 32 := 1#32
  let v652 : BitVec 1 := Scalar.cmpi .eq v19 c1_i32_536
  let c2_i32_537 : BitVec 32 := 2#32
  let v653 : BitVec 1 := Scalar.cmpi .eq v19 c2_i32_537
  let v654 : BitVec 32 := Scalar.select v653 c0_i32_538 c0_i32_539
  let v655 : BitVec 32 := Scalar.select v652 c3_i32_540 v654
  let v656 : BitVec 32 := Scalar.select v651 c3_i32_541 v655
  let c4_i32_542 : BitVec 32 := 4#32
  let v657 : BitVec 32 := Scalar.muli v656 c4_i32_542
  let v658 : BitVec 32 := Scalar.addi v657 c0_i32_543
  let c0_i32_547 : BitVec 32 := 0#32
  let c0_i32_548 : BitVec 32 := 0#32
  ![v658.toNat, 0, 0]
def k0_off21_at (r : Fin 12) : BitVec 32 × BitVec 32 × BitVec 32 × BitVec 32 × BitVec 32 :=
  if r.val < 6 then
    if r.val < 3 then
      if r.val < 1 then
        (3#32, 3#32, 0#32, 0#32, 0#32)
      else
        if r.val < 2 then
          (3#32, 3#32, 0#32, 0#32, 1#32)
        else
          (3#32, 3#32, 0#32, 0#32, 2#32)
    else
      if r.val < 4 then
        (3#32, 3#32, 0#32, 0#32, 3#32)
      else
        if r.val < 5 then
          (2#32, 2#32, 1#32, 1#32, 0#32)
        else
          (2#32, 2#32, 1#32, 1#32, 1#32)
  else
    if r.val < 9 then
      if r.val < 7 then
        (2#32, 2#32, 1#32, 1#32, 2#32)
      else
        if r.val < 8 then
          (2#32, 2#32, 1#32, 1#32, 3#32)
        else
          (1#32, 0#32, 3#32, 2#32, 0#32)
    else
      if r.val < 10 then
        (1#32, 0#32, 3#32, 2#32, 1#32)
      else
        if r.val < 11 then
          (1#32, 0#32, 3#32, 2#32, 2#32)
        else
          (1#32, 0#32, 3#32, 2#32, 3#32)
def k0_off22 (d0 : Dev nD) (c3_i32_541 : BitVec 32) (c3_i32_540 : BitVec 32) (c0_i32_538 : BitVec 32) (c0_i32_539 : BitVec 32) (c0_i32_543 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_535 : BitVec 32 := 0#32
  let v651 : BitVec 1 := Scalar.cmpi .eq v19 c0_i32_535
  let c1_i32_536 : BitVec 32 := 1#32
  let v652 : BitVec 1 := Scalar.cmpi .eq v19 c1_i32_536
  let c2_i32_537 : BitVec 32 := 2#32
  let v653 : BitVec 1 := Scalar.cmpi .eq v19 c2_i32_537
  let v654 : BitVec 32 := Scalar.select v653 c0_i32_538 c0_i32_539
  let v655 : BitVec 32 := Scalar.select v652 c3_i32_540 v654
  let v656 : BitVec 32 := Scalar.select v651 c3_i32_541 v655
  let c4_i32_542 : BitVec 32 := 4#32
  let v657 : BitVec 32 := Scalar.muli v656 c4_i32_542
  let v658 : BitVec 32 := Scalar.addi v657 c0_i32_543
  let v667 : Index := Scalar.indexCast v658
  let c0_551 : Index := 0#32
  let c0_552 : Index := 0#32
  ![v667.toNat, 0, 0]
def k0_off22_at (r : Fin 12) : BitVec 32 × BitVec 32 × BitVec 32 × BitVec 32 × BitVec 32 :=
  if r.val < 6 then
    if r.val < 3 then
      if r.val < 1 then
        (3#32, 3#32, 0#32, 0#32, 0#32)
      else
        if r.val < 2 then
          (3#32, 3#32, 0#32, 0#32, 1#32)
        else
          (3#32, 3#32, 0#32, 0#32, 2#32)
    else
      if r.val < 4 then
        (3#32, 3#32, 0#32, 0#32, 3#32)
      else
        if r.val < 5 then
          (2#32, 2#32, 1#32, 1#32, 0#32)
        else
          (2#32, 2#32, 1#32, 1#32, 1#32)
  else
    if r.val < 9 then
      if r.val < 7 then
        (2#32, 2#32, 1#32, 1#32, 2#32)
      else
        if r.val < 8 then
          (2#32, 2#32, 1#32, 1#32, 3#32)
        else
          (1#32, 0#32, 3#32, 2#32, 0#32)
    else
      if r.val < 10 then
        (1#32, 0#32, 3#32, 2#32, 1#32)
      else
        if r.val < 11 then
          (1#32, 0#32, 3#32, 2#32, 2#32)
        else
          (1#32, 0#32, 3#32, 2#32, 3#32)
def k0_off23 (d0 : Dev nD) (c3_i32_541 : BitVec 32) (c3_i32_540 : BitVec 32) (c0_i32_538 : BitVec 32) (c0_i32_539 : BitVec 32) (c0_i32_543 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_535 : BitVec 32 := 0#32
  let v651 : BitVec 1 := Scalar.cmpi .eq v19 c0_i32_535
  let c1_i32_536 : BitVec 32 := 1#32
  let v652 : BitVec 1 := Scalar.cmpi .eq v19 c1_i32_536
  let c2_i32_537 : BitVec 32 := 2#32
  let v653 : BitVec 1 := Scalar.cmpi .eq v19 c2_i32_537
  let v654 : BitVec 32 := Scalar.select v653 c0_i32_538 c0_i32_539
  let v655 : BitVec 32 := Scalar.select v652 c3_i32_540 v654
  let v656 : BitVec 32 := Scalar.select v651 c3_i32_541 v655
  let c4_i32_542 : BitVec 32 := 4#32
  let v657 : BitVec 32 := Scalar.muli v656 c4_i32_542
  let v658 : BitVec 32 := Scalar.addi v657 c0_i32_543
  let c128_i32_553 : BitVec 32 := 128#32
  let v671 : BitVec 32 := Scalar.muli v658 c128_i32_553
  let v672 : Index := Scalar.indexCast v671
  let c0_554 : Index := 0#32
  ![v672.toNat, 0]
def k0_off23_at (r : Fin 12) : BitVec 32 × BitVec 32 × BitVec 32 × BitVec 32 × BitVec 32 :=
  if r.val < 6 then
    if r.val < 3 then
      if r.val < 1 then
        (3#32, 3#32, 0#32, 0#32, 0#32)
      else
        if r.val < 2 then
          (3#32, 3#32, 0#32, 0#32, 1#32)
        else
          (3#32, 3#32, 0#32, 0#32, 2#32)
    else
      if r.val < 4 then
        (3#32, 3#32, 0#32, 0#32, 3#32)
      else
        if r.val < 5 then
          (2#32, 2#32, 1#32, 1#32, 0#32)
        else
          (2#32, 2#32, 1#32, 1#32, 1#32)
  else
    if r.val < 9 then
      if r.val < 7 then
        (2#32, 2#32, 1#32, 1#32, 2#32)
      else
        if r.val < 8 then
          (2#32, 2#32, 1#32, 1#32, 3#32)
        else
          (1#32, 0#32, 3#32, 2#32, 0#32)
    else
      if r.val < 10 then
        (1#32, 0#32, 3#32, 2#32, 1#32)
      else
        if r.val < 11 then
          (1#32, 0#32, 3#32, 2#32, 2#32)
        else
          (1#32, 0#32, 3#32, 2#32, 3#32)
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_721 : BitVec 32 := 0#32
  let v905 : BitVec 1 := Scalar.cmpi .ne v29 c0_i32_721
  let v906 : BitVec 32 := Scalar.extui v905
  let c0_i32_722 : BitVec 32 := 0#32
  let v907 : BitVec 1 := Scalar.cmpi .ne v906 c0_i32_722
  v907

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_719 : BitVec 32 := 4#32
  let v903 : BitVec 32 := Scalar.muli v902 c4_i32_719
  let c0_i32_720 : BitVec 32 := 0#32
  let v904 : BitVec 32 := Scalar.addi v903 c0_i32_720
  ![v904.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_719 : BitVec 32 := 4#32
  let v903 : BitVec 32 := Scalar.muli v902 c4_i32_719
  let c0_i32_720 : BitVec 32 := 0#32
  let v904 : BitVec 32 := Scalar.addi v903 c0_i32_720
  let c0_i32_770 : BitVec 32 := 0#32
  let c0_i32_771 : BitVec 32 := 0#32
  ![v904.toNat, 0, 0]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_719 : BitVec 32 := 4#32
  let v903 : BitVec 32 := Scalar.muli v902 c4_i32_719
  let c0_i32_720 : BitVec 32 := 0#32
  let v904 : BitVec 32 := Scalar.addi v903 c0_i32_720
  let v979 : Index := Scalar.indexCast v904
  let c0_774 : Index := 0#32
  let c0_775 : Index := 0#32
  ![v979.toNat, 0, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_719 : BitVec 32 := 4#32
  let v903 : BitVec 32 := Scalar.muli v902 c4_i32_719
  let c0_i32_720 : BitVec 32 := 0#32
  let v904 : BitVec 32 := Scalar.addi v903 c0_i32_720
  let c128_i32_776 : BitVec 32 := 128#32
  let v983 : BitVec 32 := Scalar.muli v904 c128_i32_776
  let v984 : Index := Scalar.indexCast v983
  let c0_777 : Index := 0#32
  ![v984.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_725 : BitVec 32 := 1#32
  let v910 : BitVec 1 := Scalar.cmpi .ne v29 c1_i32_725
  let v911 : BitVec 32 := Scalar.extui v910
  let c0_i32_726 : BitVec 32 := 0#32
  let v912 : BitVec 1 := Scalar.cmpi .ne v911 c0_i32_726
  v912

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_723 : BitVec 32 := 4#32
  let v908 : BitVec 32 := Scalar.muli v902 c4_i32_723
  let c1_i32_724 : BitVec 32 := 1#32
  let v909 : BitVec 32 := Scalar.addi v908 c1_i32_724
  ![v909.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_723 : BitVec 32 := 4#32
  let v908 : BitVec 32 := Scalar.muli v902 c4_i32_723
  let c1_i32_724 : BitVec 32 := 1#32
  let v909 : BitVec 32 := Scalar.addi v908 c1_i32_724
  let c0_i32_770 : BitVec 32 := 0#32
  let c0_i32_771 : BitVec 32 := 0#32
  ![v909.toNat, 0, 0]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_723 : BitVec 32 := 4#32
  let v908 : BitVec 32 := Scalar.muli v902 c4_i32_723
  let c1_i32_724 : BitVec 32 := 1#32
  let v909 : BitVec 32 := Scalar.addi v908 c1_i32_724
  let v979 : Index := Scalar.indexCast v909
  let c0_774 : Index := 0#32
  let c0_775 : Index := 0#32
  ![v979.toNat, 0, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_723 : BitVec 32 := 4#32
  let v908 : BitVec 32 := Scalar.muli v902 c4_i32_723
  let c1_i32_724 : BitVec 32 := 1#32
  let v909 : BitVec 32 := Scalar.addi v908 c1_i32_724
  let c128_i32_776 : BitVec 32 := 128#32
  let v983 : BitVec 32 := Scalar.muli v909 c128_i32_776
  let v984 : Index := Scalar.indexCast v983
  let c0_777 : Index := 0#32
  ![v984.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_729 : BitVec 32 := 2#32
  let v915 : BitVec 1 := Scalar.cmpi .ne v29 c2_i32_729
  let v916 : BitVec 32 := Scalar.extui v915
  let c0_i32_730 : BitVec 32 := 0#32
  let v917 : BitVec 1 := Scalar.cmpi .ne v916 c0_i32_730
  v917

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_727 : BitVec 32 := 4#32
  let v913 : BitVec 32 := Scalar.muli v902 c4_i32_727
  let c2_i32_728 : BitVec 32 := 2#32
  let v914 : BitVec 32 := Scalar.addi v913 c2_i32_728
  ![v914.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_727 : BitVec 32 := 4#32
  let v913 : BitVec 32 := Scalar.muli v902 c4_i32_727
  let c2_i32_728 : BitVec 32 := 2#32
  let v914 : BitVec 32 := Scalar.addi v913 c2_i32_728
  let c0_i32_770 : BitVec 32 := 0#32
  let c0_i32_771 : BitVec 32 := 0#32
  ![v914.toNat, 0, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_727 : BitVec 32 := 4#32
  let v913 : BitVec 32 := Scalar.muli v902 c4_i32_727
  let c2_i32_728 : BitVec 32 := 2#32
  let v914 : BitVec 32 := Scalar.addi v913 c2_i32_728
  let v979 : Index := Scalar.indexCast v914
  let c0_774 : Index := 0#32
  let c0_775 : Index := 0#32
  ![v979.toNat, 0, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_727 : BitVec 32 := 4#32
  let v913 : BitVec 32 := Scalar.muli v902 c4_i32_727
  let c2_i32_728 : BitVec 32 := 2#32
  let v914 : BitVec 32 := Scalar.addi v913 c2_i32_728
  let c128_i32_776 : BitVec 32 := 128#32
  let v983 : BitVec 32 := Scalar.muli v914 c128_i32_776
  let v984 : Index := Scalar.indexCast v983
  let c0_777 : Index := 0#32
  ![v984.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_733 : BitVec 32 := 3#32
  let v920 : BitVec 1 := Scalar.cmpi .ne v29 c3_i32_733
  let v921 : BitVec 32 := Scalar.extui v920
  let c0_i32_734 : BitVec 32 := 0#32
  let v922 : BitVec 1 := Scalar.cmpi .ne v921 c0_i32_734
  v922

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_731 : BitVec 32 := 4#32
  let v918 : BitVec 32 := Scalar.muli v902 c4_i32_731
  let c3_i32_732 : BitVec 32 := 3#32
  let v919 : BitVec 32 := Scalar.addi v918 c3_i32_732
  ![v919.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_731 : BitVec 32 := 4#32
  let v918 : BitVec 32 := Scalar.muli v902 c4_i32_731
  let c3_i32_732 : BitVec 32 := 3#32
  let v919 : BitVec 32 := Scalar.addi v918 c3_i32_732
  let c0_i32_770 : BitVec 32 := 0#32
  let c0_i32_771 : BitVec 32 := 0#32
  ![v919.toNat, 0, 0]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_731 : BitVec 32 := 4#32
  let v918 : BitVec 32 := Scalar.muli v902 c4_i32_731
  let c3_i32_732 : BitVec 32 := 3#32
  let v919 : BitVec 32 := Scalar.addi v918 c3_i32_732
  let v979 : Index := Scalar.indexCast v919
  let c0_774 : Index := 0#32
  let c0_775 : Index := 0#32
  ![v979.toNat, 0, 0]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_712 : BitVec 32 := 0#32
  let v897 : BitVec 1 := Scalar.cmpi .eq v19 c0_i32_712
  let c0_i32_718 : BitVec 32 := 0#32
  let c1_i32_713 : BitVec 32 := 1#32
  let v898 : BitVec 1 := Scalar.cmpi .eq v19 c1_i32_713
  let c1_i32_717 : BitVec 32 := 1#32
  let c2_i32_714 : BitVec 32 := 2#32
  let v899 : BitVec 1 := Scalar.cmpi .eq v19 c2_i32_714
  let c2_i32_715 : BitVec 32 := 2#32
  let c3_i32_716 : BitVec 32 := 3#32
  let v900 : BitVec 32 := Scalar.select v899 c2_i32_715 c3_i32_716
  let v901 : BitVec 32 := Scalar.select v898 c1_i32_717 v900
  let v902 : BitVec 32 := Scalar.select v897 c0_i32_718 v901
  let c4_i32_731 : BitVec 32 := 4#32
  let v918 : BitVec 32 := Scalar.muli v902 c4_i32_731
  let c3_i32_732 : BitVec 32 := 3#32
  let v919 : BitVec 32 := Scalar.addi v918 c3_i32_732
  let c128_i32_776 : BitVec 32 := 128#32
  let v983 : BitVec 32 := Scalar.muli v919 c128_i32_776
  let v984 : Index := Scalar.indexCast v983
  let c0_777 : Index := 0#32
  ![v984.toNat, 0]
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Places.lean ====
/-
  The places of the all-to-all: which device each of a device's sixteen 128-column blocks is for, and what the printed
  offsets, addresses and conditions of the kernel are in those terms.
-/
module

public import proofs.«01_k».proof.Proof.Gen.KernelIdeal.Points

@[expose] public section

set_option maxRecDepth 16384

noncomputable section

namespace Cert.Proof

open Cert.KernelIdeal Cert.KernelIdeal.Gen
open Idealize.ShloMosaic Idealize.ShloMosaic.TcCoe

/-- Groups are of four devices, and blocks too. -/
theorem quarter_lt (c : Fin 16) : c.val / 4 < 4 := by omega

/-- The order in which a device of group `g` serves the four groups: its own group last. -/
def plane : Fin 4 → Fin 4 → Fin 4 :=
  ![![3, 2, 1, 0], ![3, 2, 0, 1], ![0, 1, 3, 2], ![0, 1, 2, 3]]

/-- The device that device `c`'s `p`-th block is for: the `p / 4`-th group it serves, lane `p % 4`. -/
def tgt (c : Fin 16) (p : Fin 16) : Fin 16 :=
  ⟨4 * (plane ⟨c.val / 4, quarter_lt c⟩ ⟨p.val / 4, quarter_lt p⟩).val + p.val % 4, by
    have := (plane ⟨c.val / 4, quarter_lt c⟩ ⟨p.val / 4, quarter_lt p⟩).isLt; omega⟩

/-- Where in its order device `c` serves device `d`. -/
def pos (c d : Fin 16) : Fin 16 :=
  ⟨4 * ((![![3, 2, 1, 0], ![2, 3, 1, 0], ![0, 1, 3, 2], ![0, 1, 2, 3]] : Fin 4 → Fin 4 → Fin 4)
      ⟨c.val / 4, quarter_lt c⟩ ⟨d.val / 4, quarter_lt d⟩).val + d.val % 4, by
    have := ((![![3, 2, 1, 0], ![2, 3, 1, 0], ![0, 1, 3, 2], ![0, 1, 2, 3]] : Fin 4 → Fin 4 → Fin 4)
      ⟨c.val / 4, quarter_lt c⟩ ⟨d.val / 4, quarter_lt d⟩).isLt; omega⟩

/-- The block at the place of device `d` is for `d`; -/
theorem tgt_pos : ∀ c d : Dev nD, tgt c (pos c d) = d := by decide +kernel
/-- the place of the device a block is for is the block's. -/
theorem pos_tgt : ∀ (c : Dev nD) (p : Fin 16), pos c (tgt c p) = p := by decide +kernel

/-- The blocks of a device and the devices, one to one. -/
def tgtEquiv (c : Dev nD) : Fin 16 ≃ Dev nD := ⟨tgt c, pos c, pos_tgt c, tgt_pos c⟩

/-- Only the last group's blocks can be a device's own. -/
theorem tgt_ne : ∀ (c : Dev nD) (p : Fin 16), p.val < 12 → tgt c p ≠ c := by decide +kernel

/-- The barrier's `s`-th signal goes `s` devices on. -/
def on (c : Dev nD) (s : Fin 16) : Dev nD := ⟨(c.val + s.val) % 16, Nat.mod_lt _ (by decide)⟩

/-! ### The printed addresses -/

/-- The barrier's printed addresses. -/
theorem dev_bar : ∀ c : Dev nD, (![k0_dev1 c, k0_dev2 c, k0_dev3 c, k0_dev4 c, k0_dev5 c, k0_dev6 c, k0_dev7 c, k0_dev8 c,
    k0_dev9 c, k0_dev10 c, k0_dev11 c, k0_dev12 c, k0_dev13 c, k0_dev14 c, k0_dev15 c] : Fin 15 → ℕ)
      = fun s => (on c s.succ).val := by decide +kernel

/-- The printed addresses of the twelve blocks for other groups. -/
theorem dev_send : ∀ c : Dev nD, (![k0_dev16 c, k0_dev17 c, k0_dev18 c, k0_dev19 c, k0_dev20 c, k0_dev21 c, k0_dev22 c,
    k0_dev23 c, k0_dev24 c, k0_dev25 c, k0_dev26 c, k0_dev27 c, k0_dev28 c, k0_dev29 c, k0_dev30 c, k0_dev31 c] : Fin 16 → ℕ)
      = fun p => (tgt c p).val := by decide +kernel

/-! ### The printed offsets -/

/-- The column of the weights at which the `cc`-th pair of blocks starts. -/
theorem off1_eq : ∀ (c : Dev nD) (r : Fin 8), k0_off1 c (k0_off1_at r).1 (k0_off1_at r).2.1 (k0_off1_at r).2.2.1
    (k0_off1_at r).2.2.2.1 (k0_off1_at r).2.2.2.2 = ![0, 128 * (tgt c ⟨2 * r.val, by omega⟩).val] := by decide +kernel

/-- The printed index of the semaphore for one of the first twelve blocks is its device; -/
theorem off2_eq : ∀ (c : Dev nD) (r : Fin 12), k0_off2 c (k0_off2_at r).1 (k0_off2_at r).2.1 (k0_off2_at r).2.2.1
    (k0_off2_at r).2.2.2.1 (k0_off2_at r).2.2.2.2 = ![(tgt c ⟨r.val, by omega⟩).val] := by decide +kernel

/-- so is the printed slot that is awaited, -/
theorem off21_eq : ∀ (c : Dev nD) (r : Fin 12), k0_off21 c (k0_off21_at r).1 (k0_off21_at r).2.1 (k0_off21_at r).2.2.1
    (k0_off21_at r).2.2.2.1 (k0_off21_at r).2.2.2.2 = ![(tgt c ⟨r.val, by omega⟩).val, 0, 0] := by decide +kernel

/-- that which is read, -/
theorem off22_eq : ∀ (c : Dev nD) (r : Fin 12), k0_off22 c (k0_off22_at r).1 (k0_off22_at r).2.1 (k0_off22_at r).2.2.1
    (k0_off22_at r).2.2.2.1 (k0_off22_at r).2.2.2.2 = ![(tgt c ⟨r.val, by omega⟩).val, 0, 0] := by decide +kernel

/-- and the printed rows that are stored. -/
theorem off23_eq : ∀ (c : Dev nD) (r : Fin 12), k0_off23 c (k0_off23_at r).1 (k0_off23_at r).2.1 (k0_off23_at r).2.2.1
    (k0_off23_at r).2.2.2.1 (k0_off23_at r).2.2.2.2 = ![128 * (tgt c ⟨r.val, by omega⟩).val, 0] := by decide +kernel

/-! ### The blocks of a device's own group

Block `12 + b` is the device's own when `b` is its lane: then it is stored, else sent; and awaited. -/

/-- A last block is kept where it is the device's own, -/
theorem cond_own : ∀ c : Dev nD, (![k0_cond1 c, k0_cond3 c, k0_cond5 c, k0_cond7 c] : Fin 4 → BitVec 1)
    = fun b => if tgt c ⟨12 + b.val, by omega⟩ = c then 1#1 else 0#1 := by decide +kernel
/-- sent where it is not, -/
theorem cond_send : ∀ c : Dev nD, (![k0_cond2 c, k0_cond4 c, k0_cond6 c, k0_cond8 c] : Fin 4 → BitVec 1)
    = fun b => if tgt c ⟨12 + b.val, by omega⟩ = c then 0#1 else 1#1 := by decide +kernel
/-- and awaited where it is not. -/
theorem cond_recv : ∀ c : Dev nD, (![k0_cond9 c, k0_cond10 c, k0_cond11 c, k0_cond12 c] : Fin 4 → BitVec 1)
    = fun b => if tgt c ⟨12 + b.val, by omega⟩ = c then 0#1 else 1#1 := by decide +kernel

/-- The rows of the result at which a device's own block goes. -/
theorem off_own : ∀ c : Dev nD, (![k0_off5 c, k0_off9 c, k0_off13 c, k0_off17 c] : Fin 4 → Fin 2 → ℕ)
    = fun _ => ![128 * c.val, 0] := by decide +kernel

/-- Where a device's block goes on any other device: its own slot, under its own receive semaphore. -/
theorem off3_eq : ∀ c : Dev nD, k0_off3 c = ![c.val] := by decide +kernel
/-- The printed slot that a device writes on the others is its own number. -/
theorem off4_eq : ∀ c : Dev nD, k0_off4 c = ![c.val, 0, 0] := by decide +kernel

/-- The printed index of a last block's sending semaphore. -/
theorem off_sendsem : ∀ c : Dev nD, (![k0_off6 c, k0_off10 c, k0_off14 c, k0_off18 c] : Fin 4 → Fin 1 → ℕ)
    = fun b => ![(tgt c ⟨12 + b.val, by omega⟩).val] := by decide +kernel
/-- The printed index of its receiving semaphore, on the device it is for. -/
theorem off_recvsem : ∀ c : Dev nD, (![k0_off7 c, k0_off11 c, k0_off15 c, k0_off19 c] : Fin 4 → Fin 1 → ℕ)
    = fun _ => ![c.val] := by decide +kernel
/-- The printed slot it is sent to. -/
theorem off_slot : ∀ c : Dev nD, (![k0_off8 c, k0_off12 c, k0_off16 c, k0_off20 c] : Fin 4 → Fin 3 → ℕ)
    = fun _ => ![c.val, 0, 0] := by decide +kernel
/-- The printed index of the semaphore on which a last block is awaited, -/
theorem off_waitsem : ∀ c : Dev nD, (![k0_off24 c, k0_off28 c, k0_off32 c, k0_off36 c] : Fin 4 → Fin 1 → ℕ)
    = fun b => ![(tgt c ⟨12 + b.val, by omega⟩).val] := by decide +kernel
/-- the printed slot that is awaited, -/
theorem off_waitslot : ∀ c : Dev nD, (![k0_off25 c, k0_off29 c, k0_off33 c, k0_off37 c] : Fin 4 → Fin 3 → ℕ)
    = fun b => ![(tgt c ⟨12 + b.val, by omega⟩).val, 0, 0] := by decide +kernel
/-- that which is read, -/
theorem off_loadslot : ∀ c : Dev nD, (![k0_off26 c, k0_off30 c, k0_off34 c, k0_off38 c] : Fin 4 → Fin 3 → ℕ)
    = fun b => ![(tgt c ⟨12 + b.val, by omega⟩).val, 0, 0] := by decide +kernel
/-- and the printed rows that are stored. -/
theorem off_rows : ∀ c : Dev nD, (![k0_off27 c, k0_off31 c, k0_off35 c, k0_off39 c] : Fin 4 → Fin 2 → ℕ)
    = fun b => ![128 * (tgt c ⟨12 + b.val, by omega⟩).val, 0] := by decide +kernel

/-- The number the kernel computes for its device from its address. -/
theorem number_eq : ∀ c : Dev nD, Scalar.remsi (Scalar.divsi (Dev.word c) 1#32) 16#32 = BitVec.ofNat 32 c.val := by decide +kernel

/-- The test before the `d`-th last wait: that the device is not `d`. -/
theorem cond_wait : ∀ c d : Fin 16,
    Scalar.cmpi .ne (Scalar.extui (Scalar.cmpi .ne (BitVec.ofNat 32 c.val) (BitVec.ofNat 32 d.val)) : BitVec 32) 0#32
      = if d = c then 0#1 else 1#1 := by decide +kernel

end Cert.Proof

end
-- ==== Proof.Cells.lean ====
/-
  The kernel's memory as it uses it — slots, slabs and blocks of its scratch buffers —, what each holds when it is
  passed on, and the schedule: which transfer or signal pays which semaphore, and what comes with it.
-/
module

public import proofs.«01_k».proof.Proof.Places
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's ghost state and the kernel's own, whose duties are named by the device that pays them. -/
abbrev UB : Type := URounds (GSem nD τ sig) (Fin 16)
/-- The ghost state: the launch's own, and the rounds of the semaphores. -/
abbrev UU : Type := UR sig nD τ × UB

local notation "𝕄" => MT nD τ sig Unit (Elt F) ℕ UU ℕ

/-- Where the launch's part of it lies, -/
abbrev EP : Emb (UR sig nD τ) (MT nD τ sig Unit (Elt F) ℕ UU ℕ) := embL
/-- and where the rounds'. -/
abbrev ER : Emb UB (MT nD τ sig Unit (Elt F) ℕ UU ℕ) := embR

/-! ## The memrefs -/

abbrev aM : Memref sig .tc .hbm S128x2048 .f32 := Memref.whole main_arg0
abbrev bM : Memref sig .tc .hbm S2048x2048 .f32 := Memref.whole main_arg1
abbrev outM : Memref sig .tc .hbm S2048x128 .f32 := Memref.whole main_v1
abbrev xM : Memref sig .tc .vmem S128x2048 .f32 := Memref.whole cc0_scratch0
abbrev wM : Memref sig .tc .vmem S8x2048x256 .f32 := Memref.whole cc0_scratch1
abbrev yM : Memref sig .tc .vmem S8x128x256 .bf16 := Memref.whole cc0_scratch2
abbrev rM : Memref sig .tc .vmem S16x128x128 .bf16 := Memref.whole cc0_scratch3
abbrev oM : Memref sig .tc .vmem S2048x128 .f32 := Memref.whole cc0_scratch4

/-- A received block lies within its buffer. -/
theorem slot_inb (j : Fin 16) : ∀ a, (![j.val, 0, 0] : Fin 3 → ℕ) a + S1x128x128.size a ≤ S16x128x128.size a := by
  revert j; decide
/-- A block that is made lies within its buffer. -/
theorem sub_inb (p : Fin 16) : ∀ a, (![p.val / 2, 0, 128 * (p.val % 2)] : Fin 3 → ℕ) a + S1x128x128.size a ≤ S8x128x256.size a := by
  revert p; decide
/-- A stored pair of blocks lies within its buffer. -/
theorem slab_inb (k : Fin 8) : ∀ a, (![k.val, 0, 0] : Fin 3 → ℕ) a + S1x128x256.size a ≤ S8x128x256.size a := by
  revert k; decide
/-- A slot for weights lies within its buffer. -/
theorem wslot_inb (k : Fin 8) : ∀ a, (![k.val, 0, 0] : Fin 3 → ℕ) a + S1x2048x256.size a ≤ S8x2048x256.size a := by
  revert k; decide
/-- A block of rows lies within the result. -/
theorem rows_inb (j : Fin 16) : ∀ a, (![128 * j.val, 0] : Fin 2 → ℕ) a + S128x128.size a ≤ S2048x128.size a := by
  revert j; decide

/-- The first block of the `k`-th pair. -/
def fst (k : Fin 8) : Fin 16 := ⟨2 * k.val, by omega⟩
/-- The second block of the `k`-th pair. -/
def snd (k : Fin 8) : Fin 16 := ⟨2 * k.val + 1, by omega⟩
/-- The pair of a block. -/
def half (p : Fin 16) : Fin 8 := ⟨p.val / 2, by omega⟩

/-- The columns of a pair lie within the weights. -/
theorem cols_inb : ∀ (c : Fin 16) (k : Fin 8), ∀ a, (![0, 128 * (tgt c (fst k)).val] : Fin 2 → ℕ) a + S2048x256.size a ≤ S2048x2048.size a := by
  decide +kernel

/-- The slot in which a device receives device `j`'s block. -/
abbrev rSlot (j : Fin 16) : Memref sig .tc .vmem S128x128 .bf16 :=
  (rM.slice (Rect.unit (s := S16x128x128) ![j.val, 0, 0] S1x128x128.size (slot_inb j)) (fun _ => rfl)).squeeze S128x128 squeezes_S1x128x128_S128x128
/-- The `p`-th block a device makes. -/
abbrev ySub (p : Fin 16) : Memref sig .tc .vmem S128x128 .bf16 :=
  (yM.slice (Rect.unit (s := S8x128x256) ![p.val / 2, 0, 128 * (p.val % 2)] S1x128x128.size (sub_inb p)) (fun _ => rfl)).squeeze S128x128 squeezes_S1x128x128_S128x128
/-- The `k`-th pair of blocks a device makes, as it stores it. -/
abbrev yRect (k : Fin 8) : Rect S8x128x256 := Rect.unit (s := S8x128x256) ![k.val, 0, 0] S1x128x256.size (slab_inb k)
/-- The columns of the weights for the `k`-th pair of blocks, and the slot for them. -/
abbrev wSrc (c : Fin 16) (k : Fin 8) : Memref sig .tc .hbm S2048x256 .f32 :=
  bM.slice (Rect.unit (s := S2048x2048) ![0, 128 * (tgt c (fst k)).val] S2048x256.size (cols_inb c k)) (fun _ => rfl)
abbrev wRect (k : Fin 8) : Rect S8x2048x256 := Rect.unit (s := S8x2048x256) ![k.val, 0, 0] S1x2048x256.size (wslot_inb k)
abbrev wSlot (k : Fin 8) : Memref sig .tc .vmem S2048x256 .f32 :=
  (wM.slice (wRect k) (fun _ => rfl)).squeeze S2048x256 squeezes_S1x2048x256_S2048x256
/-- The rows of the result made from device `j`'s rows of `x`. -/
abbrev oRect (j : Fin 16) : Rect S2048x128 := Rect.unit (s := S2048x128) ![128 * j.val, 0] S128x128.size (rows_inb j)
abbrev oBlk (j : Fin 16) : Memref sig .tc .vmem S128x128 .f32 := oM.slice (oRect j) (fun _ => rfl)
/-- The same rows where the result is returned. -/
abbrev resBlk (j : Fin 16) : Memref sig .tc .hbm S128x128 .f32 := outM.slice (oRect j) (fun _ => rfl)

/-! ## The semaphores -/

/-- What a semaphore is for: the copies in, the copy out, the blocks sent and received, the barrier. -/
inductive Role
  | x | w (k : Fin 8) | o | send (d : Fin 16) | recv (j : Fin 16) | bar

def role : SemLoc sig → Role
  | .reg _ => .bar
  | .dma s => if s.val = 0 then .x else if h : s.val - 1 < 8 then .w ⟨s.val - 1, h⟩ else if s.val = 9 then .o
      else if h : s.val - 10 < 16 then .send ⟨s.val - 10, h⟩ else .recv ⟨(s.val - 26) % 16, Nat.mod_lt _ (by decide)⟩

abbrev barS : Sem sig := (SemArray.scalar (sig.barrier 0 rfl) : Sems sig S_).sem
abbrev xS : DmaSem sig := (⟨0, by decide⟩ : Fin 42)
abbrev wS (k : Fin 8) : DmaSem sig := (⟨1 + k.val, by omega⟩ : Fin 42)
abbrev oS : DmaSem sig := (⟨9, by decide⟩ : Fin 42)
abbrev sendS (d : Fin 16) : DmaSem sig := (⟨10 + d.val, by omega⟩ : Fin 42)
abbrev recvS (j : Fin 16) : DmaSem sig := (⟨26 + j.val, by omega⟩ : Fin 42)

/-- The first transfer semaphore is for the copy of `x`. -/
theorem role_x : role (.dma xS) = .x := rfl
/-- The tenth is for the copy of the result. -/
theorem role_o : role (.dma oS) = .o := rfl
/-- The barrier has its own role. -/
theorem role_bar : role (.reg barS) = .bar := rfl
/-- Each of the next eight is for a copy of weights. -/
theorem role_w (k : Fin 8) : role (.dma (wS k)) = .w k := by fin_cases k <;> rfl
/-- Sixteen are for the blocks sent, -/
theorem role_send (d : Fin 16) : role (.dma (sendS d)) = .send d := by fin_cases d <;> rfl
/-- and sixteen for the blocks received. -/
theorem role_recv (j : Fin 16) : role (.dma (recvS j)) = .recv j := by fin_cases j <;> rfl

/-- The semaphore of `x`, as the kernel names it; -/
theorem sem_x : (cc0_scratch5 : DmaSems sig S_).sem = xS := rfl
/-- that of the result. -/
theorem sem_o : (cc0_scratch7 : DmaSems sig S_).sem = oS := rfl

/-- An index of the eight semaphores lies within them. -/
theorem sem8_inb (k : Fin 8) : ∀ a, (![k.val] : Fin 1 → ℕ) a + S1.size a ≤ S8.size a := by revert k; decide
/-- An index of the sixteen semaphores lies within them. -/
theorem sem16_inb (d : Fin 16) : ∀ a, (![d.val] : Fin 1 → ℕ) a + S1.size a ≤ S16.size a := by revert d; decide
/-- The `k`-th of the weights' semaphores. -/
theorem sem_w' : ∀ k : Fin 8, (((cc0_scratch6 : DmaSems sig S8).slice (Rect.unit (s := S8) ![k.val] S1.size (sem8_inb k))).squeeze S_ squeezes_S1_S_).sem = wS k := by
  decide +kernel
/-- The `d`-th of the sending semaphores. -/
theorem sem_send' : ∀ d : Fin 16, (((cc0_scratch8 : DmaSems sig S16).slice (Rect.unit (s := S16) ![d.val] S1.size (sem16_inb d))).squeeze S_ squeezes_S1_S_).sem = sendS d := by
  decide +kernel
/-- The `d`-th of the receiving semaphores. -/
theorem sem_recv' : ∀ d : Fin 16, (((cc0_scratch9 : DmaSems sig S16).slice (Rect.unit (s := S16) ![d.val] S1.size (sem16_inb d))).squeeze S_ squeezes_S1_S_).sem = recvS d := by
  decide +kernel

/-- A semaphore of a printed array, by its place in it. -/
theorem sem_w (off : Fin 1 → ℕ) (k : Fin 8) (h : off = ![k.val]) (inb : ∀ a, off a + S1.size a ≤ S8.size a) :
    (((cc0_scratch6 : DmaSems sig S8).slice (Rect.unit (s := S8) off S1.size inb)).squeeze S_ squeezes_S1_S_).sem = wS k := by
  subst h; exact sem_w' k
/-- The sending semaphore at a printed offset that is `d`. -/
theorem sem_send (off : Fin 1 → ℕ) (d : Fin 16) (h : off = ![d.val]) (inb : ∀ a, off a + S1.size a ≤ S16.size a) :
    (((cc0_scratch8 : DmaSems sig S16).slice (Rect.unit (s := S16) off S1.size inb)).squeeze S_ squeezes_S1_S_).sem = sendS d := by
  subst h; exact sem_send' d
/-- The receiving semaphore at a printed offset that is `d`. -/
theorem sem_recv (off : Fin 1 → ℕ) (d : Fin 16) (h : off = ![d.val]) (inb : ∀ a, off a + S1.size a ≤ S16.size a) :
    (((cc0_scratch9 : DmaSems sig S16).slice (Rect.unit (s := S16) off S1.size inb)).squeeze S_ squeezes_S1_S_).sem = recvS d := by
  subst h; exact sem_recv' d

/-- The printed slots, slabs and blocks, by their place. -/
theorem rSlot_of (off : Fin 3 → ℕ) (j : Fin 16) (h : off = ![j.val, 0, 0]) (inb : ∀ a, off a + S1x128x128.size a ≤ S16x128x128.size a) :
    (rM.slice (Rect.unit (s := S16x128x128) off S1x128x128.size inb) (fun _ => rfl)).squeeze S128x128 squeezes_S1x128x128_S128x128 = rSlot j := by
  subst h; rfl
/-- The block at a printed offset that is that of the `p`-th. -/
theorem ySub_of (off : Fin 3 → ℕ) (p : Fin 16) (h : off = ![p.val / 2, 0, 128 * (p.val % 2)]) (inb : ∀ a, off a + S1x128x128.size a ≤ S8x128x256.size a) :
    (yM.slice (Rect.unit (s := S8x128x256) off S1x128x128.size inb) (fun _ => rfl)).squeeze S128x128 squeezes_S1x128x128_S128x128 = ySub p := by
  subst h; rfl
/-- The slot for weights at a printed offset that is that of the `k`-th. -/
theorem wSlot_of (off : Fin 3 → ℕ) (k : Fin 8) (h : off = ![k.val, 0, 0]) (inb : ∀ a, off a + S1x2048x256.size a ≤ S8x2048x256.size a) :
    (wM.slice (Rect.unit (s := S8x2048x256) off S1x2048x256.size inb) (fun _ => rfl)).squeeze S2048x256 squeezes_S1x2048x256_S2048x256 = wSlot k := by
  subst h; rfl
/-- The columns of the weights at a printed offset that is that of the `k`-th pair. -/
theorem wSrc_of (off : Fin 2 → ℕ) (c : Fin 16) (k : Fin 8) (h : off = ![0, 128 * (tgt c (fst k)).val]) (inb : ∀ a, off a + S2048x256.size a ≤ S2048x2048.size a) :
    bM.slice (Rect.unit (s := S2048x2048) off S2048x256.size inb) (fun _ => rfl) = wSrc c k := by
  subst h; rfl

/-! ## Contents -/

variable (m : (ℓ : Loc nD τ sig) → Buf (Elt F) ℓ)

/-- Device `c`'s rows of `x`; -/
def xv (c : Dev nD) : Vec F S128x2048 .f32 := m ((c : Thread nD τ).loc main_arg0)
/-- the columns of the weights for its `k`-th pair of blocks; -/
def wv (c : Dev nD) (k : Fin 8) : Vec F S2048x256 .f32 := (wSrc c k).view.read (Elt F) (m ((c : Thread nD τ).loc main_arg1))
/-- their product; -/
def prod (c : Dev nD) (k : Fin 8) : FVec F S128x256 .f32 :=
  matmul dot_S128x2048_S2048x256_S128x256_1_0_0_1_n_n none (xv m c) (wv m c k) (constant S128x256 .f32 0x00000000#32)
/-- that rounded, as it is stored; -/
def stored (c : Dev nD) (k : Fin 8) : FVec F S1x128x256 .bf16 :=
  shapeCast S1x128x256 (truncf .bf16 (prod m c k) bitsLt_bf16_f32) shapeCasts_S128x256_S1x128x256
/-- the buffer of the rounded blocks, the `k`-th pair stored; -/
def yBuf (c : Dev nD) (k : Fin 8) : Buf (Elt F) ((c : Thread nD τ).loc cc0_scratch2) :=
  (yM.access (yRect k)).write (Elt F) (m ((c : Thread nD τ).loc cc0_scratch2)) (stored m c k) Finset.univ
/-- the `p`-th block, rounded; -/
def sendVal (c : Dev nD) (p : Fin 16) : Vec F S128x128 .bf16 := (ySub p).view.read (Elt F) (yBuf m c (half p))
/-- A block is a part of its pair. -/
theorem part_slices (p : Fin 16) : S128x256.Slices ![0, 128 * (p.val % 2)] S128x128 := by revert p; decide
/-- and not rounded. -/
def ownVal (c : Dev nD) (p : Fin 16) : Vec F S128x128 .f32 :=
  extractStridedSlice S128x128 ![0, 128 * (p.val % 2)] (prod m c (half p)) (part_slices p)
/-- The rows of device `c`'s result that come from device `j`. -/
def outVal (c j : Dev nD) : Vec F S128x128 .f32 :=
  if j = c then ownVal m c (pos c c) else extf .f32 (sendVal m j (pos j c)) bitsLt_bf16_f32

/-- Device `c` holds the memref `M` with the contents `v`; with some contents; with the buffer contents `f`. -/
def holds (c : Dev nD) {sp : Space} {s : Shape} {e : EltTy} (M : Memref sig .tc sp s e) (v : Vec F s e) : sProp 𝕄 :=
  iprop(∃ f, ⌜M.view.read (Elt F) f = v⌝ ∗ (M.view.loc (c : Thread nD τ) ↦[M.view.set]{fullShare} f))
def anyAt (c : Dev nD) {sp : Space} {s : Shape} {e : EltTy} (M : Memref sig .tc sp s e) : sProp 𝕄 :=
  iprop(∃ f, M.view.loc (c : Thread nD τ) ↦[M.view.set]{fullShare} f)
def ptsAt (c : Dev nD) {sp : Space} {s : Shape} {e : EltTy} (M : Memref sig .tc sp s e) (f : Buf (Elt F) (M.view.loc (c : Thread nD τ))) : sProp 𝕄 :=
  iprop(M.view.loc (c : Thread nD τ) ↦[M.view.set]{fullShare} f)

/-- What a memory reference holds can be kept under an invariant; -/
instance holds_storable (c : Dev nD) {sp : Space} {s : Shape} {e : EltTy} (M : Memref sig .tc sp s e) (v : Vec F s e) :
    BI.Storable (upEmb : UEmb _ 𝕄) (holds c M v) := by unfold holds; infer_instance
/-- so can a reference that holds anything, -/
instance anyAt_storable (c : Dev nD) {sp : Space} {s : Shape} {e : EltTy} (M : Memref sig .tc sp s e) :
    BI.Storable (upEmb : UEmb _ 𝕄) (anyAt (F := F) c M) := by unfold anyAt; infer_instance
/-- and one with the contents of its buffer. -/
instance ptsAt_storable (c : Dev nD) {sp : Space} {s : Shape} {e : EltTy} (M : Memref sig .tc sp s e) (f : Buf (Elt F) (M.view.loc (c : Thread nD τ))) :
    BI.Storable (upEmb : UEmb _ 𝕄) (ptsAt c M f) := by unfold ptsAt; infer_instance

/-- A reference with a known value holds something. -/
theorem holds_any (c : Dev nD) {sp : Space} {s : Shape} {e : EltTy} (M : Memref sig .tc sp s e) (v : Vec F s e) : holds c M v ⊢ anyAt c M := by
  unfold holds anyAt; iintro ⟨%f, -, H⟩; iexists f; iexact H
/-- A reference with known contents holds something. -/
theorem pts_any (c : Dev nD) {sp : Space} {s : Shape} {e : EltTy} (M : Memref sig .tc sp s e) (f : Buf (Elt F) (M.view.loc (c : Thread nD τ))) :
    ptsAt c M f ⊢ anyAt c M := by
  unfold ptsAt anyAt; iintro H; iexists f; iexact H

/-- The result as device `c` returns it: every block as it should be. -/
def result (c : Dev nD) : sProp 𝕄 :=
  iprop(∃ g : Buf (Elt F) ((c : Thread nD τ).loc main_v1), ⌜∀ j : Dev nD, (resBlk j).view.read (Elt F) g = outVal m c j⌝ ∗ ptsAt c outM g)

/-- A device's result can be kept under an invariant. -/
instance result_storable (c : Dev nD) : BI.Storable (upEmb : UEmb _ 𝕄) (result m c) := by unfold result; infer_instance

/-! ## The schedule -/

/-- What a transfer of a block, of columns, of the rows of `x`, of the result adds to its semaphore. -/
def NB : ℕ := (rSlot 0).view.dmaCredit
def NW : ℕ := (wSlot 0).view.dmaCredit
def NX : ℕ := xM.view.dmaCredit
def NO : ℕ := outM.view.dmaCredit

/-- Who pays a semaphore of device `c`: its own copies itself; a block sent, itself, unless the block is its own; a block
    received, the sender; the barrier, every other device. -/
def payers (c : Dev nD) : Role → Finset (Fin 16)
  | .x => {c} | .w _ => {c} | .o => {c}
  | .send d => if d = c then ∅ else {c}
  | .recv j => if j = c then ∅ else {j}
  | .bar => Finset.univ.erase c

def units : Role → ℕ
  | .x => NX | .w _ => NW | .o => NO | .send _ => NB | .recv _ => NB | .bar => 1

/-- Every payment is of at least one unit. -/
theorem units_pos : ∀ r, 0 < units r
  | .x => View.dmaCredit_pos _ (by decide) | .w _ => View.dmaCredit_pos _ (by decide) | .o => View.dmaCredit_pos _ (by decide)
  | .send _ => View.dmaCredit_pos _ (by decide) | .recv _ => View.dmaCredit_pos _ (by decide) | .bar => Nat.one_pos

/-- What comes with device `d`'s payment of a semaphore of device `c`: its copies' two ends, the destination holding what
    was copied; the block sent; the slot received in, holding the block; and, by the barrier, `d`'s slot for `c`'s block. -/
def pay (c : Dev nD) (d : Fin 16) : Role → sProp 𝕄
  | .x => iprop(ptsAt c aM (m ((c : Thread nD τ).loc main_arg0)) ∗ holds c xM (xv m c))
  | .w k => iprop(ptsAt c (wSrc c k) (m ((c : Thread nD τ).loc main_arg1)) ∗ holds c (wSlot k) (wv m c k))
  | .o => iprop(anyAt c oM ∗ result m c)
  | .send e => anyAt c (ySub (pos c e))
  | .recv j => holds c (rSlot j) (sendVal m j (pos j c))
  | .bar => anyAt d (rSlot c)

/-- What comes with a payment can be kept under an invariant. -/
instance pay_storable (c : Dev nD) (d : Fin 16) (r : Role) : BI.Storable (upEmb : UEmb _ 𝕄) (pay m c d r) := by
  cases r <;> (unfold pay; infer_instance)

/-- One round. -/
def Rd : Rounds.Schedule (GSem nD τ sig) (Fin 16) 𝕄 where
  duties g r := if r = 0 ∧ g.1.2 = .tc then payers g.1.1 (role g.2) else ∅
  unitless _ := False
  amount g _ _ := units (role g.2)
  payload g _ d := pay m g.1.1 d (role g.2)
  amount_pos g _ _ _ := units_pos _

/-- The same, as the schedule has it. -/
instance Rd_payload_storable (g : GSem nD τ sig) (r : ℕ) (d : Fin 16) :
    BI.Storable (upEmb : UEmb _ 𝕄) ((Rd (F := F) m).payload g r d) := pay_storable m _ _ _

/-- Who pays a semaphore in its one round. -/
theorem duties_eq (c : Dev nD) (sm : SemLoc sig) : (Rd m).duties ((c : Thread nD τ), sm) 0 = payers c (role sm) := by
  dsimp only [Rd]; exact if_pos ⟨rfl, rfl⟩
/-- Nobody pays after that round. -/
theorem duties_later (g : GSem nD τ sig) : ∀ r, 1 ≤ r → (Rd (F := F) m).duties g r = ∅ :=
  fun r hr => by dsimp only [Rd]; exact if_neg fun h => by omega
/-- How much a payment is. -/
theorem amount_eq (g : GSem nD τ sig) (r : ℕ) (d : Fin 16) : (Rd (F := F) m).amount g r d = units (role g.2) := rfl
/-- What comes with it. -/
theorem payload_eq (c : Dev nD) (sm : SemLoc sig) (r : ℕ) (d : Fin 16) :
    (Rd m).payload ((c : Thread nD τ), sm) r d = pay m c d (role sm) := rfl
/-- How much a semaphore comes to in its round. -/
theorem expect_eq (c : Dev nD) (sm : SemLoc sig) :
    (Rd (F := F) m).expect ((c : Thread nD τ), sm) 0 = (payers c (role sm)).card * units (role sm) := by
  unfold Schedule.expect Schedule.amountOf
  rw [duties_eq, Finset.sum_congr rfl fun d _ => amount_eq m _ 0 d, Finset.sum_const, smul_eq_mul]

end Cert.Proof

end
-- ==== Proof.Steps.lean ====
/-
  One lemma for each kind of operation the kernel carries out: the copies in, the signals, the blocks sent and received,
  the waits, and the loads and stores between them. A device keeps what it holds in a few records, each of which a lemma
  moves on by one place.
-/
module

public import proofs.«01_k».proof.Proof.Cells

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## A record that is moved on place by place -/

/-- At every place below `n` the second assertion, at the others the first. -/
def stage {N : ℕ} (n : ℕ) (Φ Ψ : Fin N → sProp 𝕄) : sProp 𝕄 :=
  bigSep Finset.univ fun p : Fin N => if p.val < n then Ψ p else Φ p

/-- What is held at place `p` may be exchanged for what is held once `p` is passed. -/
theorem stage_step {N : ℕ} (p : Fin N) (Φ Ψ : Fin N → sProp 𝕄) :
    stage p.val Φ Ψ ⊢ iprop(Φ p ∗ (Ψ p -∗ stage (p.val + 1) Φ Ψ)) := by
  unfold stage
  rw [bigSep_univ_at (fun q : Fin N => if q.val < p.val then Ψ q else Φ q) p,
    bigSep_univ_at (fun q : Fin N => if q.val < p.val + 1 then Ψ q else Φ q) p, if_neg (lt_irrefl _), if_pos (Nat.lt_succ_self _),
    bigSep_congr (s := Finset.univ.erase p) (Ψ := fun q : Fin N => if q.val < p.val + 1 then Ψ q else Φ q) fun q hq => by
      have hne : q.val ≠ p.val := fun h => (Finset.mem_erase.mp hq).1 (Fin.ext h)
      by_cases h : q.val < p.val
      · rw [if_pos h, if_pos (by omega)]
      · rw [if_neg h, if_neg (by omega)]]
  iintro ⟨H, R⟩
  isplitl [H]; · iexact H
  iintro H'
  isplitl [H']; · iexact H'
  iexact R

/-- At the start nothing has moved on; -/
theorem stage_zero {N : ℕ} (Φ Ψ : Fin N → sProp 𝕄) : stage 0 Φ Ψ = bigSep Finset.univ Φ := by
  unfold stage; exact bigSep_congr fun p _ => if_neg (Nat.not_lt_zero _)
/-- at the end everything has. -/
theorem stage_all {N : ℕ} (Φ Ψ : Fin N → sProp 𝕄) : stage N Φ Ψ = bigSep Finset.univ Ψ := by
  unfold stage; exact bigSep_congr fun p _ => if_pos p.isLt

/-! ## What a device still owes -/

/-- The blocks device `c` has yet to send, from place `n` on. -/
def sendOwed (c : Dev nD) (p : Fin 16) : CellTallies nD τ sig Unit :=
  if tgt c p = c then 0 else tallyAt ((tgt c p : Thread nD τ), .dma (recvS c)) () NB
def owedFrom (c : Dev nD) (n : ℕ) : CellTallies nD τ sig Unit :=
  ∑ p ∈ Finset.univ.filter (fun p : Fin 16 => n ≤ p.val), sendOwed c p
/-- The signals it has yet to send, from the `n`-th on. -/
def barOwed (c : Dev nD) (n : ℕ) : CellTallies nD τ sig Unit :=
  ∑ s ∈ Finset.univ.filter (fun s : Fin 15 => n ≤ s.val), tallyAt ((on c s.succ : Thread nD τ), .reg barS) () 1

/-- The places from `p` on are `p` and those after it. -/
theorem from_step {N : ℕ} (p : Fin N) : Finset.univ.filter (fun q : Fin N => p.val ≤ q.val)
    = insert p (Finset.univ.filter (fun q : Fin N => p.val + 1 ≤ q.val)) := by
  ext q; simp only [Finset.mem_filter, Finset.mem_univ, true_and, Finset.mem_insert, Fin.ext_iff]; omega

/-- What is owed from block `p` on is what is owed for it and from the next one on. -/
theorem owedFrom_step (c : Dev nD) (p : Fin 16) : owedFrom c p.val = owedFrom c (p.val + 1) + sendOwed c p := by
  unfold owedFrom
  rw [from_step, Finset.sum_insert (by simp), add_comm]
/-- The same of the signals. -/
theorem barOwed_step (c : Dev nD) (s : Fin 15) :
    barOwed c s.val = barOwed c (s.val + 1) + tallyAt ((on c s.succ : Thread nD τ), .reg barS) () 1 := by
  unfold barOwed
  rw [from_step, Finset.sum_insert (by simp), add_comm]
/-- After the last block nothing is owed. -/
theorem owedFrom_end (c : Dev nD) : owedFrom c 16 = 0 := by
  unfold owedFrom
  rw [Finset.filter_false_of_mem fun p _ => by omega, Finset.sum_empty]
/-- After the last signal nothing is owed. -/
theorem barOwed_end (c : Dev nD) : barOwed c 15 = 0 := by
  unfold barOwed
  rw [Finset.filter_false_of_mem fun p _ => by omega, Finset.sum_empty]

/-- A device's debts once its signals are out are all for blocks received elsewhere. -/
theorem owedFrom_pos (c : Dev nD) (n : ℕ) (g : GSem nD τ sig) (u : Unit) (h : 0 < owedFrom c n g u) :
    ∃ d : Dev nD, g = ((d : Thread nD τ), .dma (recvS c)) := by
  unfold owedFrom at h
  rw [Finset.sum_apply, Finsupp.finset_sum_apply] at h
  obtain ⟨p, -, hp⟩ := Finset.exists_ne_zero_of_sum_ne_zero h.ne'
  unfold sendOwed at hp
  split at hp
  · exact absurd rfl hp
  · by_contra hg
    refine hp ?_
    rw [tallyAt_ne_cell (fun h => hg ⟨_, h⟩)]
    rfl

/-- Blocks received come after everything else. -/
def lev (g : GSem nD τ sig) (_ : Unit) : ℕ := match role g.2 with | .recv _ => 2 | _ => 1
def levIx (g : GSem nD τ sig) : Finset Unit := if g.1.2 = .tc then {()} else ∅
/-- Every semaphore of a device's main thread has one level; -/
theorem levIx_tc (c : Dev nD) (sm : SemLoc sig) : levIx ((c : Thread nD τ), sm) = {()} := if_pos rfl
/-- those of other threads have none. -/
theorem levIx_ne (g : GSem nD τ sig) (h : g.1.2 ≠ .tc) : levIx g = ∅ := if_neg h

/-- What the launch records for everyone: every semaphore's invariant, that its round is open, and the order. -/
def recs (m : (ℓ : Loc nD τ sig) → Buf (Elt F) ℓ) (K : Dev nD × SemLoc sig → ℕ) : sProp 𝕄 :=
  iprop((bigSep Finset.univ fun ck : Dev nD × SemLoc sig => cellInv (ER (F := F)) (Rd m) (K ck) ((ck.1 : Thread nD τ), ck.2))
    ∗ (bigSep Finset.univ fun ck : Dev nD × SemLoc sig => reached (ER (F := F)) ((ck.1 : Thread nD τ), ck.2) 0)
    ∗ levAts levIx lev)

/-- What is known stays known. -/
instance recs_persistent (m : (ℓ : Loc nD τ sig) → Buf (Elt F) ℓ) (K : Dev nD × SemLoc sig → ℕ) : BI.Persistent (recs (F := F) m K) := by
  unfold recs; infer_instance

variable (m : (ℓ : Loc nD τ sig) → Buf (Elt F) ℓ) (K : Dev nD × SemLoc sig → ℕ)

/-- Every semaphore is under its invariant; -/
theorem recs_inv (d : Dev nD) (sm : SemLoc sig) : recs m K ⊢ cellInv (ER (F := F)) (Rd m) (K (d, sm)) ((d : Thread nD τ), sm) := by
  unfold recs; iintro ⟨H, -⟩
  exact bigSep_elim (Finset.mem_univ (d, sm)) (Φ := fun ck : Dev nD × SemLoc sig => cellInv (ER (F := F)) (Rd m) (K ck) ((ck.1 : Thread nD τ), ck.2))
/-- every semaphore has reached its first round; -/
theorem recs_reached (d : Dev nD) (sm : SemLoc sig) : recs m K ⊢ reached (ER (F := F)) ((d : Thread nD τ), sm) 0 := by
  unfold recs; iintro ⟨-, H, -⟩
  exact bigSep_elim (Finset.mem_univ (d, sm)) (Φ := fun ck : Dev nD × SemLoc sig => reached (ER (F := F)) ((ck.1 : Thread nD τ), ck.2) 0)
/-- and the levels are set. -/
theorem recs_lev : recs m K ⊢ (levAts levIx lev : sProp 𝕄) := by
  unfold recs; iintro ⟨-, -, H⟩; iexact H

/-- What device `c` owes, whatever its waits so far. -/
def owing (c : Dev nD) (O : CellTallies nD τ sig Unit) : sProp 𝕄 := iprop(∃ W, owes (c : Thread nD τ) O W)

/-- Owing nothing, or only blocks, a device may wait: for anything, or for anything but a block. -/
theorem may_end (c : Dev nD) (sm : SemLoc sig) : (recs m K : sProp 𝕄) ⊢ MayWait (c : Thread nD τ) sm () 0 := by
  rw [MayWait_zero]; iintro -; iempintro
/-- A device that still owes blocks may wait on any semaphore that is not for a received block. -/
theorem may_early (c : Dev nD) (sm : SemLoc sig) (n : ℕ) (h : ∀ j, role sm ≠ .recv j) :
    recs m K ⊢ MayWait (c : Thread nD τ) sm () (owedFrom c n) := by
  refine (recs_lev m K).trans (MayOwe.of_cut (L := levIx) (lev := lev) 1
    (fun p hp => by rw [Finset.mem_singleton.mp hp, levIx_tc]; exact Finset.mem_singleton_self _)
    (fun g u hg => by obtain ⟨d, rfl⟩ := owedFrom_pos c n g u hg; rw [levIx_tc]; exact Finset.mem_singleton_self _) ?_ ?_)
  · intro p hp
    rw [Finset.mem_singleton.mp hp]
    unfold lev
    dsimp only
    split
    · rename_i j hj; exact absurd hj (h j)
    · exact le_rfl
  · intro g u hg
    obtain ⟨d, rfl⟩ := owedFrom_pos c n g u hg
    unfold lev
    dsimp only
    rw [role_recv]
    exact Nat.one_lt_two

/-! ## Waiting -/

variable (c : Dev nD) {α : Type} {Q : α → sProp (MT nD τ sig Unit (Elt F) ℕ UU ℕ)}

/-- A wait for all a semaphore is to receive brings what every payer sent with it, and the semaphore is done with. -/
theorem wait_all (sm : SemLoc sig) (O : CellTallies nD τ sig Unit) (hM : recs m K ⊢ MayWait (c : Thread nD τ) sm () O)
    {w : TpuEff nD τ sig (Elt F) Λ₀ .tc PUnit} {k' : ℕ}
    (hw : ∀ P : PUnit → sProp 𝕄, wpE (defs₀ (F := F)) 𝒱₀ (c : Thread nD τ) none Set.univ w P = waitSpec (c : Thread nD τ) Set.univ sm k' P)
    (hk : k' = (payers c (role sm)).card * units (role sm)) {kk : PUnit → Prog (TpuEff nD τ sig (Elt F) Λ₀ .tc) α} :
    iprop(recs m K ∗ cred (tallyAt ((c : Thread nD τ), sm) () k') ∗ owing c O ∗ atPos (ER (F := F)) ((c : Thread nD τ), sm) 0 ∅ 0)
      ⊢ iprop(((owing c O ∗ semVal ((c : Thread nD τ), sm) 0 ∗ bigSep (payers c (role sm)) (fun d => pay m c d (role sm)))
          -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  unfold owing
  iintro ⟨#HR, HC, ⟨%W, HO⟩, Hat⟩ Hk
  iapply (Rounds.wp_wait_rest_token 𝒱₀ (ER (F := F)) (Rd m) (c : Thread nD τ) none (κ := K (c, sm)) hw (Set.mem_univ _) ()
    (R := 0) (m := 0) (T := ∅) ((Nat.zero_add k').trans (hk.trans (expect_eq m c sm).symm))) $$ [HC HO Hat]
  · isplitl []; · iapply (recs_inv m K c sm); iexact HR
    isplitl [HC]; · iexact HC
    isplitl [HO]; · iexact HO
    isplitr
    · iapply hM; iexact HR
    iexact Hat
  iintro ⟨HO, Hat, -, Hp⟩
  ihave Hi := (recs_inv m K c sm) $$ HR
  imod (Rounds.cell_close (ER (F := F)) (Rd m) (Set.mem_univ (K (c, sm))) (fun h => h) (R := 0 + 1) (duties_later m _)) $$ [Hi Hat] with Hz
  · isplitl [Hi]; · iexact Hi
    iexact Hat
  iapply Hk
  isplitl [HO]; · iexists _; iexact HO
  isplitl [Hz]; · iexact Hz
  rw [Finset.sdiff_empty, duties_eq]
  iexact Hp

/-- With a signal comes the right to write the signalling device's slot. -/
theorem pay_bar (c : Dev nD) (d : Fin 16) : pay m c d .bar = anyAt (F := F) d (rSlot c) := rfl

/-! ## The signals -/

/-- What device `c` holds with `n` signals sent: for the others, the right to signal and the slot that goes with it. -/
def signals (n : ℕ) : sProp 𝕄 :=
  stage n (fun s : Fin 15 => iprop(dutyTok (ER (F := F)) ((on c s.succ : Thread nD τ), .reg barS) 0 c ∗ anyAt c (rSlot (on c s.succ)))) fun _ => iprop(emp)

/-- A signal is of one unit. -/
theorem amount_bar (d : Dev nD) (r : ℕ) (p : Fin 16) : (Rd (F := F) m).amount ((d : Thread nD τ), .reg barS) r p = 1 := by
  rw [amount_eq, role_bar]; rfl
/-- Going on by at least one step leads to another device. -/
theorem on_ne : ∀ (c : Fin 16) (s : Fin 15), c ≠ on c s.succ := by decide

/-- A signal gives another device the right to write its slot here, and pays the debt for it. -/
theorem step_signal (s : Fin 15) (d' : Dev nD) (hd : d' = on c s.succ) {kk : PUnit → Prog (TpuEff nD τ sig (Elt F) Λ₀ .tc) α} :
    iprop(recs m K ∗ owing c (owedFrom c 0 + barOwed c s.val) ∗ signals c s.val)
      ⊢ iprop(((owing c (owedFrom c 0 + barOwed c (s.val + 1)) ∗ signals c (s.val + 1))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.semSignal ((d' : Dev nD) : Thread nD τ) barS (1#32 : BitVec 32).toInt) kk) Q) := by
  subst hd
  unfold owing signals
  iintro ⟨#HR, ⟨%W, HO⟩, HS⟩ Hk
  icases (stage_step s _ _) $$ HS with ⟨⟨Ht, Hs⟩, HS⟩
  iapply (Rounds.wp_signal 𝒱₀ (ER (F := F)) (Rd m) (c : Thread nD τ) none (dst := (on c s.succ : Thread nD τ)) (κ := K (on c s.succ, .reg barS))
    (sem := barS) (d := (c : Fin 16)) (r := 0) (k' := 1) (by rw [duties_eq, role_bar]; exact Finset.mem_erase.mpr ⟨on_ne c s, Finset.mem_univ _⟩)
    (amount_bar m _ _ _) () (O₀ := owedFrom c 0 + barOwed c s.val) (O := owedFrom c 0 + barOwed c (s.val + 1))
    (by rw [barOwed_step, add_assoc])) $$ [HO Ht Hs]
  · isplitl []; · iapply (recs_inv m K (on c s.succ) (.reg barS)); iexact HR
    isplitl [HO]; · iexact HO
    isplitl [Ht]; · iexact Ht
    isplitl [Hs]; · rw [payload_eq, role_bar, pay_bar]; iexact Hs
    iapply (recs_reached m K (on c s.succ) (.reg barS)); iexact HR
  iintro HO
  iapply Hk
  isplitl [HO]; · iexists _; iexact HO
  iapply HS; iempintro

/-! ## Copies of a device's own -/

/-- Starting a copy that device `c` alone pays for. -/
theorem start_copy {sp sp' : Space} {s : Shape} {e : EltTy} (src : Memref sig .tc sp s e) (dst : Memref sig .tc sp' s e) (sem : DmaSem sig)
    (hd : (c : Fin 16) ∈ payers c (role (.dma sem))) (hN : dst.view.dmaCredit = units (role (.dma sem)))
    (fs : Buf (Elt F) (src.view.loc (c : Thread nD τ))) (X : sProp (MT nD τ sig Unit (Elt F) ℕ UU ℕ))
    (hX : X = pay m c c (role (.dma sem)))
    (hpay : ∀ fd : Buf (Elt F) (dst.view.loc (c : Thread nD τ)),
      iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ X)
    {hsrc : src.view.WordExact} {hdst : dst.view.WordExact} {hsem : DmaTarget.Typed (nD := nD) (τ := τ) (p := .tc) sp (.dma sem) (.here dst)}
    {kk : PUnit → Prog (TpuEff nD τ sig (Elt F) Λ₀ .tc) α} :
    iprop(recs m K ∗ ptsAt c src fs ∗ anyAt c dst ∗ dutyTok (ER (F := F)) ((c : Thread nD τ), .dma sem) 0 c)
      ⊢ iprop((cred (tallyAt ((c : Thread nD τ), .dma sem) () (units (role (.dma sem))))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.here dst) (.dma sem) hsrc hdst hsem) kk) Q) := by
  subst hX
  unfold ptsAt anyAt
  iintro ⟨#HR, Hs, ⟨%fd, Hd⟩, Ht⟩ Hk
  iapply (Rounds.wp_copy_pointsTo 𝒱₀ (ER (F := F)) (Rd m) (c : Thread nD τ) none (κ := K (c, .dma sem)) (src := src) (dst := dst) (sem := .dma sem)
    (r := 0) (d := (c : Fin 16)) (fs := fs) (fd := fd)
    (by rw [duties_eq]; exact hd) () (units (role (.dma sem))) hN (amount_eq m _ _ _) (hpay fd)) $$ [Hs Hd Ht]
  · isplitl []; · iapply (recs_inv m K c (.dma sem)); iexact HR
    isplitl [Hs]; · iexact Hs
    isplitl [Hd]; · iexact Hd
    isplitl [Ht]; · iexact Ht
    iapply (recs_reached m K c (.dma sem)); iexact HR
  iintro HC
  iapply Hk; iexact HC

/-- Every slot for columns counts alike, and so does every place a block is sent from or to. -/
theorem credit_w (k : Fin 8) : (wSlot k).view.dmaCredit = NW := by
  show sig.dmaCredit .tc _ (wSlot k).view.buf _ _ = sig.dmaCredit .tc _ (wSlot 0).view.buf _ _
  rw [show (wSlot k).view.buf = (wSlot 0).view.buf from rfl]
/-- How many units a received block comes to. -/
theorem credit_r (j : Fin 16) : (rSlot j).view.dmaCredit = NB := by
  show sig.dmaCredit .tc _ (rSlot j).view.buf _ _ = sig.dmaCredit .tc _ (rSlot 0).view.buf _ _
  rw [show (rSlot j).view.buf = (rSlot 0).view.buf from rfl]

/-- How many units a copy of weights comes to. -/
theorem units_w (k : Fin 8) : units (.w k) = NW := rfl
/-- A device itself pays for its copy of weights. -/
theorem payers_w (k : Fin 8) : payers c (.w k) = {(c : Fin 16)} := rfl

/-- The copies of the weights' columns, with `n` of them started. -/
def wcopies (n : ℕ) : sProp 𝕄 :=
  stage n (fun k : Fin 8 => iprop(ptsAt c (wSrc c k) (m ((c : Thread nD τ).loc main_arg1)) ∗ anyAt c (wSlot k)
      ∗ dutyTok (ER (F := F)) ((c : Thread nD τ), .dma (wS k)) 0 c))
    fun k => iprop(cred (tallyAt ((c : Thread nD τ), .dma (wS k)) () NW))
/-- The same with `n` of them waited for and what they brought used. -/
def wwaits (n : ℕ) : sProp 𝕄 :=
  stage n (fun k : Fin 8 => iprop(cred (tallyAt ((c : Thread nD τ), .dma (wS k)) () NW) ∗ atPos (ER (F := F)) ((c : Thread nD τ), .dma (wS k)) 0 ∅ 0))
    fun k => iprop(semVal ((c : Thread nD τ), .dma (wS k)) 0 ∗ ptsAt c (wSrc c k) (m ((c : Thread nD τ).loc main_arg1)) ∗ anyAt c (wSlot k))
/-- The `k`-th columns arrived, not yet read. -/
def wready (k : Fin 8) : sProp 𝕄 := iprop(holds c (wSlot k) (wv m c k) ∗ (anyAt c (wSlot k) -∗ wwaits m c (k.val + 1)))

/-- Starting a copy of weights: the columns and the slot are given away. -/
theorem step_wcopy (k : Fin 8) {src : Memref sig .tc .hbm S2048x256 .f32} {dst : Memref sig .tc .vmem S2048x256 .f32} {sem : DmaSem sig}
    (h₁ : src = wSrc c k) (h₂ : dst = wSlot k) (h₃ : sem = wS k)
    {hsrc : src.view.WordExact} {hdst : dst.view.WordExact} {hsem : DmaTarget.Typed (nD := nD) (τ := τ) (p := .tc) .hbm (.dma sem) (.here dst)}
    {kk : PUnit → Prog (TpuEff nD τ sig (Elt F) Λ₀ .tc) α} :
    iprop(recs m K ∗ wcopies m c k.val)
      ⊢ iprop((wcopies m c (k.val + 1) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.here dst) (.dma sem) hsrc hdst hsem) kk) Q) := by
  subst h₁ h₂ h₃
  unfold wcopies
  iintro ⟨#HR, HS⟩ Hk
  icases (stage_step k _ _) $$ HS with ⟨⟨Hs, Hd, Ht⟩, HS⟩
  iapply (start_copy m K c (wSrc c k) (wSlot k) (wS k) (by rw [role_w]; exact Finset.mem_singleton_self _) (by rw [role_w, credit_w, units_w])
    (m ((c : Thread nD τ).loc main_arg1))
    (pay m c c (.w k)) (by rw [role_w]) (by
      intro fd
      iintro ⟨Hd, Hs⟩
      unfold pay ptsAt
      isplitl [Hs]; · iexact Hs
      unfold holds
      iexists ((wSlot k).view.write (Elt F) fd ((wSrc c k).view.read (Elt F) (m ((c : Thread nD τ).loc main_arg1))) Finset.univ)
      isplitr
      · ipureintro; exact View.read_write_univ _ _
      iexact Hd)) $$ [Hs Hd Ht]
  · isplitl []; · iexact HR
    isplitl [Hs]; · iexact Hs
    isplitl [Hd]; · iexact Hd
    iexact Ht
  rw [role_w, units_w]
  iintro HC
  iapply Hk
  iapply HS; iexact HC

/-- Waiting for it brings both back, the slot holding the columns. -/
theorem step_wwait (k : Fin 8) (n : ℕ) {src : Memref sig .tc .hbm S2048x256 .f32} {dst : Memref sig .tc .vmem S2048x256 .f32} {sem : DmaSem sig}
    (h₂ : dst = wSlot k) (h₃ : sem = wS k) {hsrc : src.view.WordExact} {hdst : dst.view.WordExact}
    {kk : PUnit → Prog (TpuEff nD τ sig (Elt F) Λ₀ .tc) α} :
    iprop(recs m K ∗ owing c (owedFrom c n) ∗ wwaits m c k.val)
      ⊢ iprop(((owing c (owedFrom c n) ∗ wready m c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  subst h₂ h₃
  unfold wready wwaits
  iintro ⟨#HR, HO, HS⟩ Hk
  icases (stage_step k _ _) $$ HS with ⟨⟨HC, Hat⟩, HS⟩
  rw [show NW = (wSlot k).view.dmaCredit from (credit_w k).symm]
  iapply (wait_all m K c (.dma (wS k)) (owedFrom c n) (may_early m K c _ n (by rw [role_w]; intro j h; nomatch h))
    (wpE_waitDma2_eq 𝒱₀ (c : Thread nD τ) none Set.univ (dst := wSlot k)) (by rw [role_w, credit_w, units_w, payers_w, Finset.card_singleton, Nat.one_mul])) $$ [HO HC Hat]
  · isplitl []; · iexact HR
    isplitl [HC]; · iexact HC
    isplitl [HO]; · iexact HO
    iexact Hat
  rw [role_w, show payers c (.w k) = {(c : Fin 16)} from rfl, bigSep_singleton, show pay m c c (.w k) = iprop(ptsAt c (wSrc c k) (m ((c : Thread nD τ).loc main_arg1)) ∗ holds c (wSlot k) (wv m c k)) from rfl]
  iintro ⟨HO, Hz, Hs, Hd⟩
  iapply Hk
  isplitl [HO]; · iexact HO
  isplitl [Hd]; · iexact Hd
  iintro Hd
  iapply HS
  isplitl [Hz]; · iexact Hz
  isplitl [Hs]; · iexact Hs
  iexact Hd

/-- A load from a slot for weights stays within it. -/
theorem wslot_set (k : Fin 8) : (wM.access (wRect k)).set ⊆ (wSlot k).view.set := by
  rw [show (wSlot k).view.set = (wM.access (wRect k)).set from View.set_reshape _ _]

/-- A load from that slot gives the columns. -/
theorem step_wload (k : Fin 8) {hl : wM.view.LoadsAt (wRect k).toLoadRect} {kk : Vec F S1x2048x256 .f32 → Prog (TpuEff nD τ sig (Elt F) Λ₀ .tc) α} :
    wready m c k
      ⊢ iprop((∀ v, ⌜shapeCast S2048x256 v shapeCasts_S1x2048x256_S2048x256 = wv m c k⌝ -∗ wwaits m c (k.val + 1)
            -∗ wp frame (wpE (defs₀ (F := F)) 𝒱₀ (c : Thread nD τ) none) Set.univ (kk v) Q)
        -∗ wp frame (wpE (defs₀ (F := F)) 𝒱₀ (c : Thread nD τ) none) Set.univ (.op (.load wM (wRect k).toLoadRect hl) kk) Q) := by
  unfold wready holds
  iintro ⟨⟨%f, %hf, Hd⟩, HS⟩ Hk
  iapply (wp_load_rect 𝒱₀ (c : Thread nD τ) none Set.univ (m := wM) (r := wRect k) (wslot_set k)) $$ [Hd]
  · iexact Hd
  iintro Hd
  ispecialize Hk $$ %_
  iapply Hk
  · ipureintro; exact hf
  iapply HS
  unfold anyAt
  iexists f; iexact Hd

end Cert.Proof

end
-- ==== Proof.Sets.lean ====
/-
  Which elements of its buffer a slot, a slab, a block or a range of columns is; that the parts of a buffer share no
  element and make up the whole; and so that a buffer is held whole exactly when all its parts are.
-/
module

public import proofs.«01_k».proof.Proof.Cells
public import Idealize.ShloMosaic.Lib.Ring

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The elements of each part -/

/-- The elements of a slot for a received block, -/
theorem rSlot_mem (j : Fin 16) (i : (cc0_scratch3 : Ref sig .tc).ty.shape.Idx) : i ∈ (rSlot j).view.set ↔ (i 0).val = j.val := by
  rw [show (rSlot j).view.set = (Rect.unit (s := S16x128x128) ![j.val, 0, 0] S1x128x128.size (slot_inb j)).set from
    (View.set_reshape _ _).trans (View.set_slice_whole _ _), Rect.mem_set_unit]
  have h1 := (i 1).isLt
  have h2 := (i 2).isLt
  constructor
  · intro h; have := h 0; simp at this; omega
  · intro h a; fin_cases a <;> simp <;> first | omega | exact h1 | exact h2

/-- of a slot for weights, -/
theorem wSlot_mem (k : Fin 8) (i : (cc0_scratch1 : Ref sig .tc).ty.shape.Idx) : i ∈ (wSlot k).view.set ↔ (i 0).val = k.val := by
  rw [show (wSlot k).view.set = (wRect k).set from (View.set_reshape _ _).trans (View.set_slice_whole _ _), Rect.mem_set_unit]
  have h1 := (i 1).isLt
  have h2 := (i 2).isLt
  constructor
  · intro h; have := h 0; simp at this; omega
  · intro h a; fin_cases a <;> simp <;> first | omega | exact h1 | exact h2

/-- of a pair of blocks, -/
theorem yPair_mem (k : Fin 8) (i : (cc0_scratch2 : Ref sig .tc).ty.shape.Idx) : i ∈ (yM.access (yRect k)).set ↔ (i 0).val = k.val := by
  rw [show (yM.access (yRect k)).set = (yRect k).set from View.set_slice_whole _ _, Rect.mem_set_unit]
  have h1 := (i 1).isLt
  have h2 := (i 2).isLt
  constructor
  · intro h; have := h 0; simp at this; omega
  · intro h a; fin_cases a <;> simp <;> first | omega | exact h1 | exact h2

/-- of one block, -/
theorem ySub_mem (p : Fin 16) (i : (cc0_scratch2 : Ref sig .tc).ty.shape.Idx) :
    i ∈ (ySub p).view.set ↔ (i 0).val = p.val / 2 ∧ (i 2).val / 128 = p.val % 2 := by
  rw [show (ySub p).view.set = (Rect.unit (s := S8x128x256) ![p.val / 2, 0, 128 * (p.val % 2)] S1x128x128.size (sub_inb p)).set from
    (View.set_reshape _ _).trans (View.set_slice_whole _ _), Rect.mem_set_unit]
  have h1 := (i 1).isLt
  constructor
  · intro h; have h0 := h 0; have h2 := h 2; simp at h0 h2; omega
  · rintro ⟨h0, h2⟩ a; fin_cases a <;> simp <;> first | omega | exact h1

/-- of a block of rows, -/
theorem oBlk_mem (j : Fin 16) (i : (cc0_scratch4 : Ref sig .tc).ty.shape.Idx) : i ∈ (oBlk j).view.set ↔ (i 0).val / 128 = j.val := by
  rw [show (oBlk j).view.set = (oRect j).set from View.set_slice_whole _ _, Rect.mem_set_unit]
  have h1 := (i 1).isLt
  constructor
  · intro h; have := h 0; simp at this; omega
  · intro h a; fin_cases a <;> simp <;> first | omega | exact h1

/-- and of the columns of the weights for a pair. -/
theorem wSrc_mem (c : Dev nD) (k : Fin 8) (i : (main_arg1 : Ref sig .tc).ty.shape.Idx) :
    i ∈ (wSrc c k).view.set ↔ 128 * (tgt c (fst k)).val ≤ (i 1).val ∧ (i 1).val < 128 * (tgt c (fst k)).val + 256 := by
  rw [show (wSrc c k).view.set = (Rect.unit (s := S2048x2048) ![0, 128 * (tgt c (fst k)).val] S2048x256.size (cols_inb c k)).set from
    View.set_slice_whole _ _, Rect.mem_set_unit]
  have h0 := (i 0).isLt
  constructor
  · intro h; have := h 1; simpa using this
  · intro h a; fin_cases a <;> simp <;> first | omega | exact h0

/-! ## The parts of a buffer -/

/-- Two slots for received blocks share no element; -/
theorem rSlot_disj (j j' : Fin 16) (h : j ≠ j') : Disjoint (rSlot j).view.set (rSlot j').view.set :=
  Finset.disjoint_left.mpr fun i hi hi' => h (Fin.ext (((rSlot_mem j i).mp hi).symm.trans ((rSlot_mem j' i).mp hi')))
/-- nor do two slots for weights, -/
theorem wSlot_disj (j j' : Fin 8) (h : j ≠ j') : Disjoint (wSlot j).view.set (wSlot j').view.set :=
  Finset.disjoint_left.mpr fun i hi hi' => h (Fin.ext (((wSlot_mem j i).mp hi).symm.trans ((wSlot_mem j' i).mp hi')))
/-- two blocks of rows, -/
theorem oBlk_disj (j j' : Fin 16) (h : j ≠ j') : Disjoint (oBlk j).view.set (oBlk j').view.set :=
  Finset.disjoint_left.mpr fun i hi hi' => h (Fin.ext (((oBlk_mem j i).mp hi).symm.trans ((oBlk_mem j' i).mp hi')))
/-- or two blocks that are made. -/
theorem ySub_disj (p p' : Fin 16) (h : p ≠ p') : Disjoint (ySub p).view.set (ySub p').view.set :=
  Finset.disjoint_left.mpr fun i hi hi' => h (Fin.ext (by
    have := (ySub_mem p i).mp hi; have := (ySub_mem p' i).mp hi'; omega))
/-- The pairs of columns. -/
theorem tgt_even : ∀ (c : Fin 16) (k k' : Fin 8), k ≠ k' → (tgt c (fst k)).val + 2 ≤ (tgt c (fst k')).val ∨ (tgt c (fst k')).val + 2 ≤ (tgt c (fst k)).val := by
  decide +kernel
/-- Every device's columns are among those of some pair. -/
theorem tgt_cover : ∀ (c : Fin 16) (j : Fin 16), ∃ k : Fin 8, (tgt c (fst k)).val = j.val / 2 * 2 := by decide +kernel
/-- The columns of two pairs share no element. -/
theorem wSrc_disj (c : Dev nD) (k k' : Fin 8) (h : k ≠ k') : Disjoint (wSrc c k).view.set (wSrc c k').view.set :=
  Finset.disjoint_left.mpr fun i hi hi' => by
    have := (wSrc_mem c k i).mp hi; have := (wSrc_mem c k' i).mp hi'; have := tgt_even c k k' h; omega

/-- The slots for received blocks make up their buffer; -/
theorem rSlot_cover : Finset.univ.biUnion (β := (cc0_scratch3 : Ref sig .tc).ty.Idx) (fun j : Fin 16 => (rSlot j).view.set) = Finset.univ :=
  Finset.eq_univ_iff_forall.mpr fun i => Finset.mem_biUnion.mpr ⟨⟨(i 0).val, (i 0).isLt⟩, Finset.mem_univ _, (rSlot_mem _ i).mpr rfl⟩
/-- so do those for weights, -/
theorem wSlot_cover : Finset.univ.biUnion (β := (cc0_scratch1 : Ref sig .tc).ty.Idx) (fun j : Fin 8 => (wSlot j).view.set) = Finset.univ :=
  Finset.eq_univ_iff_forall.mpr fun i => Finset.mem_biUnion.mpr ⟨⟨(i 0).val, (i 0).isLt⟩, Finset.mem_univ _, (wSlot_mem _ i).mpr rfl⟩
/-- the pairs of blocks, -/
theorem yPair_cover : Finset.univ.biUnion (β := (cc0_scratch2 : Ref sig .tc).ty.Idx) (fun k : Fin 8 => (yM.access (yRect k)).set) = Finset.univ :=
  Finset.eq_univ_iff_forall.mpr fun i => Finset.mem_biUnion.mpr ⟨⟨(i 0).val, (i 0).isLt⟩, Finset.mem_univ _, (yPair_mem _ i).mpr rfl⟩
/-- Two pairs of blocks share no element. -/
theorem yPair_disj (j j' : Fin 8) (h : j ≠ j') : Disjoint (yM.access (yRect j)).set (yM.access (yRect j')).set :=
  Finset.disjoint_left.mpr fun i hi hi' => h (Fin.ext (((yPair_mem j i).mp hi).symm.trans ((yPair_mem j' i).mp hi')))
/-- The blocks of rows make up the result. -/
theorem oBlk_cover : Finset.univ.biUnion (β := (cc0_scratch4 : Ref sig .tc).ty.Idx) (fun j : Fin 16 => (oBlk j).view.set) = Finset.univ :=
  Finset.eq_univ_iff_forall.mpr fun i => by
    have h : (i 0).val < 2048 := (i 0).isLt
    obtain ⟨j, hj⟩ : ∃ j : Fin 16, (i 0).val / 128 = j.val := ⟨⟨(i 0).val / 128, by omega⟩, rfl⟩
    exact Finset.mem_biUnion.mpr ⟨j, Finset.mem_univ _, (oBlk_mem j i).mpr hj⟩
/-- The blocks make up their buffer. -/
theorem ySub_cover : Finset.univ.biUnion (β := (cc0_scratch2 : Ref sig .tc).ty.Idx) (fun p : Fin 16 => (ySub p).view.set) = Finset.univ :=
  Finset.eq_univ_iff_forall.mpr fun i => by
    have h : (i 0).val < 8 := (i 0).isLt
    have h' : (i 2).val < 256 := (i 2).isLt
    obtain ⟨p, hp⟩ : ∃ p : Fin 16, 2 * (i 0).val + (i 2).val / 128 = p.val := ⟨⟨2 * (i 0).val + (i 2).val / 128, by omega⟩, rfl⟩
    exact Finset.mem_biUnion.mpr ⟨p, Finset.mem_univ _, (ySub_mem p i).mpr (by omega)⟩
/-- The columns of the pairs make up the weights. -/
theorem wSrc_cover (c : Dev nD) : Finset.univ.biUnion (β := (main_arg1 : Ref sig .tc).ty.Idx) (fun k : Fin 8 => (wSrc c k).view.set) = Finset.univ :=
  Finset.eq_univ_iff_forall.mpr fun i => by
    have h : (i 1).val < 2048 := (i 1).isLt
    obtain ⟨k, hk⟩ := tgt_cover c ⟨(i 1).val / 128, by omega⟩
    dsimp only at hk
    exact Finset.mem_biUnion.mpr ⟨k, Finset.mem_univ _, (wSrc_mem c k i).mpr (by omega)⟩

/-- A pair of blocks is its two blocks. -/
theorem pair_set (k : Fin 8) : (yM.access (yRect k)).set = (ySub (fst k)).view.set ∪ (ySub (snd k)).view.set := by
  ext i
  rw [Finset.mem_union, yPair_mem, ySub_mem, ySub_mem]
  have h' : (i 2).val < 256 := (i 2).isLt
  dsimp only [fst, snd]; omega
/-- The two blocks of a pair share no element. -/
theorem pair_disj (k : Fin 8) : Disjoint (ySub (fst k)).view.set (ySub (snd k)).view.set :=
  ySub_disj _ _ fun h => by have := congrArg Fin.val h; simp [fst, snd] at this
/-- The first block of a pair is of that pair; -/
theorem half_fst (k : Fin 8) : half (fst k) = k := Fin.ext (by dsimp only [half, fst]; omega)
/-- so is the second. -/
theorem half_snd (k : Fin 8) : half (snd k) = k := Fin.ext (by dsimp only [half, snd]; omega)

/-! ## Held whole, and in parts -/

variable (c : Dev nD)

section Parts

variable {ℓ : Loc nD τ sig} {B : Type} [Fintype B] [DecidableEq B] (I : B → Finset (Idx ℓ))
  (hd : ∀ b b', b ≠ b' → Disjoint (I b) (I b')) (hc : Finset.univ.biUnion I = Finset.univ)

include hd hc in
/-- A buffer that holds anything is its parts, each holding anything. -/
theorem split_any {S : Finset (Idx ℓ)} (hS : S = Finset.univ) :
    iprop(∃ f : Buf (Elt F) ℓ, ℓ ↦[S]{fullShare} f) ⊢ (bigSep Finset.univ (fun b => iprop(∃ f : Buf (Elt F) ℓ, ℓ ↦[I b]{fullShare} f)) : sProp 𝕄) := by
  subst hS
  have h (f : Buf (Elt F) ℓ) (b : B) : (ℓ ↦[I b]{fullShare} f : sProp 𝕄) ⊢ iprop(∃ f : Buf (Elt F) ℓ, ℓ ↦[I b]{fullShare} f) := by
    iintro H; iexists f; iexact H
  iintro ⟨%f, H⟩
  iapply ((Entails.of_eq (Ring.pointsTo_blocks (q := fullShare) I hd hc f)).trans (bigSep_mono fun b _ => h f b))
  iexact H

end Parts

/-- A scratch buffer held whole is held part by part. -/
theorem split_r : anyAt (F := F) c rM ⊢ bigSep Finset.univ fun j : Fin 16 => anyAt c (rSlot j) :=
  split_any (ℓ := (c : Thread nD τ).loc cc0_scratch3) _ rSlot_disj rSlot_cover (View.set_whole _)
/-- The buffer for weights is its slots. -/
theorem split_w : anyAt (F := F) c wM ⊢ bigSep Finset.univ fun k : Fin 8 => anyAt c (wSlot k) :=
  split_any (ℓ := (c : Thread nD τ).loc cc0_scratch1) _ wSlot_disj wSlot_cover (View.set_whole _)
/-- The buffer of the result is its blocks of rows. -/
theorem split_o : anyAt (F := F) c oM ⊢ bigSep Finset.univ fun j : Fin 16 => anyAt c (oBlk j) :=
  split_any (ℓ := (c : Thread nD τ).loc cc0_scratch4) _ oBlk_disj oBlk_cover (View.set_whole _)
/-- The weights are the columns for the pairs. -/
theorem split_b (f : Buf (Elt F) ((c : Thread nD τ).loc main_arg1)) : ptsAt c bM f = bigSep Finset.univ fun k : Fin 8 => ptsAt c (wSrc c k) f := by
  unfold ptsAt
  rw [show (bM : Memref sig .tc .hbm S2048x2048 .f32).view.set = Finset.univ from View.set_whole _]
  exact Ring.pointsTo_blocks (ℓ := (c : Thread nD τ).loc main_arg1) _ (wSrc_disj c) (wSrc_cover c) f

/-- And back. -/
theorem join_r (f₀ : Buf (Elt F) ((c : Thread nD τ).loc cc0_scratch3)) : (bigSep Finset.univ fun j : Fin 16 => anyAt (F := F) c (rSlot j)) ⊢ iprop(∃ g, ((c : Thread nD τ).loc cc0_scratch3) ↦{fullShare} g) :=
  Ring.pointsTo_blocks_join_exists (ℓ := (c : Thread nD τ).loc cc0_scratch3) _ rSlot_disj rSlot_cover f₀
/-- The slots for weights are their buffer again. -/
theorem join_w (f₀ : Buf (Elt F) ((c : Thread nD τ).loc cc0_scratch1)) : (bigSep Finset.univ fun j : Fin 8 => anyAt (F := F) c (wSlot j)) ⊢ iprop(∃ g, ((c : Thread nD τ).loc cc0_scratch1) ↦{fullShare} g) :=
  Ring.pointsTo_blocks_join_exists (ℓ := (c : Thread nD τ).loc cc0_scratch1) _ wSlot_disj wSlot_cover f₀
/-- The blocks that are made are their buffer again. -/
theorem join_y (f₀ : Buf (Elt F) ((c : Thread nD τ).loc cc0_scratch2)) : (bigSep Finset.univ fun p : Fin 16 => anyAt (F := F) c (ySub p)) ⊢ iprop(∃ g, ((c : Thread nD τ).loc cc0_scratch2) ↦{fullShare} g) :=
  Ring.pointsTo_blocks_join_exists (ℓ := (c : Thread nD τ).loc cc0_scratch2) _ ySub_disj ySub_cover f₀

/-- A view's elements are held at given contents when they are held at any that read the same. -/
theorem holds_pts {sp : Space} {s : Shape} {e : EltTy} (M : Memref sig .tc sp s e) (v : Vec F s e) (f₀ : Buf (Elt F) (M.view.loc (c : Thread nD τ))) :
    holds c M v ⊢ ptsAt c M (M.view.write (Elt F) f₀ v Finset.univ) := by
  unfold holds ptsAt
  iintro ⟨%f, %hf, H⟩
  iapply (Entails.of_eq (pointsTo_congr (f := f) fun i hi => by
    obtain ⟨x, -, rfl⟩ := Finset.mem_map.mp hi
    rw [View.write_emb_of_mem _ _ (Finset.mem_univ x), ← hf, View.read_apply, cast_cast, cast_eq]))
  iexact H

/-- The result's rows, each block as it should be, are the result's buffer as it should be. -/
theorem join_o (v : Fin 16 → Vec F S128x128 .f32) (f₀ : Buf (Elt F) ((c : Thread nD τ).loc cc0_scratch4)) :
    (bigSep Finset.univ fun j : Fin 16 => holds c (oBlk j) (v j))
      ⊢ iprop(∃ g : Buf (Elt F) ((c : Thread nD τ).loc cc0_scratch4), ⌜∀ j : Fin 16, (oBlk j).view.read (Elt F) g = v j⌝ ∗ ptsAt c oM g) := by
  refine (bigSep_mono fun j _ => holds_pts c (oBlk j) (v j) f₀).trans ?_
  unfold ptsAt
  refine (pointsTo_biUnion_join (ℓ := (c : Thread nD τ).loc cc0_scratch4) Finset.univ (fun j : Fin 16 => (oBlk j).view.set)
    (fun j => (oBlk j).view.write (Elt F) f₀ (v j) Finset.univ) f₀ (fun j _ j' _ h => oBlk_disj j j' h)).trans ?_
  iintro ⟨%g, %hg, H⟩
  iexists g
  isplitr
  · ipureintro
    intro j
    rw [View.read_congr (hg j (Finset.mem_univ _)), View.read_write_univ]
  rw [show (oM : Memref sig .tc .vmem S2048x128 .f32).view.set = Finset.univ.biUnion (β := (cc0_scratch4 : Ref sig .tc).ty.Idx) (fun j : Fin 16 => (oBlk j).view.set) from
    (View.set_whole _).trans oBlk_cover.symm]
  iexact H

end Cert.Proof

end
-- ==== Proof.Moves.lean ====
/-
  The operations after the barrier: the product's operands read, each pair of blocks stored, a block sent or, on its own
  device, kept.
-/
module

public import proofs.«01_k».proof.Proof.Steps
public import proofs.«01_k».proof.Proof.Sets

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD) {α : Type} {Q : α → sProp (MT nD τ sig Unit (Elt F) ℕ UU ℕ)}

/-! ## The rows of `x` -/

/-- A written-out zero offset is the zero offset. -/
theorem zero_off : (![0, 0] : Fin 2 → ℕ) = fun _ => 0 := by decide

/-- Copying the device's rows of `x` in; -/
theorem step_xcopy {src : Memref sig .tc .hbm S128x2048 .f32} {dst : Memref sig .tc .vmem S128x2048 .f32} {sem : DmaSem sig}
    (h₁ : src = aM) (h₂ : dst = xM) (h₃ : sem = xS)
    {hsrc : src.view.WordExact} {hdst : dst.view.WordExact} {hsem : DmaTarget.Typed (nD := nD) (τ := τ) (p := .tc) .hbm (.dma sem) (.here dst)}
    {kk : PUnit → Prog (TpuEff nD τ sig (Elt F) Λ₀ .tc) α} :
    iprop(recs m K ∗ ptsAt c aM (m ((c : Thread nD τ).loc main_arg0)) ∗ anyAt c xM ∗ dutyTok (ER (F := F)) ((c : Thread nD τ), .dma xS) 0 c)
      ⊢ iprop((cred (tallyAt ((c : Thread nD τ), .dma xS) () NX) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma sem) hsrc hdst hsem) kk) Q) := by
  subst h₁ h₂ h₃
  iintro ⟨#HR, Hs, Hd, Ht⟩ Hk
  iapply (start_copy m K c aM xM xS (by rw [role_x]; exact Finset.mem_singleton_self _) rfl
    (m ((c : Thread nD τ).loc main_arg0)) (pay m c c .x) (by rw [role_x]) (by
      intro fd
      iintro ⟨Hd, Hs⟩
      unfold pay ptsAt
      isplitl [Hs]; · iexact Hs
      unfold holds
      iexists (xM.view.write (Elt F) fd (aM.view.read (Elt F) (m ((c : Thread nD τ).loc main_arg0))) Finset.univ)
      isplitr
      · ipureintro; exact View.read_write_univ _ _
      iexact Hd)) $$ [Hs Hd Ht]
  · isplitl []; · iexact HR
    isplitl [Hs]; · iexact Hs
    isplitl [Hd]; · iexact Hd
    iexact Ht
  rw [role_x, show units .x = NX from rfl]
  iexact Hk

/-- waiting for them; -/
theorem step_xwait (n : ℕ) {src : Memref sig .tc .hbm S128x2048 .f32} {dst : Memref sig .tc .vmem S128x2048 .f32} {sem : DmaSem sig}
    (h₂ : dst = xM) (h₃ : sem = xS) {hsrc : src.view.WordExact} {hdst : dst.view.WordExact}
    {kk : PUnit → Prog (TpuEff nD τ sig (Elt F) Λ₀ .tc) α} :
    iprop(recs m K ∗ owing c (owedFrom c n) ∗ cred (tallyAt ((c : Thread nD τ), .dma xS) () NX) ∗ atPos (ER (F := F)) ((c : Thread nD τ), .dma xS) 0 ∅ 0)
      ⊢ iprop(((owing c (owedFrom c n) ∗ semVal ((c : Thread nD τ), .dma xS) 0 ∗ ptsAt c aM (m ((c : Thread nD τ).loc main_arg0)) ∗ holds c xM (xv m c)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  subst h₂ h₃
  iintro ⟨#HR, HO, HC, Hat⟩ Hk
  iapply (wait_all m K c (.dma xS) (owedFrom c n) (may_early m K c _ n (by rw [role_x]; intro j h; nomatch h)) (k' := NX)
    (wpE_waitDma2_eq 𝒱₀ (c : Thread nD τ) none Set.univ (dst := xM)) (by rw [role_x, show payers c .x = {(c : Fin 16)} from rfl, Finset.card_singleton, Nat.one_mul]; rfl)) $$ [HO HC Hat]
  · isplitl []; · iexact HR
    isplitl [HC]; · iexact HC
    isplitl [HO]; · iexact HO
    iexact Hat
  rw [role_x, show payers c .x = {(c : Fin 16)} from rfl, bigSep_singleton, show pay m c c .x = iprop(ptsAt c aM (m ((c : Thread nD τ).loc main_arg0)) ∗ holds c xM (xv m c)) from rfl]
  iexact Hk

/-- and reading them. -/
theorem step_xload {inb : ∀ a, (![0, 0] : Fin 2 → ℕ) a + S128x2048.size a ≤ S128x2048.size a}
    {hl : xM.view.LoadsAt (Rect.unit (s := S128x2048) ![0, 0] S128x2048.size inb).toLoadRect} {kk : Vec F S128x2048 .f32 → Prog (TpuEff nD τ sig (Elt F) Λ₀ .tc) α} :
    holds c xM (xv m c)
      ⊢ iprop((holds c xM (xv m c) -∗ wp frame (wpE (defs₀ (F := F)) 𝒱₀ (c : Thread nD τ) none) Set.univ (kk (xv m c)) Q)
        -∗ wp frame (wpE (defs₀ (F := F)) 𝒱₀ (c : Thread nD τ) none) Set.univ (.op (.load xM (Rect.unit (s := S128x2048) ![0, 0] S128x2048.size inb).toLoadRect hl) kk) Q) := by
  unfold holds
  iintro ⟨%f, %hf, Hd⟩ Hk
  iapply (wp_load_rect 𝒱₀ (c : Thread nD τ) none Set.univ (m := xM) (r := Rect.unit (s := S128x2048) ![0, 0] S128x2048.size inb) (S := xM.view.set)
    (View.set_slice_subset _ _)) $$ [Hd]
  · iexact Hd
  iintro Hd
  rw [show (xM.access (Rect.unit (s := S128x2048) ![0, 0] S128x2048.size inb)).read (Elt F) f = xv m c from
    (Memref.readAt_unit_zero (Elt F) cc0_scratch0 zero_off inb f).trans hf]
  iapply Hk
  iexists f
  isplitr; · ipureintro; exact hf
  iexact Hd

/-! ## The barrier -/

/-- Two families side by side are the family of pairs. -/
theorem zip_places {N : ℕ} (Φ Ψ : Fin N → sProp 𝕄) : iprop(bigSep Finset.univ Φ ∗ bigSep Finset.univ Ψ) ⊢ bigSep Finset.univ fun p => iprop(Φ p ∗ Ψ p) :=
  Entails.of_eq (bigSep_sep Finset.univ Φ Ψ).symm
/-- A product of pairs is the two products. -/
theorem unzip_places {N : ℕ} (Φ Ψ : Fin N → sProp 𝕄) : (bigSep Finset.univ fun p => iprop(Φ p ∗ Ψ p)) ⊢ iprop(bigSep Finset.univ Φ ∗ bigSep Finset.univ Ψ) :=
  Entails.of_eq (bigSep_sep Finset.univ Φ Ψ)

/-- A sum over all devices but `c` is one over the places other than its own. -/
theorem others_places (X : Fin 16 → sProp 𝕄) :
    (bigSep Finset.univ fun p : Fin 16 => if tgt c p = c then iprop(emp) else X (tgt c p)) = bigSep (Finset.univ.erase (c : Fin 16)) X := by
  refine (bigSep_univ_equiv (tgtEquiv c) (fun d : Fin 16 => if d = c then iprop(emp) else X d)).symm.trans ?_
  rw [bigSep_univ_at (fun d : Fin 16 => if d = c then iprop(emp) else X d) c, if_pos rfl,
    bigSep_congr (Ψ := X) fun d hd => if_neg (Finset.mem_erase.mp hd).1]
  exact equiv_iff.mp emp_sep

/-- The rights to send, and what is held for what was sent. -/
def sends (n : ℕ) : sProp 𝕄 :=
  stage n (fun p : Fin 16 => iprop((if tgt c p = c then iprop(emp) else anyAt (tgt c p) (rSlot c))
      ∗ if tgt c p = c then iprop(emp) else iprop(dutyTok (ER (F := F)) ((c : Thread nD τ), .dma (sendS (tgt c p))) 0 c
        ∗ dutyTok (ER (F := F)) ((tgt c p : Thread nD τ), .dma (recvS c)) 0 c)))
    fun p => if tgt c p = c then anyAt c (ySub p) else cred (tallyAt ((c : Thread nD τ), .dma (sendS (tgt c p))) () NB)
def sendRights : sProp 𝕄 :=
  bigSep Finset.univ fun p : Fin 16 => if tgt c p = c then iprop(emp) else iprop(dutyTok (ER (F := F)) ((c : Thread nD τ), .dma (sendS (tgt c p))) 0 c
        ∗ dutyTok (ER (F := F)) ((tgt c p : Thread nD τ), .dma (recvS c)) 0 c)

/-- The barrier comes to fifteen. -/
theorem card_bar : (payers c .bar).card * units .bar = 15 := by
  rw [show payers c .bar = Finset.univ.erase (c : Fin 16) from rfl, Finset.card_erase_of_mem (Finset.mem_univ _), Finset.card_univ]; rfl

/-- The barrier passed, every other device's slot for this device's block is at hand. -/
theorem step_barrier {kk : PUnit → Prog (TpuEff nD τ sig (Elt F) Λ₀ .tc) α} :
    iprop(recs m K ∗ owing c (owedFrom c 0) ∗ cred (tallyAt ((c : Thread nD τ), .reg barS) () 15) ∗ atPos (ER (F := F)) ((c : Thread nD τ), .reg barS) 0 ∅ 0
        ∗ sendRights c)
      ⊢ iprop(((owing c (owedFrom c 0) ∗ semVal ((c : Thread nD τ), .reg barS) 0 ∗ sends c 0) -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS (15#32 : BitVec 32).toInt) kk) Q) := by
  iintro ⟨#HR, HO, HC, Hat, Ht⟩ Hk
  iapply (wait_all m K c (.reg barS) (owedFrom c 0) (may_early m K c _ 0 (by rw [role_bar]; intro j h; nomatch h)) (k' := 15)
    (wpE_semWait_eq 𝒱₀ (c : Thread nD τ) none Set.univ (sem := barS) (k := 15)) (by rw [role_bar, card_bar])) $$ [HO HC Hat]
  · isplitl []; · iexact HR
    isplitl [HC]; · iexact HC
    isplitl [HO]; · iexact HO
    iexact Hat
  rw [role_bar, show payers c .bar = Finset.univ.erase (c : Fin 16) from rfl, bigSep_congr (Ψ := fun d : Fin 16 => anyAt (F := F) d (rSlot c)) fun d _ => pay_bar m c d,
    ← others_places c (fun d => anyAt d (rSlot c))]
  iintro ⟨HO, Hz, Hp⟩
  iapply Hk
  isplitl [HO]; · iexact HO
  isplitl [Hz]; · iexact Hz
  unfold sends sendRights
  rw [stage_zero]
  iapply (zip_places (fun p : Fin 16 => if tgt c p = c then iprop(emp) else anyAt (F := F) (tgt c p) (rSlot c))
    (fun p : Fin 16 => if tgt c p = c then iprop(emp) else iprop(dutyTok (ER (F := F)) ((c : Thread nD τ), .dma (sendS (tgt c p))) 0 c
        ∗ dutyTok (ER (F := F)) ((tgt c p : Thread nD τ), .dma (recvS c)) 0 c)))
  isplitl [Hp]; · iexact Hp
  iexact Ht

/-! ## The pairs of blocks -/

abbrev yPair (k : Fin 8) : Memref sig .tc .vmem S1x128x256 .bf16 := yM.slice (yRect k) (fun _ => rfl)
/-- The slabs not yet stored. -/
def slabs (n : ℕ) : sProp 𝕄 := stage n (fun k : Fin 8 => anyAt c (yPair k)) fun _ => iprop(emp)
def slabOpen (k : Fin 8) : sProp 𝕄 := iprop(anyAt c (yPair k) ∗ slabs c (k.val + 1))
/-- The `p`-th block, stored. -/
def block (p : Fin 16) : sProp 𝕄 := ptsAt c (ySub p) (yBuf m c (half p))

/-- Reading a pair's place before it is overwritten changes nothing. -/
theorem step_yload (k : Fin 8) {hl : yM.view.LoadsAt (yRect k).toLoadRect} {kk : Vec F S1x128x256 .bf16 → Prog (TpuEff nD τ sig (Elt F) Λ₀ .tc) α} :
    slabs c k.val ⊢ iprop((∀ v, slabOpen c k -∗ wp frame (wpE (defs₀ (F := F)) 𝒱₀ (c : Thread nD τ) none) Set.univ (kk v) Q) -∗ wp frame (wpE (defs₀ (F := F)) 𝒱₀ (c : Thread nD τ) none) Set.univ (.op (.load yM (yRect k).toLoadRect hl) kk) Q) := by
  unfold slabOpen slabs anyAt
  iintro HS Hk
  icases (stage_step k _ _) $$ HS with ⟨⟨%f, Hd⟩, HS⟩
  iapply (wp_load_rect 𝒱₀ (c : Thread nD τ) none Set.univ (m := yM) (r := yRect k) (S := (yPair k).view.set) (Finset.Subset.refl _)) $$ [Hd]
  · iexact Hd
  iintro Hd
  ispecialize Hk $$ %_
  iapply Hk
  isplitl [Hd]
  · iexists f; iexact Hd
  iapply HS; iempintro

/-- The buffer after a pair is stored holds the pair in its place. -/
theorem yBuf_emb (k : Fin 8) (x : S1x128x256.Idx) : yBuf m c k ((yM.access (yRect k)).emb x) = stored m c k x :=
  View.write_emb_of_mem _ _ (Finset.mem_univ x)

/-- Storing a pair of blocks puts each in its place. -/
theorem step_ystore (k : Fin 8) {w : Vec F S1x128x256 .bf16} (hw : w = stored m c k) {hx : (yM.access (yRect k)).Stores Finset.univ}
    {hm : (Finset.univ : Finset (yRect k).shape.Idx) = Finset.univ ∨ ∀ a, (yRect k).stride a = 1} {kk : PUnit → Prog (TpuEff nD τ sig (Elt F) Λ₀ .tc) α} :
    slabOpen c k
      ⊢ iprop(((block m c (fst k) ∗ block m c (snd k) ∗ slabs c (k.val + 1)) -∗ wp frame (wpE (defs₀ (F := F)) 𝒱₀ (c : Thread nD τ) none) Set.univ (kk ⟨⟩) Q)
        -∗ wp frame (wpE (defs₀ (F := F)) 𝒱₀ (c : Thread nD τ) none) Set.univ (.op (.store yM (yRect k) w Finset.univ hx hm) kk) Q) := by
  subst hw
  unfold slabOpen block ptsAt anyAt
  iintro ⟨⟨%f, Hd⟩, HS⟩ Hk
  iapply (wp_store 𝒱₀ (c : Thread nD τ) none Set.univ (m := yM) (r := yRect k) (S := (yPair k).view.set) (Finset.Subset.refl _)) $$ [Hd]
  · iexact Hd
  iintro Hd
  iapply Hk
  ihave Hd := (Entails.of_eq (pointsTo_congr (g := yBuf m c k) fun i hi => by
    obtain ⟨x, -, rfl⟩ := Finset.mem_map.mp hi
    exact (View.write_emb_of_mem _ _ (Finset.mem_univ x)).trans (yBuf_emb m c k x).symm)) $$ Hd
  rw [half_fst, half_snd, show (yPair k).view.set = (ySub (fst k)).view.set ∪ (ySub (snd k)).view.set from pair_set k]
  icases (pointsTo_union (pair_disj k)).1 $$ Hd with ⟨H₁, H₂⟩
  isplitl [H₁]; · iexact H₁
  isplitl [H₂]; · iexact H₂
  iexact HS

/-! ## Sending -/

/-- A device itself pays for what it sends; -/
theorem payers_send (d : Fin 16) (h : d ≠ c) : payers c (.send d) = {(c : Fin 16)} := if_neg h
/-- the sender pays for what is received. -/
theorem payers_recv (c : Dev nD) (j : Fin 16) (h : j ≠ c) : payers c (.recv j) = {j} := if_neg h
/-- With the payment for a sent block comes the block's place, to be used again. -/
theorem pay_send (d j : Fin 16) : pay m c d (.send j) = anyAt (F := F) c (ySub (pos c j)) := rfl
/-- With the payment for a received block comes the slot that holds it. -/
theorem pay_recv (c : Dev nD) (d j : Fin 16) : pay m c d (.recv j) = holds c (rSlot j) (sendVal m j (pos j c)) := rfl
/-- A sent block comes to the units of a block; -/
theorem units_send (d : Fin 16) : units (.send d) = NB := rfl
/-- so does a received one. -/
theorem units_recv (d : Fin 16) : units (.recv d) = NB := rfl

/-- Sending the `p`-th block: it and the right to write the other device's slot are given away, and the debt for it is paid. -/
theorem step_send (p : Fin 16) (hp : tgt c p ≠ c) {d' : Dev nD} (hd : d' = tgt c p) {src dst : Memref sig .tc .vmem S128x128 .bf16} {sS sR : DmaSem sig}
    (h₁ : src = ySub p) (h₂ : dst = rSlot c) (h₃ : sS = sendS (tgt c p)) (h₄ : sR = recvS c)
    {hsc : (dst : Memref sig (Dev.tc d' : Thread nD τ).2.kind .vmem S128x128 .bf16).view.ref.isScScratch = false}
    {hsrc : src.view.WordExact} {hdst : dst.view.WordExact}
    {hsem : DmaTarget.Typed .vmem (.dma sR) (.remote (Dev.tc d' : Thread nD τ) (dst : Memref sig (Dev.tc d' : Thread nD τ).2.kind .vmem S128x128 .bf16) (.dma sS) hsc)}
    {kk : PUnit → Prog (TpuEff nD τ sig (Elt F) Λ₀ .tc) α} :
    iprop(recs m K ∗ owing c (owedFrom c p.val) ∗ sends c p.val ∗ block m c p)
      ⊢ iprop(((owing c (owedFrom c (p.val + 1)) ∗ sends c (p.val + 1)) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.remote (Dev.tc d' : Thread nD τ) dst (.dma sS) hsc) (.dma sR) hsrc hdst hsem) kk) Q) := by
  subst hd h₁ h₂ h₃ h₄
  unfold owing sends block ptsAt
  iintro ⟨#HR, ⟨%W, HO⟩, HS, Hb⟩ Hk
  icases (stage_step p _ _) $$ HS with ⟨HΦ, HS⟩
  rw [if_neg hp, if_neg hp, if_neg hp]
  icases HΦ with ⟨Hd, Ht₁, Ht₂⟩
  unfold anyAt
  icases Hd with ⟨%fd, Hd⟩
  iapply (Rounds.wp_send_pointsTo 𝒱₀ (ER (F := F)) (Rd m) (c : Thread nD τ) none (κ₁ := K (c, .dma (sendS (tgt c p)))) (κ₂ := K (tgt c p, .dma (recvS c)))
    (c' := (Dev.tc (tgt c p) : Thread nD τ)) (src := ySub p) (dst := rSlot c) (sS := .dma (sendS (tgt c p))) (sem := .dma (recvS c)) (r₁ := 0) (r₂ := 0) (d₁ := (c : Fin 16)) (d₂ := (c : Fin 16)) (fs := yBuf m c (half p)) (fd := fd)
    (by rw [duties_eq, role_send, payers_send _ _ hp]; exact Finset.mem_singleton_self _)
    (by rw [duties_eq, role_recv, payers_recv _ _ hp.symm]; exact Finset.mem_singleton_self _)
    () () NB (credit_r c) (by rw [amount_eq, role_send, units_send]) (by rw [amount_eq, role_recv, units_recv])
    (O₀ := owedFrom c p.val) (owedFrom c (p.val + 1)) (by rw [owedFrom_step, sendOwed, if_neg hp]) (W := W)
    (by rw [payload_eq, role_send, pay_send, pos_tgt]; unfold anyAt; iintro H; iexists (yBuf m c (half p)); iexact H)
    (by
      rw [payload_eq, role_recv, pay_recv, pos_tgt]; unfold holds; iintro H
      iexists ((rSlot c).view.write (Elt F) fd ((ySub p).view.read (Elt F) (yBuf m c (half p))) Finset.univ)
      isplitr; · ipureintro; exact View.read_write_univ _ _
      iexact H)) $$ [HO Hb Hd Ht₁ Ht₂]
  · isplitl []; · iapply (recs_inv m K c (.dma (sendS (tgt c p)))); iexact HR
    isplitl []; · iapply (recs_inv m K (tgt c p) (.dma (recvS c))); iexact HR
    isplitl [Hb]; · iexact Hb
    isplitl [Hd]; · iexact Hd
    isplitl [HO]; · iexact HO
    isplitl [Ht₁]; · iexact Ht₁
    isplitl []; · iapply (recs_reached m K c (.dma (sendS (tgt c p)))); iexact HR
    isplitl [Ht₂]; · iexact Ht₂
    iapply (recs_reached m K (tgt c p) (.dma (recvS c))); iexact HR
  iintro ⟨HC, HO⟩
  iapply Hk
  isplitl [HO]; · iexists _; iexact HO
  iapply HS; iexact HC

/-- The device's own block isn't sent. -/
theorem skip_send (p : Fin 16) (hp : tgt c p = c) :
    iprop(owing c (owedFrom c p.val) ∗ sends c p.val ∗ block m c p) ⊢ iprop(owing c (owedFrom c (p.val + 1)) ∗ sends c (p.val + 1)) := by
  unfold sends block
  iintro ⟨HO, HS, Hb⟩
  icases (stage_step p _ _) $$ HS with ⟨HΦ, HS⟩
  rw [if_pos hp, if_pos hp, if_pos hp, show owedFrom c p.val = owedFrom c (p.val + 1) by rw [owedFrom_step, sendOwed, if_pos hp, add_zero]]
  isplitl [HO]; · iexact HO
  iapply HS
  iapply (pts_any c (ySub p)); iexact Hb

end Cert.Proof

end
-- ==== Proof.Ends.lean ====
/-
  The operations of the kernel's end: the device's own block kept, the other devices' blocks received and widened, the
  waits for what was sent, and the copy of the result; and those that the kernel carries out only on some devices.
-/
module

public import proofs.«01_k».proof.Proof.Moves

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD) {α : Type} {Q : α → sProp (MT nD τ sig Unit (Elt F) ℕ UU ℕ)}

/-- A printed condition that is one exactly when `p` holds. -/
theorem one_of {p : Prop} [Decidable p] {x : BitVec 1} (hx : x = if p then 1#1 else 0#1) : x = 1#1 ↔ p := by
  subst hx; split <;> simp_all
/-- A printed condition that is one exactly when `p` fails. -/
theorem one_of_not {p : Prop} [Decidable p] {x : BitVec 1} (hx : x = if p then 0#1 else 1#1) : x = 1#1 ↔ ¬p := by
  subst hx; split <;> simp_all

/-! ## Rows of the result -/

/-- Reading rows of the result before they are overwritten changes nothing. -/
theorem step_oload (X : sProp (MT nD τ sig Unit (Elt F) ℕ UU ℕ)) (j : Fin 16) {off : Fin 2 → ℕ} (ho : off = ![128 * j.val, 0]) {inb : ∀ a, off a + S128x128.size a ≤ S2048x128.size a}
    {hl : oM.view.LoadsAt (Rect.unit (s := S2048x128) off S128x128.size inb).toLoadRect} {kk : Vec F S128x128 .f32 → Prog (TpuEff nD τ sig (Elt F) Λ₀ .tc) α} :
    iprop(anyAt c (oBlk j) ∗ X)
      ⊢ iprop((∀ v, (anyAt c (oBlk j) ∗ X) -∗ wp frame (wpE (defs₀ (F := F)) 𝒱₀ (c : Thread nD τ) none) Set.univ (kk v) Q)
        -∗ wp frame (wpE (defs₀ (F := F)) 𝒱₀ (c : Thread nD τ) none) Set.univ (.op (.load oM (Rect.unit (s := S2048x128) off S128x128.size inb).toLoadRect hl) kk) Q) := by
  subst ho
  unfold anyAt
  iintro ⟨⟨%f, Hd⟩, HX⟩ Hk
  iapply (wp_load_rect 𝒱₀ (c : Thread nD τ) none Set.univ (m := oM) (r := oRect j) (S := (oBlk j).view.set) (Finset.Subset.refl _)) $$ [Hd]
  · iexact Hd
  iintro Hd
  ispecialize Hk $$ %_
  iapply Hk
  isplitl [Hd]
  · iexists f; iexact Hd
  iexact HX

/-- Storing the device's own block puts it in its rows. -/
theorem step_ostore (j : Fin 16) (v : Vec F S128x128 .f32) {off : Fin 2 → ℕ} (ho : off = ![128 * j.val, 0]) {inb : ∀ a, off a + S128x128.size a ≤ S2048x128.size a}
    {w : Vec F S128x128 .f32} (hw : w = v) {hx : (oM.access (Rect.unit (s := S2048x128) off S128x128.size inb)).Stores Finset.univ}
    {hm : (Finset.univ : Finset (Rect.unit (s := S2048x128) off S128x128.size inb).shape.Idx) = Finset.univ ∨ ∀ a, (Rect.unit (s := S2048x128) off S128x128.size inb).stride a = 1}
    {kk : PUnit → Prog (TpuEff nD τ sig (Elt F) Λ₀ .tc) α} :
    anyAt c (oBlk j)
      ⊢ iprop((holds c (oBlk j) v -∗ wp frame (wpE (defs₀ (F := F)) 𝒱₀ (c : Thread nD τ) none) Set.univ (kk ⟨⟩) Q)
        -∗ wp frame (wpE (defs₀ (F := F)) 𝒱₀ (c : Thread nD τ) none) Set.univ (.op (.store oM (Rect.unit (s := S2048x128) off S128x128.size inb) w Finset.univ hx hm) kk) Q) := by
  subst ho hw
  unfold anyAt holds
  iintro ⟨%f, Hd⟩ Hk
  iapply (wp_store 𝒱₀ (c : Thread nD τ) none Set.univ (m := oM) (r := oRect j) (S := (oBlk j).view.set) (Finset.Subset.refl _)) $$ [Hd]
  · iexact Hd
  iintro Hd
  iapply Hk
  iexists ((oM.access (oRect j)).write (Elt F) f w Finset.univ)
  isplitr
  · ipureintro; exact View.read_write_univ (v := oM.access (oRect j)) _ _
  iexact Hd

/-! ## The device's own block -/

/-- The rows of the device's own block, with the first `b` blocks of its group passed. -/
def own (b : ℕ) : sProp 𝕄 := if (pos c c).val < 12 + b then holds c (oBlk c) (outVal m c c) else anyAt c (oBlk c)

/-- The block a device keeps is its own, unrounded. -/
theorem outVal_own : outVal m c c = ownVal m c (pos c c) := if_pos rfl
/-- Every other block is the one sent by its device, widened. -/
theorem outVal_other (j : Dev nD) (h : j ≠ c) : outVal m c j = extf .f32 (sendVal m j (pos j c)) bitsLt_bf16_f32 := if_neg h
/-- A device's own block is among its last four. -/
theorem pos_own : ∀ c : Fin 16, 12 ≤ (pos c c).val := by decide +kernel
/-- Before the last four blocks the device's own rows hold anything; -/
theorem own_start : own m c 0 = anyAt c (oBlk c) := if_neg (by have := pos_own c; omega)
/-- after them they hold its own block. -/
theorem own_end : own m c 4 = holds c (oBlk c) (outVal m c c) := if_pos (by have := (pos c c).isLt; omega)

/-- Block `12 + b` is kept where it is the device's own, and passed over otherwise. -/
theorem own_if (b : ℕ) (p : Fin 16) (hb : p.val = 12 + b) {x : BitVec 1} (hx : x = if tgt c p = c then 1#1 else 0#1)
    {off : Fin 2 → ℕ} (ho : off = ![128 * c.val, 0]) {inb : x = 1#1 → ∀ a, off a + S128x128.size a ≤ S2048x128.size a}
    {w : Vec F S128x128 .f32} (hw : w = ownVal m c p)
    {hl : ∀ h : x = 1#1, oM.view.LoadsAt (Rect.unit (s := S2048x128) off S128x128.size (inb h)).toLoadRect}
    {hs : ∀ h : x = 1#1, (oM.access (Rect.unit (s := S2048x128) off S128x128.size (inb h))).Stores Finset.univ}
    {hm : ∀ h : x = 1#1, (Finset.univ : Finset (Rect.unit (s := S2048x128) off S128x128.size (inb h)).shape.Idx) = Finset.univ ∨ ∀ a, (Rect.unit (s := S2048x128) off S128x128.size (inb h)).stride a = 1}
    {β : Type} {P : Prog (TpuEff nD τ sig (Elt F) Λ₀ .tc) β} {kk : β → Prog (TpuEff nD τ sig (Elt F) Λ₀ .tc) α} :
    own m c b
      ⊢ iprop((own m c (b + 1) -∗ wp frame (wpE (defs₀ (F := F)) 𝒱₀ (c : Thread nD τ) none) Set.univ (P >>= kk) Q)
        -∗ wp frame (wpE (defs₀ (F := F)) 𝒱₀ (c : Thread nD τ) none) Set.univ (Bind.bind (dite (x = 1#1)
            (fun h => .op (.load oM (Rect.unit (s := S2048x128) off S128x128.size (inb h)).toLoadRect (hl h)) fun _ =>
              .op (.store oM (Rect.unit (s := S2048x128) off S128x128.size (inb h)) w Finset.univ (hs h) (hm h)) fun _ => P)
            (fun _ => P) : Prog (TpuEff nD τ sig (Elt F) Λ₀ .tc) β) kk) Q) := by
  by_cases h : tgt c p = c
  · rw [dif_pos ((one_of hx).mpr h)]
    simp only [Prog.bind_op]
    have hpos : pos c c = p := by rw [← pos_tgt c p, h]
    rw [own, if_neg (by rw [hpos]; omega), own, if_pos (by rw [hpos]; omega)]
    iintro HO Hk
    iapply (step_oload c iprop(emp) c ho) $$ [HO]
    · isplitl [HO]; · iexact HO
      iempintro
    iintro %v ⟨HO, -⟩
    iapply (step_ostore c c (outVal m c c) ho (hw.trans (by rw [outVal_own, hpos]))) $$ [HO]
    · iexact HO
    iintro HO
    iapply Hk; iexact HO
  · rw [dif_neg (fun h' => h ((one_of hx).mp h'))]
    have hpos : (pos c c).val ≠ p.val := fun h' => h (by rw [← Fin.ext h', tgt_pos])
    have : own m c (b + 1) = own m c b := by
      unfold own; exact if_congr (by omega) rfl rfl
    rw [this]
    iintro HO Hk
    iapply Hk; iexact HO

/-- Sending, unless the block is the device's own. -/
theorem send_if (p : Fin 16) {x : BitVec 1} (hx : x = if tgt c p = c then 0#1 else 1#1) {d' : x = 1#1 → Dev nD} (hd : ∀ h, d' h = tgt c p)
    {src : Memref sig .tc .vmem S128x128 .bf16} {dst : x = 1#1 → Memref sig .tc .vmem S128x128 .bf16} {sS sR : x = 1#1 → DmaSem sig}
    (h₁ : src = ySub p) (h₂ : ∀ h, dst h = rSlot c) (h₃ : ∀ h, sS h = sendS (tgt c p)) (h₄ : ∀ h, sR h = recvS c)
    {hsc : ∀ h : x = 1#1, (dst h : Memref sig (Dev.tc (d' h) : Thread nD τ).2.kind .vmem S128x128 .bf16).view.ref.isScScratch = false}
    {hsrc : src.view.WordExact} {hdst : ∀ h, (dst h).view.WordExact}
    {hsem : ∀ h : x = 1#1, DmaTarget.Typed .vmem (.dma (sR h)) (.remote (Dev.tc (d' h) : Thread nD τ) (dst h : Memref sig (Dev.tc (d' h) : Thread nD τ).2.kind .vmem S128x128 .bf16) (.dma (sS h)) (hsc h))}
    {β : Type} {P : Prog (TpuEff nD τ sig (Elt F) Λ₀ .tc) β} {kk : β → Prog (TpuEff nD τ sig (Elt F) Λ₀ .tc) α} :
    iprop(recs m K ∗ owing c (owedFrom c p.val) ∗ sends c p.val ∗ block m c p)
      ⊢ iprop(((owing c (owedFrom c (p.val + 1)) ∗ sends c (p.val + 1)) -∗ wp frame (wpE (defs₀ (F := F)) 𝒱₀ (c : Thread nD τ) none) Set.univ (P >>= kk) Q)
        -∗ wp frame (wpE (defs₀ (F := F)) 𝒱₀ (c : Thread nD τ) none) Set.univ (Bind.bind (dite (x = 1#1)
            (fun h => .op (.enqueueDma src (.remote (Dev.tc (d' h) : Thread nD τ) (dst h) (.dma (sS h)) (hsc h)) (.dma (sR h)) hsrc (hdst h) (hsem h)) fun _ => P)
            (fun _ => P) : Prog (TpuEff nD τ sig (Elt F) Λ₀ .tc) β) kk) Q) := by
  by_cases h : tgt c p = c
  · rw [dif_neg (fun h' => (one_of_not hx).mp h' h)]
    iintro ⟨-, HO, HS, Hb⟩ Hk
    iapply Hk
    iapply (skip_send m c p h)
    isplitl [HO]; · iexact HO
    isplitl [HS]; · iexact HS
    iexact Hb
  · rw [dif_pos ((one_of_not hx).mpr h)]
    simp only [Prog.bind_op]
    exact step_send m K c p h (hd _) h₁ (h₂ _) (h₃ _) (h₄ _) (kk := fun _ => P >>= kk)

/-! ## Receiving -/

/-- What is held of the blocks received: with `n` of them dealt with, at their places the rows of the result made. -/
def recvs (n : ℕ) : sProp 𝕄 :=
  stage n (fun p : Fin 16 => iprop(atPos (ER (F := F)) ((c : Thread nD τ), .dma (recvS (tgt c p))) 0 ∅ 0
      ∗ if tgt c p = c then iprop(emp) else iprop(cred (tallyAt ((c : Thread nD τ), .dma (recvS (tgt c p))) () NB) ∗ anyAt c (oBlk (tgt c p)))))
    fun p => iprop(semVal ((c : Thread nD τ), .dma (recvS (tgt c p))) 0
      ∗ if tgt c p = c then iprop(emp) else iprop(anyAt c (rSlot (tgt c p)) ∗ holds c (oBlk (tgt c p)) (outVal m c (tgt c p))))
/-- The `p`-th block arrived; -/
def arrived (p : Fin 16) : sProp 𝕄 :=
  iprop(holds c (rSlot (tgt c p)) (sendVal m (tgt c p) (pos (tgt c p) c)) ∗ anyAt c (oBlk (tgt c p))
    ∗ (anyAt c (rSlot (tgt c p)) -∗ holds c (oBlk (tgt c p)) (outVal m c (tgt c p)) -∗ recvs m c (p.val + 1)))
/-- and read. -/
def taken (p : Fin 16) : sProp 𝕄 :=
  iprop(anyAt c (oBlk (tgt c p)) ∗ (holds c (oBlk (tgt c p)) (outVal m c (tgt c p)) -∗ recvs m c (p.val + 1)))

/-- Waiting for a block brings it into its slot. -/
theorem step_rwait (p : Fin 16) (hp : tgt c p ≠ c) {src dst : Memref sig .tc .vmem S128x128 .bf16} {sR : DmaSem sig}
    (h₂ : dst = rSlot (tgt c p)) (h₃ : sR = recvS (tgt c p)) {hsrc : src.view.WordExact} {hdst : dst.view.WordExact}
    {kk : PUnit → Prog (TpuEff nD τ sig (Elt F) Λ₀ .tc) α} :
    iprop(recs m K ∗ owing c 0 ∗ recvs m c p.val)
      ⊢ iprop(((owing c 0 ∗ arrived m c p) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sR src dst hsrc hdst) kk) Q) := by
  subst h₂ h₃
  unfold arrived recvs
  iintro ⟨#HR, HO, HS⟩ Hk
  icases (stage_step p _ _) $$ HS with ⟨HΦ, HS⟩
  rw [if_neg hp, if_neg hp, show NB = (rSlot (tgt c p)).view.dmaCredit from (credit_r _).symm]
  icases HΦ with ⟨Hat, HC, Ho⟩
  iapply (wait_all m K c (.dma (recvS (tgt c p))) 0 (may_end m K c _)
    (wpE_waitDma2_eq 𝒱₀ (c : Thread nD τ) none Set.univ (dst := rSlot (tgt c p))) (by rw [role_recv, credit_r, units_recv, payers_recv _ _ hp, Finset.card_singleton, Nat.one_mul])) $$ [HO HC Hat]
  · isplitl []; · iexact HR
    isplitl [HC]; · iexact HC
    isplitl [HO]; · iexact HO
    iexact Hat
  rw [role_recv, payers_recv _ _ hp, bigSep_singleton, pay_recv]
  iintro ⟨HO, Hz, Hd⟩
  iapply Hk
  isplitl [HO]; · iexact HO
  isplitl [Hd]; · iexact Hd
  isplitl [Ho]; · iexact Ho
  iintro Hr Ho
  iapply HS
  isplitl [Hz]; · iexact Hz
  isplitl [Hr]; · iexact Hr
  iexact Ho

/-- A load from a slot stays within it. -/
theorem slot_set (j : Fin 16) : (rM.access (Rect.unit (s := S16x128x128) ![j.val, 0, 0] S1x128x128.size (slot_inb j))).set ⊆ (rSlot j).view.set := by
  rw [show (rSlot j).view.set = (rM.access (Rect.unit (s := S16x128x128) ![j.val, 0, 0] S1x128x128.size (slot_inb j))).set from View.set_reshape _ _]

/-- A load from a slot gives the block sent to it. -/
theorem step_rload (p : Fin 16) {off : Fin 3 → ℕ} (ho : off = ![(tgt c p).val, 0, 0]) {inb : ∀ a, off a + S1x128x128.size a ≤ S16x128x128.size a}
    {hl : rM.view.LoadsAt (Rect.unit (s := S16x128x128) off S1x128x128.size inb).toLoadRect} {kk : Vec F S1x128x128 .bf16 → Prog (TpuEff nD τ sig (Elt F) Λ₀ .tc) α} :
    arrived m c p
      ⊢ iprop((∀ v, ⌜shapeCast S128x128 v shapeCasts_S1x128x128_S128x128 = sendVal m (tgt c p) (pos (tgt c p) c)⌝ -∗ taken m c p -∗ wp frame (wpE (defs₀ (F := F)) 𝒱₀ (c : Thread nD τ) none) Set.univ (kk v) Q)
        -∗ wp frame (wpE (defs₀ (F := F)) 𝒱₀ (c : Thread nD τ) none) Set.univ (.op (.load rM (Rect.unit (s := S16x128x128) off S1x128x128.size inb).toLoadRect hl) kk) Q) := by
  subst ho
  unfold arrived taken holds
  iintro ⟨⟨%f, %hf, Hd⟩, Ho, HS⟩ Hk
  iapply (wp_load_rect 𝒱₀ (c : Thread nD τ) none Set.univ (m := rM) (r := Rect.unit (s := S16x128x128) ![(tgt c p).val, 0, 0] S1x128x128.size (slot_inb (tgt c p))) (slot_set (tgt c p))) $$ [Hd]
  · iexact Hd
  iintro Hd
  ispecialize Hk $$ %_
  iapply Hk
  · ipureintro; exact hf
  isplitl [Ho]; · iexact Ho
  iapply HS
  unfold anyAt
  iexists f; iexact Hd

/-- Reading a block's rows before they are overwritten changes nothing. -/
theorem step_rold (p : Fin 16) {off : Fin 2 → ℕ} (ho : off = ![128 * (tgt c p).val, 0]) {inb : ∀ a, off a + S128x128.size a ≤ S2048x128.size a}
    {hl : oM.view.LoadsAt (Rect.unit (s := S2048x128) off S128x128.size inb).toLoadRect} {kk : Vec F S128x128 .f32 → Prog (TpuEff nD τ sig (Elt F) Λ₀ .tc) α} :
    taken m c p
      ⊢ iprop((∀ v, taken m c p -∗ wp frame (wpE (defs₀ (F := F)) 𝒱₀ (c : Thread nD τ) none) Set.univ (kk v) Q) -∗ wp frame (wpE (defs₀ (F := F)) 𝒱₀ (c : Thread nD τ) none) Set.univ (.op (.load oM (Rect.unit (s := S2048x128) off S128x128.size inb).toLoadRect hl) kk) Q) := by
  unfold taken
  exact step_oload c _ (tgt c p) ho

/-- Storing a received block puts it in its rows. -/
theorem step_rstore (p : Fin 16) (hp : tgt c p ≠ c) {off : Fin 2 → ℕ} (ho : off = ![128 * (tgt c p).val, 0]) {inb : ∀ a, off a + S128x128.size a ≤ S2048x128.size a}
    {w : Vec F S128x128 .f32} (hw : w = extf .f32 (sendVal m (tgt c p) (pos (tgt c p) c)) bitsLt_bf16_f32)
    {hx : (oM.access (Rect.unit (s := S2048x128) off S128x128.size inb)).Stores Finset.univ}
    {hm : (Finset.univ : Finset (Rect.unit (s := S2048x128) off S128x128.size inb).shape.Idx) = Finset.univ ∨ ∀ a, (Rect.unit (s := S2048x128) off S128x128.size inb).stride a = 1}
    {kk : PUnit → Prog (TpuEff nD τ sig (Elt F) Λ₀ .tc) α} :
    taken m c p
      ⊢ iprop((recvs m c (p.val + 1) -∗ wp frame (wpE (defs₀ (F := F)) 𝒱₀ (c : Thread nD τ) none) Set.univ (kk ⟨⟩) Q) -∗ wp frame (wpE (defs₀ (F := F)) 𝒱₀ (c : Thread nD τ) none) Set.univ (.op (.store oM (Rect.unit (s := S2048x128) off S128x128.size inb) w Finset.univ hx hm) kk) Q) := by
  unfold taken
  iintro ⟨Ho, HS⟩ Hk
  iapply (step_ostore c (tgt c p) (outVal m c (tgt c p)) ho (hw.trans (outVal_other m c _ hp).symm)) $$ [Ho]
  · iexact Ho
  iintro Ho
  iapply Hk
  iapply HS; iexact Ho

/-- A semaphore nobody pays is done with at once. -/
theorem close_idle (sm : SemLoc sig) (h : payers c (role sm) = ∅) :
    iprop(recs m K ∗ atPos (ER (F := F)) ((c : Thread nD τ), sm) 0 ∅ 0) ⊢ |={Set.univ}=> semVal ((c : Thread nD τ), sm) 0 := by
  iintro ⟨#HR, Hat⟩
  ihave Hi := (recs_inv m K c sm) $$ HR
  iapply (Rounds.cell_close (ER (F := F)) (Rd m) (Set.mem_univ (K (c, sm))) (fun h => h) (R := 0) (fun r _ => by
    rcases Nat.eq_zero_or_pos r with rfl | hr
    · rw [duties_eq, h]
    · exact duties_later m _ r hr))
  isplitl [Hi]; · iexact Hi
  iexact Hat

/-- Nobody pays a device's receiving semaphore for its own block, -/
theorem payers_recv_own (j : Fin 16) (h : j = c) : payers c (.recv j) = ∅ := if_pos h
/-- nor its sending semaphore for it. -/
theorem payers_send_own (d : Fin 16) (h : d = c) : payers c (.send d) = ∅ := if_pos h

/-- Receiving, unless the place is the device's own. -/
theorem recv_if (p : Fin 16) {x : BitVec 1} (hx : x = if tgt c p = c then 0#1 else 1#1)
    {src : Memref sig .tc .vmem S128x128 .bf16} {dst : x = 1#1 → Memref sig .tc .vmem S128x128 .bf16} {sR : x = 1#1 → DmaSem sig}
    (h₂ : ∀ h, dst h = rSlot (tgt c p)) (h₃ : ∀ h, sR h = recvS (tgt c p)) {hsrc : src.view.WordExact} {hdst : ∀ h, (dst h).view.WordExact}
    {off : Fin 3 → ℕ} (ho : off = ![(tgt c p).val, 0, 0]) {inb : x = 1#1 → ∀ a, off a + S1x128x128.size a ≤ S16x128x128.size a}
    {hl : ∀ h : x = 1#1, rM.view.LoadsAt (Rect.unit (s := S16x128x128) off S1x128x128.size (inb h)).toLoadRect}
    {off' : Fin 2 → ℕ} (ho' : off' = ![128 * (tgt c p).val, 0]) {inb' : x = 1#1 → ∀ a, off' a + S128x128.size a ≤ S2048x128.size a}
    {hl' : ∀ h : x = 1#1, oM.view.LoadsAt (Rect.unit (s := S2048x128) off' S128x128.size (inb' h)).toLoadRect}
    {w : Vec F S1x128x128 .bf16 → Vec F S128x128 .f32} (hw : ∀ v, w v = extf .f32 (shapeCast S128x128 v shapeCasts_S1x128x128_S128x128) bitsLt_bf16_f32)
    {hs : ∀ h : x = 1#1, (oM.access (Rect.unit (s := S2048x128) off' S128x128.size (inb' h))).Stores Finset.univ}
    {hm : ∀ h : x = 1#1, (Finset.univ : Finset (Rect.unit (s := S2048x128) off' S128x128.size (inb' h)).shape.Idx) = Finset.univ ∨ ∀ a, (Rect.unit (s := S2048x128) off' S128x128.size (inb' h)).stride a = 1}
    {β : Type} {P : Prog (TpuEff nD τ sig (Elt F) Λ₀ .tc) β} {kk : β → Prog (TpuEff nD τ sig (Elt F) Λ₀ .tc) α} :
    iprop(recs m K ∗ owing c 0 ∗ recvs m c p.val)
      ⊢ iprop(((owing c 0 ∗ recvs m c (p.val + 1)) -∗ wp frame (wpE (defs₀ (F := F)) 𝒱₀ (c : Thread nD τ) none) Set.univ (P >>= kk) Q)
        -∗ wp frame (wpE (defs₀ (F := F)) 𝒱₀ (c : Thread nD τ) none) Set.univ (Bind.bind (dite (x = 1#1)
            (fun h => .op (.waitDma2 (sR h) src (dst h) hsrc (hdst h)) fun _ =>
              .op (.load rM (Rect.unit (s := S16x128x128) off S1x128x128.size (inb h)).toLoadRect (hl h)) fun v =>
              .op (.load oM (Rect.unit (s := S2048x128) off' S128x128.size (inb' h)).toLoadRect (hl' h)) fun _ =>
              .op (.store oM (Rect.unit (s := S2048x128) off' S128x128.size (inb' h)) (w v) Finset.univ (hs h) (hm h)) fun _ => P)
            (fun _ => P) : Prog (TpuEff nD τ sig (Elt F) Λ₀ .tc) β) kk) Q) := by
  by_cases h : tgt c p = c
  · rw [dif_neg (fun h' => (one_of_not hx).mp h' h)]
    unfold recvs
    iintro ⟨#HR, HO, HS⟩ Hk
    icases (stage_step p _ _) $$ HS with ⟨HΦ, HS⟩
    rw [if_pos h, if_pos h]
    icases HΦ with ⟨Hat, HΦ⟩
    imod (close_idle m K c (.dma (recvS (tgt c p))) (by rw [role_recv, payers_recv_own _ _ h])) $$ [Hat] with Hz
    · isplitl []; · iexact HR
      iexact Hat
    iapply Hk
    isplitl [HO]; · iexact HO
    iapply HS
    isplitl [Hz]; · iexact Hz
    iexact HΦ
  · rw [dif_pos ((one_of_not hx).mpr h)]
    simp only [Prog.bind_op]
    iintro ⟨#HR, HO, HS⟩ Hk
    iapply (step_rwait m K c p h (h₂ _) (h₃ _)) $$ [HO HS]
    · isplitl []; · iexact HR
      isplitl [HO]; · iexact HO
      iexact HS
    iintro ⟨HO, HS⟩
    iapply (step_rload m c p ho) $$ HS
    iintro %v %hv HS
    iapply (step_rold m c p ho') $$ HS
    iintro %_ HS
    iapply (step_rstore m c p h ho' ((hw v).trans (by rw [hv]))) $$ HS
    iintro HS
    iapply Hk
    isplitl [HO]; · iexact HO
    iexact HS

/-! ## What was sent -/

/-- The blocks sent, in the order of the devices they went to, `n` of them waited for. -/
def swaits (n : ℕ) : sProp 𝕄 :=
  stage n (fun d : Fin 16 => iprop(atPos (ER (F := F)) ((c : Thread nD τ), .dma (sendS d)) 0 ∅ 0
      ∗ if d = c then anyAt c (ySub (pos c d)) else cred (tallyAt ((c : Thread nD τ), .dma (sendS d)) () NB)))
    fun d => iprop(semVal ((c : Thread nD τ), .dma (sendS d)) 0 ∗ anyAt c (ySub (pos c d)))

/-- How many units a block that is made comes to. -/
theorem credit_y (p : Fin 16) : (ySub p).view.dmaCredit = NB := by
  show sig.dmaCredit .tc _ (ySub p).view.buf _ _ = sig.dmaCredit .tc _ (rSlot 0).view.buf _ _
  rfl

/-- Waiting for a block sent, unless it is the device's own. -/
theorem swait_if (d : Fin 16) {x : BitVec 1} (hx : x = if d = c then 0#1 else 1#1)
    {src dst : Memref sig .tc .vmem S128x128 .bf16} {sS : DmaSem sig}
    (h₂ : dst = ySub 0) (h₃ : sS = sendS d) {hsrc : src.view.WordExact} {hdst : dst.view.WordExact}
    {β : Type} {P : Prog (TpuEff nD τ sig (Elt F) Λ₀ .tc) β} {kk : β → Prog (TpuEff nD τ sig (Elt F) Λ₀ .tc) α} :
    iprop(recs m K ∗ owing c 0 ∗ swaits c d.val)
      ⊢ iprop(((owing c 0 ∗ swaits c (d.val + 1)) -∗ wp frame (wpE (defs₀ (F := F)) 𝒱₀ (c : Thread nD τ) none) Set.univ (P >>= kk) Q)
        -∗ wp frame (wpE (defs₀ (F := F)) 𝒱₀ (c : Thread nD τ) none) Set.univ (Bind.bind (dite (x = 1#1) (fun _ => .op (.waitDma2 sS src dst hsrc hdst) fun _ => P)
            (fun _ => P) : Prog (TpuEff nD τ sig (Elt F) Λ₀ .tc) β) kk) Q) := by
  subst h₂ h₃
  unfold swaits
  by_cases h : d = c
  · rw [dif_neg (fun h' => (one_of_not hx).mp h' h)]
    iintro ⟨#HR, HO, HS⟩ Hk
    icases (stage_step d _ _) $$ HS with ⟨HΦ, HS⟩
    rw [if_pos h]
    icases HΦ with ⟨Hat, HΦ⟩
    imod (close_idle m K c (.dma (sendS d)) (by rw [role_send, payers_send_own _ _ h])) $$ [Hat] with Hz
    · isplitl []; · iexact HR
      iexact Hat
    iapply Hk
    isplitl [HO]; · iexact HO
    iapply HS
    isplitl [Hz]; · iexact Hz
    iexact HΦ
  · rw [dif_pos ((one_of_not hx).mpr h)]
    simp only [Prog.bind_op]
    iintro ⟨#HR, HO, HS⟩ Hk
    icases (stage_step d _ _) $$ HS with ⟨HΦ, HS⟩
    rw [if_neg h, show NB = (ySub 0).view.dmaCredit from (credit_y _).symm]
    icases HΦ with ⟨Hat, HΦ⟩
    iapply (wait_all m K c (.dma (sendS d)) 0 (may_end m K c _)
      (wpE_waitDma2_eq 𝒱₀ (c : Thread nD τ) none Set.univ (dst := ySub 0)) (by rw [role_send, credit_y, units_send, payers_send _ _ h, Finset.card_singleton, Nat.one_mul])) $$ [HO HΦ Hat]
    · isplitl []; · iexact HR
      isplitl [HΦ]; · iexact HΦ
      isplitl [HO]; · iexact HO
      iexact Hat
    rw [role_send, payers_send _ _ h, bigSep_singleton, pay_send]
    iintro ⟨HO, Hz, Hd⟩
    iapply Hk
    isplitl [HO]; · iexact HO
    iapply HS
    isplitl [Hz]; · iexact Hz
    iexact Hd

/-! ## The result -/

/-- Rows of the result that is copied out are the rows that were copied. -/
theorem whole_read (g : Buf (Elt F) ((c : Thread nD τ).loc cc0_scratch4)) (fd : Buf (Elt F) ((c : Thread nD τ).loc main_v1)) (j : Fin 16) :
    (resBlk j).view.read (Elt F) (outM.view.write (Elt F) fd (oM.view.read (Elt F) g) Finset.univ) = (oBlk j).view.read (Elt F) g := by
  have h₁ : outM.view.write (Elt F) fd (oM.view.read (Elt F) g) Finset.univ = (oM.view.read (Elt F) g : Vec F S2048x128 .f32) := View.write_whole_univ _ _ _
  rw [h₁]
  rfl

/-- Copying the result out; -/
theorem step_ocopy (g : Buf (Elt F) ((c : Thread nD τ).loc cc0_scratch4)) (hg : ∀ j : Fin 16, (oBlk j).view.read (Elt F) g = outVal m c j)
    {src : Memref sig .tc .vmem S2048x128 .f32} {dst : Memref sig .tc .hbm S2048x128 .f32} {sem : DmaSem sig}
    (h₁ : src = oM) (h₂ : dst = outM) (h₃ : sem = oS)
    {hsrc : src.view.WordExact} {hdst : dst.view.WordExact} {hsem : DmaTarget.Typed (nD := nD) (τ := τ) (p := .tc) .vmem (.dma sem) (.here dst)}
    {kk : PUnit → Prog (TpuEff nD τ sig (Elt F) Λ₀ .tc) α} :
    iprop(recs m K ∗ ptsAt c oM g ∗ anyAt c outM ∗ dutyTok (ER (F := F)) ((c : Thread nD τ), .dma oS) 0 c)
      ⊢ iprop((cred (tallyAt ((c : Thread nD τ), .dma oS) () NO) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma sem) hsrc hdst hsem) kk) Q) := by
  subst h₁ h₂ h₃
  iintro ⟨#HR, Hs, Hd, Ht⟩ Hk
  iapply (start_copy m K c oM outM oS (by rw [role_o]; exact Finset.mem_singleton_self _) rfl
    g (pay m c c .o) (by rw [role_o]) (by
      intro fd
      iintro ⟨Hd, Hs⟩
      unfold pay ptsAt
      isplitl [Hs]; · unfold anyAt; iexists g; iexact Hs
      unfold result ptsAt
      iexists (outM.view.write (Elt F) fd (oM.view.read (Elt F) g) Finset.univ)
      isplitr
      · ipureintro; intro j; exact (whole_read c g fd j).trans (hg j)
      iexact Hd)) $$ [Hs Hd Ht]
  · isplitl []; · iexact HR
    isplitl [Hs]; · iexact Hs
    isplitl [Hd]; · iexact Hd
    iexact Ht
  rw [role_o, show units .o = NO from rfl]
  iexact Hk

/-- and waiting for that. -/
theorem step_owait {src : Memref sig .tc .vmem S2048x128 .f32} {dst : Memref sig .tc .hbm S2048x128 .f32} {sem : DmaSem sig}
    (h₂ : dst = outM) (h₃ : sem = oS) {hsrc : src.view.WordExact} {hdst : dst.view.WordExact}
    {kk : PUnit → Prog (TpuEff nD τ sig (Elt F) Λ₀ .tc) α} :
    iprop(recs m K ∗ owing c 0 ∗ cred (tallyAt ((c : Thread nD τ), .dma oS) () NO) ∗ atPos (ER (F := F)) ((c : Thread nD τ), .dma oS) 0 ∅ 0)
      ⊢ iprop(((owing c 0 ∗ semVal ((c : Thread nD τ), .dma oS) 0 ∗ anyAt c oM ∗ result m c) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  subst h₂ h₃
  iintro ⟨#HR, HO, HC, Hat⟩ Hk
  iapply (wait_all m K c (.dma oS) 0 (may_end m K c _) (k' := NO)
    (wpE_waitDma2_eq 𝒱₀ (c : Thread nD τ) none Set.univ (dst := outM)) (by rw [role_o, show payers c .o = {(c : Fin 16)} from rfl, Finset.card_singleton, Nat.one_mul]; rfl)) $$ [HO HC Hat]
  · isplitl []; · iexact HR
    isplitl [HC]; · iexact HC
    isplitl [HO]; · iexact HO
    iexact Hat
  rw [role_o, show payers c .o = {(c : Fin 16)} from rfl, bigSep_singleton, show pay m c c .o = iprop(anyAt c oM ∗ result m c) from rfl]
  iexact Hk

end Cert.Proof

end
-- ==== Proof.Gather.lean ====
/-
  The turning points between the parts: the signals are out; the blocks are out; every block is in its rows.
-/
module

public import proofs.«01_k».proof.Proof.Ends
public import Idealize.ShloMosaic.Lib.Pipeline.Value

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD)

/-- With the signals out, only blocks are owed; -/
theorem signals_done : owing (F := F) c (owedFrom c 0 + barOwed c 15) ⊢ owing c (owedFrom c 0) := by
  rw [barOwed_end, add_zero]
/-- with the blocks out, nothing is. -/
theorem sends_done : owing (F := F) c (owedFrom c 16) ⊢ owing c 0 := by
  rw [owedFrom_end]

/-- What is left of the receiving: the semaphores at zero, and the slots. -/
def recvEnd : sProp 𝕄 :=
  iprop((bigSep Finset.univ fun j : Fin 16 => semVal ((c : Thread nD τ), .dma (recvS j)) 0) ∗ bigSep (Finset.univ.erase (c : Fin 16)) fun j => anyAt c (rSlot j))

/-- A product of pairs over a set is the two products. -/
theorem unzip_on (S : Finset (Fin 16)) (Φ Ψ : Fin 16 → sProp 𝕄) :
    (bigSep S fun p => iprop(Φ p ∗ Ψ p)) ⊢ iprop(bigSep S Φ ∗ bigSep S Ψ) :=
  Entails.of_eq (bigSep_sep S Φ Ψ)

/-- What is held at every place, by the devices. -/
theorem at_places (X : Fin 16 → sProp 𝕄) : (bigSep Finset.univ fun p : Fin 16 => X (tgt c p)) ⊢ bigSep Finset.univ X :=
  Entails.of_eq (bigSep_univ_equiv (tgtEquiv c) X).symm

/-- Every block in its rows, the rows are one buffer holding what it should. -/
theorem gather : iprop(own m c 4 ∗ recvs m c 16)
    ⊢ iprop(recvEnd c ∗ ∃ g : Buf (Elt F) ((c : Thread nD τ).loc cc0_scratch4), ⌜∀ j : Fin 16, (oBlk j).view.read (Elt F) g = outVal m c j⌝ ∗ ptsAt c oM g) := by
  unfold recvs recvEnd
  rw [own_end, stage_all]
  iintro ⟨HU, HR⟩
  icases (unzip_places _ _) $$ HR with ⟨HZ, HR⟩
  ihave HR' := (Entails.of_eq (others_places c (fun j => iprop(anyAt c (rSlot j) ∗ holds c (oBlk j) (outVal m c j))))) $$ HR
  icases (unzip_on (Finset.univ.erase (c : Fin 16)) (fun j => anyAt (F := F) c (rSlot j)) (fun j => holds c (oBlk j) (outVal m c j))) $$ HR' with ⟨HS, HB⟩
  ihave HZ' := (at_places c (fun j => semVal ((c : Thread nD τ), .dma (recvS j)) 0)) $$ HZ
  isplitl [HZ' HS]
  · isplitl [HZ']; · iexact HZ'
    iexact HS
  iapply (join_o c (outVal m c) (m ((c : Thread nD τ).loc cc0_scratch4)))
  iapply (Entails.of_eq (bigSep_univ_at (fun j : Fin 16 => holds c (oBlk j) (outVal m c j)) c).symm)
  isplitl [HU]; · iexact HU
  iexact HB

end Cert.Proof

end
-- ==== Proof.PartsA.lean ====
/-
  The kernel's parts up to the barrier: the copies in, and the signals.
-/
module

public import proofs.«01_k».proof.Proof.Gather

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD) {α : Type} {Q : α → sProp (MT nD τ sig Unit (Elt F) ℕ UU ℕ)}

/-- The device's own rows of `x` start on their way in; the device learns its number. -/
theorem part1 {kk : (Σ' (d0 : Dev nD) (v2 : BitVec 32) (v19 : BitVec 32) (v29 : BitVec 32), BitVec 32) → Prog (TpuEff nD τ sig (Elt F) Λ₀ .tc) α} :
    iprop(recs m K ∗ ptsAt c aM (m ((c : Thread nD τ).loc main_arg0)) ∗ anyAt c xM ∗ dutyTok (ER (F := F)) ((c : Thread nD τ), .dma xS) 0 c)
      ⊢ iprop((∀ w2 w3 w4, cred (tallyAt ((c : Thread nD τ), .dma xS) () NX) -∗ wp frame (wpE (defs₀ (F := F)) 𝒱₀ (c : Thread nD τ) none) Set.univ (kk ⟨c, (BitVec.ofNat 32 c.val), w2, w3, w4⟩) Q)
        -∗ wp frame (wpE (defs₀ (F := F)) 𝒱₀ (c : Thread nD τ) none) Set.univ (k0_part1 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9  >>= kk) Q) := by
  simp only [k0_part1_eq_skeleton]
  unfold k0_part1_skel
  simp only [semSignalWord, semWaitWord, Prog.lift, Prog.bind_op, Prog.bind_ret, Prog.pure_eq_ret, wp_deviceId]
  iintro ⟨#HR, HXA, HXM, HTX⟩ Hk
  iapply (step_xcopy m K c rfl rfl rfl) $$ [HXA HXM HTX]
  · isplitl []; · iexact HR
    isplitl [HXA]; · iexact HXA
    isplitl [HXM]; · iexact HXM
    iexact HTX
  iintro HCX
  rw [number_eq]
  ispecialize Hk $$ %_
  ispecialize Hk $$ %_
  ispecialize Hk $$ %_
  iapply Hk
  iexact HCX

/-- The first two column pairs of the weights start on their way in. -/
theorem part2 (v19 : BitVec 32) (v35 : BitVec 32) {kk : PUnit → Prog (TpuEff nD τ sig (Elt F) Λ₀ .tc) α} :
    iprop(recs m K ∗ wcopies m c 0)
      ⊢ iprop((wcopies m c 2 -∗ wp frame (wpE (defs₀ (F := F)) 𝒱₀ (c : Thread nD τ) none) Set.univ (kk ⟨⟩) Q)
        -∗ wp frame (wpE (defs₀ (F := F)) 𝒱₀ (c : Thread nD τ) none) Set.univ (k0_part2 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 v35 >>= kk) Q) := by
  simp only [k0_part2_eq_skeleton]
  unfold k0_part2_skel
  simp only [semSignalWord, semWaitWord, Prog.lift, Prog.bind_op, Prog.bind_ret, Prog.pure_eq_ret]
  iintro ⟨#HR, HW⟩ Hk
  iapply (step_wcopy m K c 0 (wSrc_of _ c 0 (off1_eq c 0) _) rfl (sem_w _ 0 rfl _)) $$ [HW]
  · isplitl []; · iexact HR
    iexact HW
  iintro HW
  iapply (step_wcopy m K c 1 (wSrc_of _ c 1 (off1_eq c 1) _) rfl (sem_w _ 1 rfl _)) $$ [HW]
  · isplitl []; · iexact HR
    iexact HW
  iintro HW
  iapply Hk
  iexact HW

/-- The next two. -/
theorem part3 (v19 : BitVec 32) {kk : PUnit → Prog (TpuEff nD τ sig (Elt F) Λ₀ .tc) α} :
    iprop(recs m K ∗ wcopies m c 2)
      ⊢ iprop((wcopies m c 4 -∗ wp frame (wpE (defs₀ (F := F)) 𝒱₀ (c : Thread nD τ) none) Set.univ (kk ⟨⟩) Q)
        -∗ wp frame (wpE (defs₀ (F := F)) 𝒱₀ (c : Thread nD τ) none) Set.univ (k0_part3 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 >>= kk) Q) := by
  simp only [k0_part3_eq_skeleton]
  unfold k0_part3_skel
  simp only [semSignalWord, semWaitWord, Prog.lift, Prog.bind_op, Prog.bind_ret, Prog.pure_eq_ret]
  iintro ⟨#HR, HW⟩ Hk
  iapply (step_wcopy m K c 2 (wSrc_of _ c 2 (off1_eq c 2) _) rfl (sem_w _ 2 rfl _)) $$ [HW]
  · isplitl []; · iexact HR
    iexact HW
  iintro HW
  iapply (step_wcopy m K c 3 (wSrc_of _ c 3 (off1_eq c 3) _) rfl (sem_w _ 3 rfl _)) $$ [HW]
  · isplitl []; · iexact HR
    iexact HW
  iintro HW
  iapply Hk
  iexact HW

/-- The next two. -/
theorem part4 (v19 : BitVec 32) {kk : PUnit → Prog (TpuEff nD τ sig (Elt F) Λ₀ .tc) α} :
    iprop(recs m K ∗ wcopies m c 4)
      ⊢ iprop((wcopies m c 6 -∗ wp frame (wpE (defs₀ (F := F)) 𝒱₀ (c : Thread nD τ) none) Set.univ (kk ⟨⟩) Q)
        -∗ wp frame (wpE (defs₀ (F := F)) 𝒱₀ (c : Thread nD τ) none) Set.univ (k0_part4 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 >>= kk) Q) := by
  simp only [k0_part4_eq_skeleton]
  unfold k0_part4_skel
  simp only [semSignalWord, semWaitWord, Prog.lift, Prog.bind_op, Prog.bind_ret, Prog.pure_eq_ret]
  iintro ⟨#HR, HW⟩ Hk
  iapply (step_wcopy m K c 4 (wSrc_of _ c 4 (off1_eq c 4) _) rfl (sem_w _ 4 rfl _)) $$ [HW]
  · isplitl []; · iexact HR
    iexact HW
  iintro HW
  iapply (step_wcopy m K c 5 (wSrc_of _ c 5 (off1_eq c 5) _) rfl (sem_w _ 5 rfl _)) $$ [HW]
  · isplitl []; · iexact HR
    iexact HW
  iintro HW
  iapply Hk
  iexact HW

/-- The last two, and the barrier's first signal. -/
theorem part5 (v19 : BitVec 32) {kk : (Σ' (v134 : Sems sig S_) (v148 : BitVec 32) (c16_i32_127 : BitVec 32), BitVec 32) → Prog (TpuEff nD τ sig (Elt F) Λ₀ .tc) α} :
    iprop(recs m K ∗ wcopies m c 6 ∗ owing c (owedFrom c 0 + barOwed c 0) ∗ signals c 0)
      ⊢ iprop((∀ w1 w2 w3, (wcopies m c 8 ∗ owing c (owedFrom c 0 + barOwed c 1) ∗ signals c 1) -∗ wp frame (wpE (defs₀ (F := F)) 𝒱₀ (c : Thread nD τ) none) Set.univ (kk ⟨(SemArray.scalar (sig.barrier 0 rfl)), w1, w2, w3⟩) Q)
        -∗ wp frame (wpE (defs₀ (F := F)) 𝒱₀ (c : Thread nD τ) none) Set.univ (k0_part5 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 >>= kk) Q) := by
  simp only [k0_part5_eq_skeleton]
  unfold k0_part5_skel
  simp only [semSignalWord, semWaitWord, Prog.lift, Prog.bind_op, Prog.bind_ret, Prog.pure_eq_ret]
  iintro ⟨#HR, HW, HO, HG⟩ Hk
  iapply (step_wcopy m K c 6 (wSrc_of _ c 6 (off1_eq c 6) _) rfl (sem_w _ 6 rfl _)) $$ [HW]
  · isplitl []; · iexact HR
    iexact HW
  iintro HW
  iapply (step_wcopy m K c 7 (wSrc_of _ c 7 (off1_eq c 7) _) rfl (sem_w _ 7 rfl _)) $$ [HW]
  · isplitl []; · iexact HR
    iexact HW
  iintro HW
  iapply (step_signal m K c 0 _ (Fin.ext (congrFun (dev_bar c) 0))) $$ [HO HG]
  · isplitl []; · iexact HR
    isplitl [HO]; · iexact HO
    iexact HG
  iintro ⟨HO, HG⟩
  ispecialize Hk $$ %_
  ispecialize Hk $$ %_
  ispecialize Hk $$ %_
  iapply Hk
  isplitl [HW]; · iexact HW
  isplitl [HO]; · iexact HO
  iexact HG

/-- Two signals. -/
theorem part6 (v148 : BitVec 32) (c16_i32_127 : BitVec 32) (c0_i32_128 : BitVec 32) {kk : (Σ' (v176 : BitVec 32) (v177 : BitVec 32), BitVec 1) → Prog (TpuEff nD τ sig (Elt F) Λ₀ .tc) α} :
    iprop(recs m K ∗ owing c (owedFrom c 0 + barOwed c 1) ∗ signals c 1)
      ⊢ iprop((∀ w0 w1 w2, (owing c (owedFrom c 0 + barOwed c 3) ∗ signals c 3) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part6 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) (SemArray.scalar (sig.barrier 0 rfl)) v148 c16_i32_127 c0_i32_128 >>= kk) Q) := by
  simp only [k0_part6_eq_skeleton]
  unfold k0_part6_skel
  simp only [semSignalWord, semWaitWord, Prog.lift, Prog.bind_op, Prog.bind_ret, Prog.pure_eq_ret]
  iintro ⟨#HR, HO, HG⟩ Hk
  iapply (step_signal m K c 1 _ (Fin.ext (congrFun (dev_bar c) 1))) $$ [HO HG]
  · isplitl []; · iexact HR
    isplitl [HO]; · iexact HO
    iexact HG
  iintro ⟨HO, HG⟩
  iapply (step_signal m K c 2 _ (Fin.ext (congrFun (dev_bar c) 2))) $$ [HO HG]
  · isplitl []; · iexact HR
    isplitl [HO]; · iexact HO
    iexact HG
  iintro ⟨HO, HG⟩
  ispecialize Hk $$ %_
  ispecialize Hk $$ %_
  ispecialize Hk $$ %_
  iapply Hk
  isplitl [HO]; · iexact HO
  iexact HG

/-- Three signals. -/
theorem part7 (v176 : BitVec 32) (v177 : BitVec 32) (v182 : BitVec 1) {kk : (Σ' (v213 : BitVec 32) (c16_i32_177 : BitVec 32), BitVec 32) → Prog (TpuEff nD τ sig (Elt F) Λ₀ .tc) α} :
    iprop(recs m K ∗ owing c (owedFrom c 0 + barOwed c 3) ∗ signals c 3)
      ⊢ iprop((∀ w0 w1 w2, (owing c (owedFrom c 0 + barOwed c 6) ∗ signals c 6) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part7 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) (SemArray.scalar (sig.barrier 0 rfl)) v176 v177 v182 >>= kk) Q) := by
  simp only [k0_part7_eq_skeleton]
  unfold k0_part7_skel
  simp only [semSignalWord, semWaitWord, Prog.lift, Prog.bind_op, Prog.bind_ret, Prog.pure_eq_ret]
  iintro ⟨#HR, HO, HG⟩ Hk
  iapply (step_signal m K c 3 _ (Fin.ext (congrFun (dev_bar c) 3))) $$ [HO HG]
  · isplitl []; · iexact HR
    isplitl [HO]; · iexact HO
    iexact HG
  iintro ⟨HO, HG⟩
  iapply (step_signal m K c 4 _ (Fin.ext (congrFun (dev_bar c) 4))) $$ [HO HG]
  · isplitl []; · iexact HR
    isplitl [HO]; · iexact HO
    iexact HG
  iintro ⟨HO, HG⟩
  iapply (step_signal m K c 5 _ (Fin.ext (congrFun (dev_bar c) 5))) $$ [HO HG]
  · isplitl []; · iexact HR
    isplitl [HO]; · iexact HO
    iexact HG
  iintro ⟨HO, HG⟩
  ispecialize Hk $$ %_
  ispecialize Hk $$ %_
  ispecialize Hk $$ %_
  iapply Hk
  isplitl [HO]; · iexact HO
  iexact HG

/-- Two signals. -/
theorem part8 (v213 : BitVec 32) (c16_i32_177 : BitVec 32) (c0_i32_178 : BitVec 32) {kk : (Σ' (v241 : BitVec 32) (v242 : BitVec 32), BitVec 1) → Prog (TpuEff nD τ sig (Elt F) Λ₀ .tc) α} :
    iprop(recs m K ∗ owing c (owedFrom c 0 + barOwed c 6) ∗ signals c 6)
      ⊢ iprop((∀ w0 w1 w2, (owing c (owedFrom c 0 + barOwed c 8) ∗ signals c 8) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part8 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) (SemArray.scalar (sig.barrier 0 rfl)) v213 c16_i32_177 c0_i32_178 >>= kk) Q) := by
  simp only [k0_part8_eq_skeleton]
  unfold k0_part8_skel
  simp only [semSignalWord, semWaitWord, Prog.lift, Prog.bind_op, Prog.bind_ret, Prog.pure_eq_ret]
  iintro ⟨#HR, HO, HG⟩ Hk
  iapply (step_signal m K c 6 _ (Fin.ext (congrFun (dev_bar c) 6))) $$ [HO HG]
  · isplitl []; · iexact HR
    isplitl [HO]; · iexact HO
    iexact HG
  iintro ⟨HO, HG⟩
  iapply (step_signal m K c 7 _ (Fin.ext (congrFun (dev_bar c) 7))) $$ [HO HG]
  · isplitl []; · iexact HR
    isplitl [HO]; · iexact HO
    iexact HG
  iintro ⟨HO, HG⟩
  ispecialize Hk $$ %_
  ispecialize Hk $$ %_
  ispecialize Hk $$ %_
  iapply Hk
  isplitl [HO]; · iexact HO
  iexact HG

/-- Three signals. -/
theorem part9 (v241 : BitVec 32) (v242 : BitVec 32) (v247 : BitVec 1) {kk : (Σ' (v278 : BitVec 32) (c16_i32_222 : BitVec 32), BitVec 32) → Prog (TpuEff nD τ sig (Elt F) Λ₀ .tc) α} :
    iprop(recs m K ∗ owing c (owedFrom c 0 + barOwed c 8) ∗ signals c 8)
      ⊢ iprop((∀ w0 w1 w2, (owing c (owedFrom c 0 + barOwed c 11) ∗ signals c 11) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part9 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) (SemArray.scalar (sig.barrier 0 rfl)) v241 v242 v247 >>= kk) Q) := by
  simp only [k0_part9_eq_skeleton]
  unfold k0_part9_skel
  simp only [semSignalWord, semWaitWord, Prog.lift, Prog.bind_op, Prog.bind_ret, Prog.pure_eq_ret]
  iintro ⟨#HR, HO, HG⟩ Hk
  iapply (step_signal m K c 8 _ (Fin.ext (congrFun (dev_bar c) 8))) $$ [HO HG]
  · isplitl []; · iexact HR
    isplitl [HO]; · iexact HO
    iexact HG
  iintro ⟨HO, HG⟩
  iapply (step_signal m K c 9 _ (Fin.ext (congrFun (dev_bar c) 9))) $$ [HO HG]
  · isplitl []; · iexact HR
    isplitl [HO]; · iexact HO
    iexact HG
  iintro ⟨HO, HG⟩
  iapply (step_signal m K c 10 _ (Fin.ext (congrFun (dev_bar c) 10))) $$ [HO HG]
  · isplitl []; · iexact HR
    isplitl [HO]; · iexact HO
    iexact HG
  iintro ⟨HO, HG⟩
  ispecialize Hk $$ %_
  ispecialize Hk $$ %_
  ispecialize Hk $$ %_
  iapply Hk
  isplitl [HO]; · iexact HO
  iexact HG

/-- Two signals. -/
theorem part10 (v278 : BitVec 32) (c16_i32_222 : BitVec 32) (c0_i32_223 : BitVec 32) {kk : (Σ' (v306 : BitVec 32) (v307 : BitVec 32), BitVec 1) → Prog (TpuEff nD τ sig (Elt F) Λ₀ .tc) α} :
    iprop(recs m K ∗ owing c (owedFrom c 0 + barOwed c 11) ∗ signals c 11)
      ⊢ iprop((∀ w0 w1 w2, (owing c (owedFrom c 0 + barOwed c 13) ∗ signals c 13) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part10 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) (SemArray.scalar (sig.barrier 0 rfl)) v278 c16_i32_222 c0_i32_223 >>= kk) Q) := by
  simp only [k0_part10_eq_skeleton]
  unfold k0_part10_skel
  simp only [semSignalWord, semWaitWord, Prog.lift, Prog.bind_op, Prog.bind_ret, Prog.pure_eq_ret]
  iintro ⟨#HR, HO, HG⟩ Hk
  iapply (step_signal m K c 11 _ (Fin.ext (congrFun (dev_bar c) 11))) $$ [HO HG]
  · isplitl []; · iexact HR
    isplitl [HO]; · iexact HO
    iexact HG
  iintro ⟨HO, HG⟩
  iapply (step_signal m K c 12 _ (Fin.ext (congrFun (dev_bar c) 12))) $$ [HO HG]
  · isplitl []; · iexact HR
    isplitl [HO]; · iexact HO
    iexact HG
  iintro ⟨HO, HG⟩
  ispecialize Hk $$ %_
  ispecialize Hk $$ %_
  ispecialize Hk $$ %_
  iapply Hk
  isplitl [HO]; · iexact HO
  iexact HG

/-- The last two signals, the barrier, and the rows of `x` loaded. -/
theorem part11 (v19 : BitVec 32) (v306 : BitVec 32) (v307 : BitVec 32) (v312 : BitVec 1) {kk : (Σ' (v330 : Vec F S128x2048 .f32), BitVec 32) → Prog (TpuEff nD τ sig (Elt F) Λ₀ .tc) α} :
    iprop(recs m K ∗ owing c (owedFrom c 0 + barOwed c 13) ∗ signals c 13 ∗ cred (tallyAt ((c : Thread nD τ), .reg barS) () 15) ∗ atPos (ER (F := F)) ((c : Thread nD τ), .reg barS) 0 ∅ 0 ∗ sendRights c ∗ cred (tallyAt ((c : Thread nD τ), .dma xS) () NX) ∗ atPos (ER (F := F)) ((c : Thread nD τ), .dma xS) 0 ∅ 0)
      ⊢ iprop((∀ w1, (owing c (owedFrom c 0) ∗ semVal ((c : Thread nD τ), .reg barS) 0 ∗ sends c 0 ∗ semVal ((c : Thread nD τ), .dma xS) 0 ∗ ptsAt c aM (m ((c : Thread nD τ).loc main_arg0)) ∗ holds c xM (xv m c)) -∗ wp frame (wpE (defs₀ (F := F)) 𝒱₀ (c : Thread nD τ) none) Set.univ (kk ⟨(xv m c), w1⟩) Q)
        -∗ wp frame (wpE (defs₀ (F := F)) 𝒱₀ (c : Thread nD τ) none) Set.univ (k0_part11 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 (SemArray.scalar (sig.barrier 0 rfl)) v306 v307 v312 >>= kk) Q) := by
  simp only [k0_part11_eq_skeleton]
  unfold k0_part11_skel
  simp only [semSignalWord, semWaitWord, Prog.lift, Prog.bind_op, Prog.bind_ret, Prog.pure_eq_ret]
  iintro ⟨#HR, HO, HG, HCB, HAB, HSR, HCX, HAX⟩ Hk
  iapply (step_signal m K c 13 _ (Fin.ext (congrFun (dev_bar c) 13))) $$ [HO HG]
  · isplitl []; · iexact HR
    isplitl [HO]; · iexact HO
    iexact HG
  iintro ⟨HO, HG⟩
  iapply (step_signal m K c 14 _ (Fin.ext (congrFun (dev_bar c) 14))) $$ [HO HG]
  · isplitl []; · iexact HR
    isplitl [HO]; · iexact HO
    iexact HG
  iintro ⟨HO, HG⟩
  ihave HO := (show owing (F := F) c (owedFrom c 0 + barOwed c ((14 : Fin 15).val + 1)) ⊢ owing c (owedFrom c 0) from signals_done c) $$ HO
  iapply (step_barrier m K c) $$ [HO HCB HAB HSR]
  · isplitl []; · iexact HR
    isplitl [HO]; · iexact HO
    isplitl [HCB]; · iexact HCB
    isplitl [HAB]; · iexact HAB
    iexact HSR
  iintro ⟨HO, HZB, HN⟩
  iapply (step_xwait m K c 0 rfl rfl) $$ [HO HCX HAX]
  · isplitl []; · iexact HR
    isplitl [HO]; · iexact HO
    isplitl [HCX]; · iexact HCX
    iexact HAX
  iintro ⟨HO, HZX, HXA, HXH⟩
  iapply (step_xload m c) $$ [HXH]
  · iexact HXH
  iintro HXH
  ispecialize Hk $$ %_
  iapply Hk
  isplitl [HO]; · iexact HO
  isplitl [HZB]; · iexact HZB
  isplitl [HN]; · iexact HN
  isplitl [HZX]; · iexact HZX
  isplitl [HXA]; · iexact HXA
  iexact HXH

end Cert.Proof

end
-- ==== Proof.PartsB.lean ====
/-
  The parts in which the blocks are made, kept and sent.
-/
module

public import proofs.«01_k».proof.Proof.Gather

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD) {α : Type} {Q : α → sProp (MT nD τ sig Unit (Elt F) ℕ UU ℕ)}

/-- The first pair of blocks is made, and its first block sent. -/
theorem part12 (v336 : BitVec 32) {kk : PUnit → Prog (TpuEff nD τ sig (Elt F) Λ₀ .tc) α} :
    iprop(recs m K ∗ owing c (owedFrom c 0) ∗ wwaits m c 0 ∗ slabs c 0 ∗ sends c 0)
      ⊢ iprop(((owing c (owedFrom c 1) ∗ wwaits m c 1 ∗ slabs c 1 ∗ block m c 1 ∗ sends c 1) -∗ wp frame (wpE (defs₀ (F := F)) 𝒱₀ (c : Thread nD τ) none) Set.univ (kk ⟨⟩) Q)
        -∗ wp frame (wpE (defs₀ (F := F)) 𝒱₀ (c : Thread nD τ) none) Set.univ (k0_part12 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (xv m c) v336 >>= kk) Q) := by
  simp only [k0_part12_eq_skeleton]
  unfold k0_part12_skel
  simp only [semSignalWord, semWaitWord, Prog.lift, Prog.bind_op, Prog.bind_ret, Prog.pure_eq_ret]
  iintro ⟨#HR, HO, HV, HY, HN⟩ Hk
  iapply (step_wwait m K c 0 0 (wSlot_of _ 0 rfl _) (sem_w _ 0 rfl _)) $$ [HO HV]
  · isplitl []; · iexact HR
    isplitl [HO]; · iexact HO
    iexact HV
  iintro ⟨HO, HV⟩
  iapply (step_wload m c 0) $$ [HV]
  · iexact HV
  iintro %v %hv HV
  iapply (step_yload c 0) $$ [HY]
  · iexact HY
  iintro %_ HY
  iapply (step_ystore m c 0 (by unfold stored prod; rw [← hv]; rfl)) $$ [HY]
  · iexact HY
  iintro ⟨HB0, HB1, HY⟩
  iapply (step_send m K c 0 (tgt_ne c 0 (by decide)) (Fin.ext (congrFun (dev_send c) 0)) (ySub_of _ 0 rfl _) (rSlot_of _ c (off4_eq c) _) (sem_send _ _ (off2_eq c 0) _) (sem_recv _ c (off3_eq c) _)) $$ [HO HN HB0]
  · isplitl []; · iexact HR
    isplitl [HO]; · iexact HO
    isplitl [HN]; · iexact HN
    iexact HB0
  iintro ⟨HO, HN⟩
  iapply Hk
  isplitl [HO]; · iexact HO
  isplitl [HV]; · iexact HV
  isplitl [HY]; · iexact HY
  isplitl [HB1]; · iexact HB1
  iexact HN

/-- The second block is sent, and the second pair made. -/
theorem part13 (v19 : BitVec 32) {kk : (BitVec 32) → Prog (TpuEff nD τ sig (Elt F) Λ₀ .tc) α} :
    iprop(recs m K ∗ owing c (owedFrom c 1) ∗ sends c 1 ∗ block m c 1 ∗ wwaits m c 1 ∗ slabs c 1)
      ⊢ iprop((∀ w0, (owing c (owedFrom c 2) ∗ sends c 2 ∗ wwaits m c 2 ∗ slabs c 2 ∗ block m c 2 ∗ block m c 3) -∗ wp frame (wpE (defs₀ (F := F)) 𝒱₀ (c : Thread nD τ) none) Set.univ (kk w0) Q)
        -∗ wp frame (wpE (defs₀ (F := F)) 𝒱₀ (c : Thread nD τ) none) Set.univ (k0_part13 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 (xv m c) >>= kk) Q) := by
  simp only [k0_part13_eq_skeleton]
  unfold k0_part13_skel
  simp only [semSignalWord, semWaitWord, Prog.lift, Prog.bind_op, Prog.bind_ret, Prog.pure_eq_ret]
  iintro ⟨#HR, HO, HN, HB1, HV, HY⟩ Hk
  iapply (step_send m K c 1 (tgt_ne c 1 (by decide)) (Fin.ext (congrFun (dev_send c) 1)) (ySub_of _ 1 rfl _) (rSlot_of _ c (off4_eq c) _) (sem_send _ _ (off2_eq c 1) _) (sem_recv _ c (off3_eq c) _)) $$ [HO HN HB1]
  · isplitl []; · iexact HR
    isplitl [HO]; · iexact HO
    isplitl [HN]; · iexact HN
    iexact HB1
  iintro ⟨HO, HN⟩
  iapply (step_wwait m K c 1 2 (wSlot_of _ 1 rfl _) (sem_w _ 1 rfl _)) $$ [HO HV]
  · isplitl []; · iexact HR
    isplitl [HO]; · iexact HO
    iexact HV
  iintro ⟨HO, HV⟩
  iapply (step_wload m c 1) $$ [HV]
  · iexact HV
  iintro %v %hv HV
  iapply (step_yload c 1) $$ [HY]
  · iexact HY
  iintro %_ HY
  iapply (step_ystore m c 1 (by unfold stored prod; rw [← hv]; rfl)) $$ [HY]
  · iexact HY
  iintro ⟨HB2, HB3, HY⟩
  ispecialize Hk $$ %_
  iapply Hk
  isplitl [HO]; · iexact HO
  isplitl [HN]; · iexact HN
  isplitl [HV]; · iexact HV
  isplitl [HY]; · iexact HY
  isplitl [HB2]; · iexact HB2
  iexact HB3

/-- Two blocks are sent, and the third pair computed. -/
theorem part14 (v19 : BitVec 32) (v378 : BitVec 32) {kk : (Σ' (v420 : BitVec 32), FVec F S128x256 .bf16) → Prog (TpuEff nD τ sig (Elt F) Λ₀ .tc) α} :
    iprop(recs m K ∗ owing c (owedFrom c 2) ∗ sends c 2 ∗ block m c 2 ∗ block m c 3 ∗ wwaits m c 2)
      ⊢ iprop((∀ w0, (owing c (owedFrom c 4) ∗ sends c 4 ∗ wwaits m c 3) -∗ wp frame (wpE (defs₀ (F := F)) 𝒱₀ (c : Thread nD τ) none) Set.univ (kk ⟨w0, (truncf .bf16 (prod m c 2) bitsLt_bf16_f32)⟩) Q)
        -∗ wp frame (wpE (defs₀ (F := F)) 𝒱₀ (c : Thread nD τ) none) Set.univ (k0_part14 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 (xv m c) v378 >>= kk) Q) := by
  simp only [k0_part14_eq_skeleton]
  unfold k0_part14_skel
  simp only [semSignalWord, semWaitWord, Prog.lift, Prog.bind_op, Prog.bind_ret, Prog.pure_eq_ret]
  iintro ⟨#HR, HO, HN, HB2, HB3, HV⟩ Hk
  iapply (step_send m K c 2 (tgt_ne c 2 (by decide)) (Fin.ext (congrFun (dev_send c) 2)) (ySub_of _ 2 rfl _) (rSlot_of _ c (off4_eq c) _) (sem_send _ _ (off2_eq c 2) _) (sem_recv _ c (off3_eq c) _)) $$ [HO HN HB2]
  · isplitl []; · iexact HR
    isplitl [HO]; · iexact HO
    isplitl [HN]; · iexact HN
    iexact HB2
  iintro ⟨HO, HN⟩
  iapply (step_send m K c 3 (tgt_ne c 3 (by decide)) (Fin.ext (congrFun (dev_send c) 3)) (ySub_of _ 3 rfl _) (rSlot_of _ c (off4_eq c) _) (sem_send _ _ (off2_eq c 3) _) (sem_recv _ c (off3_eq c) _)) $$ [HO HN HB3]
  · isplitl []; · iexact HR
    isplitl [HO]; · iexact HO
    isplitl [HN]; · iexact HN
    iexact HB3
  iintro ⟨HO, HN⟩
  iapply (step_wwait m K c 2 4 (wSlot_of _ 2 rfl _) (sem_w _ 2 rfl _)) $$ [HO HV]
  · isplitl []; · iexact HR
    isplitl [HO]; · iexact HO
    iexact HV
  iintro ⟨HO, HV⟩
  iapply (step_wload m c 2) $$ [HV]
  · iexact HV
  iintro %v %hv HV
  rw [show k0_pay3 (xv m c) v = truncf .bf16 (prod m c 2) bitsLt_bf16_f32 from by unfold prod; rw [← hv]; rfl]
  ispecialize Hk $$ %_
  iapply Hk
  isplitl [HO]; · iexact HO
  isplitl [HN]; · iexact HN
  iexact HV

/-- The third pair is stored and sent. -/
theorem part15 (v19 : BitVec 32) (v420 : BitVec 32) {kk : (Σ' (v457 : BitVec 1) (v461 : BitVec 32), BitVec 32) → Prog (TpuEff nD τ sig (Elt F) Λ₀ .tc) α} :
    iprop(recs m K ∗ slabs c 2 ∗ owing c (owedFrom c 4) ∗ sends c 4)
      ⊢ iprop((∀ w0 w1 w2, (slabs c 3 ∗ owing c (owedFrom c 6) ∗ sends c 6) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part15 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 v420 (truncf .bf16 (prod m c 2) bitsLt_bf16_f32) >>= kk) Q) := by
  simp only [k0_part15_eq_skeleton]
  unfold k0_part15_skel
  simp only [semSignalWord, semWaitWord, Prog.lift, Prog.bind_op, Prog.bind_ret, Prog.pure_eq_ret]
  iintro ⟨#HR, HY, HO, HN⟩ Hk
  iapply (step_yload c 2) $$ [HY]
  · iexact HY
  iintro %_ HY
  iapply (step_ystore m c 2 rfl) $$ [HY]
  · iexact HY
  iintro ⟨HB4, HB5, HY⟩
  iapply (step_send m K c 4 (tgt_ne c 4 (by decide)) (Fin.ext (congrFun (dev_send c) 4)) (ySub_of _ 4 rfl _) (rSlot_of _ c (off4_eq c) _) (sem_send _ _ (off2_eq c 4) _) (sem_recv _ c (off3_eq c) _)) $$ [HO HN HB4]
  · isplitl []; · iexact HR
    isplitl [HO]; · iexact HO
    isplitl [HN]; · iexact HN
    iexact HB4
  iintro ⟨HO, HN⟩
  iapply (step_send m K c 5 (tgt_ne c 5 (by decide)) (Fin.ext (congrFun (dev_send c) 5)) (ySub_of _ 5 rfl _) (rSlot_of _ c (off4_eq c) _) (sem_send _ _ (off2_eq c 5) _) (sem_recv _ c (off3_eq c) _)) $$ [HO HN HB5]
  · isplitl []; · iexact HR
    isplitl [HO]; · iexact HO
    isplitl [HN]; · iexact HN
    iexact HB5
  iintro ⟨HO, HN⟩
  ispecialize Hk $$ %_
  ispecialize Hk $$ %_
  ispecialize Hk $$ %_
  iapply Hk
  isplitl [HY]; · iexact HY
  isplitl [HO]; · iexact HO
  iexact HN

/-- The fourth pair is made, and its first block sent. -/
theorem part16 (v457 : BitVec 1) (v461 : BitVec 32) (c2_i32_373 : BitVec 32) {kk : PUnit → Prog (TpuEff nD τ sig (Elt F) Λ₀ .tc) α} :
    iprop(recs m K ∗ owing c (owedFrom c 6) ∗ wwaits m c 3 ∗ slabs c 3 ∗ sends c 6)
      ⊢ iprop(((owing c (owedFrom c 7) ∗ wwaits m c 4 ∗ slabs c 4 ∗ block m c 7 ∗ sends c 7) -∗ wp frame (wpE (defs₀ (F := F)) 𝒱₀ (c : Thread nD τ) none) Set.univ (kk ⟨⟩) Q)
        -∗ wp frame (wpE (defs₀ (F := F)) 𝒱₀ (c : Thread nD τ) none) Set.univ (k0_part16 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (xv m c) v457 v461 c2_i32_373 >>= kk) Q) := by
  simp only [k0_part16_eq_skeleton]
  unfold k0_part16_skel
  simp only [semSignalWord, semWaitWord, Prog.lift, Prog.bind_op, Prog.bind_ret, Prog.pure_eq_ret]
  iintro ⟨#HR, HO, HV, HY, HN⟩ Hk
  iapply (step_wwait m K c 3 6 (wSlot_of _ 3 rfl _) (sem_w _ 3 rfl _)) $$ [HO HV]
  · isplitl []; · iexact HR
    isplitl [HO]; · iexact HO
    iexact HV
  iintro ⟨HO, HV⟩
  iapply (step_wload m c 3) $$ [HV]
  · iexact HV
  iintro %v %hv HV
  iapply (step_yload c 3) $$ [HY]
  · iexact HY
  iintro %_ HY
  iapply (step_ystore m c 3 (by unfold stored prod; rw [← hv]; rfl)) $$ [HY]
  · iexact HY
  iintro ⟨HB6, HB7, HY⟩
  iapply (step_send m K c 6 (tgt_ne c 6 (by decide)) (Fin.ext (congrFun (dev_send c) 6)) (ySub_of _ 6 rfl _) (rSlot_of _ c (off4_eq c) _) (sem_send _ _ (off2_eq c 6) _) (sem_recv _ c (off3_eq c) _)) $$ [HO HN HB6]
  · isplitl []; · iexact HR
    isplitl [HO]; · iexact HO
    isplitl [HN]; · iexact HN
    iexact HB6
  iintro ⟨HO, HN⟩
  iapply Hk
  isplitl [HO]; · iexact HO
  isplitl [HV]; · iexact HV
  isplitl [HY]; · iexact HY
  isplitl [HB7]; · iexact HB7
  iexact HN

/-- A block is sent, and the fifth pair made. -/
theorem part17 (v19 : BitVec 32) {kk : (BitVec 32) → Prog (TpuEff nD τ sig (Elt F) Λ₀ .tc) α} :
    iprop(recs m K ∗ owing c (owedFrom c 7) ∗ sends c 7 ∗ block m c 7 ∗ wwaits m c 4 ∗ slabs c 4)
      ⊢ iprop((∀ w0, (owing c (owedFrom c 8) ∗ sends c 8 ∗ wwaits m c 5 ∗ slabs c 5 ∗ block m c 8 ∗ block m c 9) -∗ wp frame (wpE (defs₀ (F := F)) 𝒱₀ (c : Thread nD τ) none) Set.univ (kk w0) Q)
        -∗ wp frame (wpE (defs₀ (F := F)) 𝒱₀ (c : Thread nD τ) none) Set.univ (k0_part17 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 (xv m c) >>= kk) Q) := by
  simp only [k0_part17_eq_skeleton]
  unfold k0_part17_skel
  simp only [semSignalWord, semWaitWord, Prog.lift, Prog.bind_op, Prog.bind_ret, Prog.pure_eq_ret]
  iintro ⟨#HR, HO, HN, HB7, HV, HY⟩ Hk
  iapply (step_send m K c 7 (tgt_ne c 7 (by decide)) (Fin.ext (congrFun (dev_send c) 7)) (ySub_of _ 7 rfl _) (rSlot_of _ c (off4_eq c) _) (sem_send _ _ (off2_eq c 7) _) (sem_recv _ c (off3_eq c) _)) $$ [HO HN HB7]
  · isplitl []; · iexact HR
    isplitl [HO]; · iexact HO
    isplitl [HN]; · iexact HN
    iexact HB7
  iintro ⟨HO, HN⟩
  iapply (step_wwait m K c 4 8 (wSlot_of _ 4 rfl _) (sem_w _ 4 rfl _)) $$ [HO HV]
  · isplitl []; · iexact HR
    isplitl [HO]; · iexact HO
    iexact HV
  iintro ⟨HO, HV⟩
  iapply (step_wload m c 4) $$ [HV]
  · iexact HV
  iintro %v %hv HV
  iapply (step_yload c 4) $$ [HY]
  · iexact HY
  iintro %_ HY
  iapply (step_ystore m c 4 (by unfold stored prod; rw [← hv]; rfl)) $$ [HY]
  · iexact HY
  iintro ⟨HB8, HB9, HY⟩
  ispecialize Hk $$ %_
  iapply Hk
  isplitl [HO]; · iexact HO
  isplitl [HN]; · iexact HN
  isplitl [HV]; · iexact HV
  isplitl [HY]; · iexact HY
  isplitl [HB8]; · iexact HB8
  iexact HB9

/-- Two blocks are sent, and the sixth pair's columns awaited. -/
theorem part18 (v19 : BitVec 32) (v504 : BitVec 32) {kk : (BitVec 32) → Prog (TpuEff nD τ sig (Elt F) Λ₀ .tc) α} :
    iprop(recs m K ∗ owing c (owedFrom c 8) ∗ sends c 8 ∗ block m c 8 ∗ block m c 9 ∗ wwaits m c 5)
      ⊢ iprop((∀ w0, (owing c (owedFrom c 10) ∗ sends c 10 ∗ wready m c 5) -∗ wp frame (wpE (defs₀ (F := F)) 𝒱₀ (c : Thread nD τ) none) Set.univ (kk w0) Q)
        -∗ wp frame (wpE (defs₀ (F := F)) 𝒱₀ (c : Thread nD τ) none) Set.univ (k0_part18 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 v504 >>= kk) Q) := by
  simp only [k0_part18_eq_skeleton]
  unfold k0_part18_skel
  simp only [semSignalWord, semWaitWord, Prog.lift, Prog.bind_op, Prog.bind_ret, Prog.pure_eq_ret]
  iintro ⟨#HR, HO, HN, HB8, HB9, HV⟩ Hk
  iapply (step_send m K c 8 (tgt_ne c 8 (by decide)) (Fin.ext (congrFun (dev_send c) 8)) (ySub_of _ 8 rfl _) (rSlot_of _ c (off4_eq c) _) (sem_send _ _ (off2_eq c 8) _) (sem_recv _ c (off3_eq c) _)) $$ [HO HN HB8]
  · isplitl []; · iexact HR
    isplitl [HO]; · iexact HO
    isplitl [HN]; · iexact HN
    iexact HB8
  iintro ⟨HO, HN⟩
  iapply (step_send m K c 9 (tgt_ne c 9 (by decide)) (Fin.ext (congrFun (dev_send c) 9)) (ySub_of _ 9 rfl _) (rSlot_of _ c (off4_eq c) _) (sem_send _ _ (off2_eq c 9) _) (sem_recv _ c (off3_eq c) _)) $$ [HO HN HB9]
  · isplitl []; · iexact HR
    isplitl [HO]; · iexact HO
    isplitl [HN]; · iexact HN
    iexact HB9
  iintro ⟨HO, HN⟩
  iapply (step_wwait m K c 5 10 (wSlot_of _ 5 rfl _) (sem_w _ 5 rfl _)) $$ [HO HV]
  · isplitl []; · iexact HR
    isplitl [HO]; · iexact HO
    iexact HV
  iintro ⟨HO, HV⟩
  ispecialize Hk $$ %_
  iapply Hk
  isplitl [HO]; · iexact HO
  isplitl [HN]; · iexact HN
  iexact HV

/-- The sixth pair is made and sent. -/
theorem part19 (v19 : BitVec 32) (v546 : BitVec 32) {kk : (Σ' (v583 : BitVec 1), BitVec 32) → Prog (TpuEff nD τ sig (Elt F) Λ₀ .tc) α} :
    iprop(recs m K ∗ wready m c 5 ∗ slabs c 5 ∗ owing c (owedFrom c 10) ∗ sends c 10)
      ⊢ iprop((∀ w0 w1, (wwaits m c 6 ∗ slabs c 6 ∗ owing c (owedFrom c 12) ∗ sends c 12) -∗ wp frame (wpE (defs₀ (F := F)) 𝒱₀ (c : Thread nD τ) none) Set.univ (kk ⟨w0, w1⟩) Q)
        -∗ wp frame (wpE (defs₀ (F := F)) 𝒱₀ (c : Thread nD τ) none) Set.univ (k0_part19 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c v19 (xv m c) v546 >>= kk) Q) := by
  simp only [k0_part19_eq_skeleton]
  unfold k0_part19_skel
  simp only [semSignalWord, semWaitWord, Prog.lift, Prog.bind_op, Prog.bind_ret, Prog.pure_eq_ret]
  iintro ⟨#HR, HV, HY, HO, HN⟩ Hk
  iapply (step_wload m c 5) $$ [HV]
  · iexact HV
  iintro %v %hv HV
  iapply (step_yload c 5) $$ [HY]
  · iexact HY
  iintro %_ HY
  iapply (step_ystore m c 5 (by unfold stored prod; rw [← hv]; rfl)) $$ [HY]
  · iexact HY
  iintro ⟨HB10, HB11, HY⟩
  iapply (step_send m K c 10 (tgt_ne c 10 (by decide)) (Fin.ext (congrFun (dev_send c) 10)) (ySub_of _ 10 rfl _) (rSlot_of _ c (off4_eq c) _) (sem_send _ _ (off2_eq c 10) _) (sem_recv _ c (off3_eq c) _)) $$ [HO HN HB10]
  · isplitl []; · iexact HR
    isplitl [HO]; · iexact HO
    isplitl [HN]; · iexact HN
    iexact HB10
  iintro ⟨HO, HN⟩
  iapply (step_send m K c 11 (tgt_ne c 11 (by decide)) (Fin.ext (congrFun (dev_send c) 11)) (ySub_of _ 11 rfl _) (rSlot_of _ c (off4_eq c) _) (sem_send _ _ (off2_eq c 11) _) (sem_recv _ c (off3_eq c) _)) $$ [HO HN HB11]
  · isplitl []; · iexact HR
    isplitl [HO]; · iexact HO
    isplitl [HN]; · iexact HN
    iexact HB11
  iintro ⟨HO, HN⟩
  ispecialize Hk $$ %_
  ispecialize Hk $$ %_
  iapply Hk
  isplitl [HV]; · iexact HV
  isplitl [HY]; · iexact HY
  isplitl [HO]; · iexact HO
  iexact HN

/-- The seventh pair, the first of the device's own group, is made; its first block is kept or sent. -/
theorem part20 (v19 : BitVec 32) (v29 : BitVec 32) (v583 : BitVec 1) (c1_i32_476 : BitVec 32) {kk : (Σ' (v596 : FVec F S128x256 .f32) (v610 : BitVec 32) (v612 : BitVec 32), BitVec 32) → Prog (TpuEff nD τ sig (Elt F) Λ₀ .tc) α} :
    iprop(recs m K ∗ owing c (owedFrom c 12) ∗ wwaits m c 6 ∗ slabs c 6 ∗ own m c 0 ∗ sends c 12)
      ⊢ iprop((∀ w1 w2 w3, (owing c (owedFrom c 13) ∗ wwaits m c 7 ∗ slabs c 7 ∗ block m c 13 ∗ own m c 1 ∗ sends c 13) -∗ wp frame (wpE (defs₀ (F := F)) 𝒱₀ (c : Thread nD τ) none) Set.univ (kk ⟨(prod m c 6), w1, w2, w3⟩) Q)
        -∗ wp frame (wpE (defs₀ (F := F)) 𝒱₀ (c : Thread nD τ) none) Set.univ (k0_part20 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 v29 (xv m c) v583 c1_i32_476 >>= kk) Q) := by
  simp only [k0_part20_eq_skeleton]
  unfold k0_part20_skel
  simp only [semSignalWord, semWaitWord, Prog.lift, Prog.bind_op, Prog.bind_ret, Prog.pure_eq_ret]
  iintro ⟨#HR, HO, HV, HY, HU, HN⟩ Hk
  iapply (step_wwait m K c 6 12 (wSlot_of _ 6 rfl _) (sem_w _ 6 rfl _)) $$ [HO HV]
  · isplitl []; · iexact HR
    isplitl [HO]; · iexact HO
    iexact HV
  iintro ⟨HO, HV⟩
  iapply (step_wload m c 6) $$ [HV]
  · iexact HV
  iintro %v %hv HV
  iapply (step_yload c 6) $$ [HY]
  · iexact HY
  iintro %_ HY
  iapply (step_ystore m c 6 (by unfold stored prod; rw [← hv]; rfl)) $$ [HY]
  · iexact HY
  iintro ⟨HB12, HB13, HY⟩
  iapply (own_if m c 0 12 rfl (x := k0_cond1 c) (congrFun (cond_own c) 0) (off := k0_off5 c) (congrFun (off_own c) 0) (by unfold ownVal prod; rw [show wv m c (half 12) = _ from hv.symm]; exact shapeCast_self _ _)) $$ [HU]
  · iexact HU
  iintro HU
  iapply (send_if m K c 12 (x := k0_cond2 c) (congrFun (cond_send c) 0) (d' := fun h => ⟨k0_dev28 c, k0_dev28_lt c h⟩) (fun _ => Fin.ext (congrFun (dev_send c) 12)) (ySub_of ![6, 0, 0] 12 rfl _) (fun h => rSlot_of (k0_off8 c) c (congrFun (off_slot c) 0) (k0_off8_inb c h)) (fun h => sem_send (k0_off6 c) _ (congrFun (off_sendsem c) 0) (k0_off6_inb c h)) (fun h => sem_recv (k0_off7 c) c (congrFun (off_recvsem c) 0) (k0_off7_inb c h))) $$ [HO HN HB12]
  · isplitl []; · iexact HR
    isplitl [HO]; · iexact HO
    isplitl [HN]; · iexact HN
    iexact HB12
  iintro ⟨HO, HN⟩
  simp only [Prog.bind_ret]
  rw [show k0_pay8 (xv m c) v = prod m c 6 from by unfold prod; rw [← hv]; rfl]
  ispecialize Hk $$ %_
  ispecialize Hk $$ %_
  ispecialize Hk $$ %_
  iapply Hk
  isplitl [HO]; · iexact HO
  isplitl [HV]; · iexact HV
  isplitl [HY]; · iexact HY
  isplitl [HB13]; · iexact HB13
  isplitl [HU]; · iexact HU
  iexact HN

/-- Its second block is kept or sent; the last pair is made, and its first block kept if it is the device's own. -/
theorem part21 (v19 : BitVec 32) (v29 : BitVec 32) (v610 : BitVec 32) (v612 : BitVec 32) (c0_i32_502 : BitVec 32) {kk : (Σ' (v622 : BitVec 32) (v630 : FVec F S128x256 .f32) (v636 : BitVec 32), BitVec 32) → Prog (TpuEff nD τ sig (Elt F) Λ₀ .tc) α} :
    iprop(recs m K ∗ own m c 1 ∗ owing c (owedFrom c 13) ∗ sends c 13 ∗ block m c 13 ∗ wwaits m c 7 ∗ slabs c 7)
      ⊢ iprop((∀ w0 w2 w3, (own m c 3 ∗ owing c (owedFrom c 14) ∗ sends c 14 ∗ wwaits m c 8 ∗ slabs c 8 ∗ block m c 14 ∗ block m c 15) -∗ wp frame (wpE (defs₀ (F := F)) 𝒱₀ (c : Thread nD τ) none) Set.univ (kk ⟨w0, (prod m c 7), w2, w3⟩) Q)
        -∗ wp frame (wpE (defs₀ (F := F)) 𝒱₀ (c : Thread nD τ) none) Set.univ (k0_part21 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 v29 (xv m c) (prod m c 6) v610 v612 c0_i32_502 >>= kk) Q) := by
  simp only [k0_part21_eq_skeleton]
  unfold k0_part21_skel
  simp only [semSignalWord, semWaitWord, Prog.lift, Prog.bind_op, Prog.bind_ret, Prog.pure_eq_ret]
  iintro ⟨#HR, HU, HO, HN, HB13, HV, HY⟩ Hk
  iapply (own_if m c 1 13 rfl (x := k0_cond3 c) (congrFun (cond_own c) 1) (off := k0_off9 c) (congrFun (off_own c) 1) (shapeCast_self _ _)) $$ [HU]
  · iexact HU
  iintro HU
  iapply (send_if m K c 13 (x := k0_cond4 c) (congrFun (cond_send c) 1) (d' := fun h => ⟨k0_dev29 c, k0_dev29_lt c h⟩) (fun _ => Fin.ext (congrFun (dev_send c) 13)) (ySub_of ![6, 0, 128] 13 rfl _) (fun h => rSlot_of (k0_off12 c) c (congrFun (off_slot c) 1) (k0_off12_inb c h)) (fun h => sem_send (k0_off10 c) _ (congrFun (off_sendsem c) 1) (k0_off10_inb c h)) (fun h => sem_recv (k0_off11 c) c (congrFun (off_recvsem c) 1) (k0_off11_inb c h))) $$ [HO HN HB13]
  · isplitl []; · iexact HR
    isplitl [HO]; · iexact HO
    isplitl [HN]; · iexact HN
    iexact HB13
  iintro ⟨HO, HN⟩
  simp only [Prog.bind_op, Prog.bind_ret]
  iapply (step_wwait m K c 7 14 (wSlot_of _ 7 rfl _) (sem_w _ 7 rfl _)) $$ [HO HV]
  · isplitl []; · iexact HR
    isplitl [HO]; · iexact HO
    iexact HV
  iintro ⟨HO, HV⟩
  iapply (step_wload m c 7) $$ [HV]
  · iexact HV
  iintro %v %hv HV
  iapply (step_yload c 7) $$ [HY]
  · iexact HY
  iintro %_ HY
  iapply (step_ystore m c 7 (by unfold stored prod; rw [← hv]; rfl)) $$ [HY]
  · iexact HY
  iintro ⟨HB14, HB15, HY⟩
  iapply (own_if m c 2 14 rfl (x := k0_cond5 c) (congrFun (cond_own c) 2) (off := k0_off13 c) (congrFun (off_own c) 2) (by unfold ownVal prod; rw [show wv m c (half 14) = _ from hv.symm]; exact shapeCast_self _ _)) $$ [HU]
  · iexact HU
  iintro HU
  simp only [Prog.bind_ret]
  rw [show k0_pay12 (xv m c) v = prod m c 7 from by unfold prod; rw [← hv]; rfl]
  ispecialize Hk $$ %_
  ispecialize Hk $$ %_
  ispecialize Hk $$ %_
  iapply Hk
  isplitl [HU]; · iexact HU
  isplitl [HO]; · iexact HO
  isplitl [HN]; · iexact HN
  isplitl [HV]; · iexact HV
  isplitl [HY]; · iexact HY
  isplitl [HB14]; · iexact HB14
  iexact HB15

/-- The last blocks are kept or sent, and the first block received. -/
theorem part22 (v19 : BitVec 32) (v29 : BitVec 32) (v622 : BitVec 32) (v636 : BitVec 32) (v641 : BitVec 32) {kk : (Σ' (v656 : BitVec 32) (v670 : FVec F S128x128 .f32), BitVec 32) → Prog (TpuEff nD τ sig (Elt F) Λ₀ .tc) α} :
    iprop(recs m K ∗ owing c (owedFrom c 14) ∗ sends c 14 ∗ block m c 14 ∗ own m c 3 ∗ block m c 15 ∗ recvs m c 0)
      ⊢ iprop((∀ w0 w2, (owing c 0 ∗ sends c 16 ∗ own m c 4 ∗ taken m c 0) -∗ wp frame (wpE (defs₀ (F := F)) 𝒱₀ (c : Thread nD τ) none) Set.univ (kk ⟨w0, (extf .f32 (sendVal m (tgt c 0) (pos (tgt c 0) c)) bitsLt_bf16_f32), w2⟩) Q)
        -∗ wp frame (wpE (defs₀ (F := F)) 𝒱₀ (c : Thread nD τ) none) Set.univ (k0_part22 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 v29 v622 (prod m c 7) v636 v641 >>= kk) Q) := by
  simp only [k0_part22_eq_skeleton]
  unfold k0_part22_skel
  simp only [semSignalWord, semWaitWord, Prog.lift, Prog.bind_op, Prog.bind_ret, Prog.pure_eq_ret]
  iintro ⟨#HR, HO, HN, HB14, HU, HB15, HRV⟩ Hk
  iapply (send_if m K c 14 (x := k0_cond6 c) (congrFun (cond_send c) 2) (d' := fun h => ⟨k0_dev30 c, k0_dev30_lt c h⟩) (fun _ => Fin.ext (congrFun (dev_send c) 14)) (ySub_of ![7, 0, 0] 14 rfl _) (fun h => rSlot_of (k0_off16 c) c (congrFun (off_slot c) 2) (k0_off16_inb c h)) (fun h => sem_send (k0_off14 c) _ (congrFun (off_sendsem c) 2) (k0_off14_inb c h)) (fun h => sem_recv (k0_off15 c) c (congrFun (off_recvsem c) 2) (k0_off15_inb c h))) $$ [HO HN HB14]
  · isplitl []; · iexact HR
    isplitl [HO]; · iexact HO
    isplitl [HN]; · iexact HN
    iexact HB14
  iintro ⟨HO, HN⟩
  iapply (own_if m c 3 15 rfl (x := k0_cond7 c) (congrFun (cond_own c) 3) (off := k0_off17 c) (congrFun (off_own c) 3) (shapeCast_self _ _)) $$ [HU]
  · iexact HU
  iintro HU
  iapply (send_if m K c 15 (x := k0_cond8 c) (congrFun (cond_send c) 3) (d' := fun h => ⟨k0_dev31 c, k0_dev31_lt c h⟩) (fun _ => Fin.ext (congrFun (dev_send c) 15)) (ySub_of ![7, 0, 128] 15 rfl _) (fun h => rSlot_of (k0_off20 c) c (congrFun (off_slot c) 3) (k0_off20_inb c h)) (fun h => sem_send (k0_off18 c) _ (congrFun (off_sendsem c) 3) (k0_off18_inb c h)) (fun h => sem_recv (k0_off19 c) c (congrFun (off_recvsem c) 3) (k0_off19_inb c h))) $$ [HO HN HB15]
  · isplitl []; · iexact HR
    isplitl [HO]; · iexact HO
    isplitl [HN]; · iexact HN
    iexact HB15
  iintro ⟨HO, HN⟩
  ihave HO := (show owing (F := F) c (owedFrom c ((15 : Fin 16).val + 1)) ⊢ owing c 0 from sends_done c) $$ HO
  simp only [Prog.bind_op, Prog.bind_ret]
  iapply (step_rwait m K c 0 (tgt_ne c 0 (by decide)) (rSlot_of _ _ (off21_eq c 0) _) (sem_recv _ _ (off2_eq c 0) _)) $$ [HO HRV]
  · isplitl []; · iexact HR
    isplitl [HO]; · iexact HO
    iexact HRV
  iintro ⟨HO, HRV⟩
  iapply (step_rload m c 0 (off22_eq c 0)) $$ [HRV]
  · iexact HRV
  iintro %v %hv HRV
  rw [show k0_pay16 v = extf .f32 (sendVal m (tgt c 0) (pos (tgt c 0) c)) bitsLt_bf16_f32 from by rw [← hv]; rfl]
  ispecialize Hk $$ %_
  ispecialize Hk $$ %_
  iapply Hk
  isplitl [HO]; · iexact HO
  isplitl [HN]; · iexact HN
  isplitl [HU]; · iexact HU
  iexact HRV

end Cert.Proof

end
-- ==== Proof.PartsC.lean ====
/-
  The parts in which the blocks are received, the result copied out, and the blocks sent awaited.
-/
module

public import proofs.«01_k».proof.Proof.Gather

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD) {α : Type} {Q : α → sProp (MT nD τ sig Unit (Elt F) ℕ UU ℕ)}

/-- The first block received is put in its rows, and so is the second; the third is awaited. -/
theorem part23 (v656 : BitVec 32) (v671 : BitVec 32) {kk : (BitVec 32) → Prog (TpuEff nD τ sig (Elt F) Λ₀ .tc) α} :
    iprop(recs m K ∗ taken m c 0 ∗ owing c 0)
      ⊢ iprop((∀ w0, (arrived m c 2 ∗ owing c 0) -∗ wp frame (wpE (defs₀ (F := F)) 𝒱₀ (c : Thread nD τ) none) Set.univ (kk w0) Q)
        -∗ wp frame (wpE (defs₀ (F := F)) 𝒱₀ (c : Thread nD τ) none) Set.univ (k0_part23 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v656 (extf .f32 (sendVal m (tgt c 0) (pos (tgt c 0) c)) bitsLt_bf16_f32) v671 >>= kk) Q) := by
  simp only [k0_part23_eq_skeleton]
  unfold k0_part23_skel
  simp only [semSignalWord, semWaitWord, Prog.lift, Prog.bind_op, Prog.bind_ret, Prog.pure_eq_ret]
  iintro ⟨#HR, HRV, HO⟩ Hk
  iapply (step_rold m c 0 (off23_eq c 0)) $$ [HRV]
  · iexact HRV
  iintro %_ HRV
  iapply (step_rstore m c 0 (tgt_ne c 0 (by decide)) (off23_eq c 0) (shapeCast_self _ _)) $$ [HRV]
  · iexact HRV
  iintro HRV
  iapply (step_rwait m K c 1 (tgt_ne c 1 (by decide)) (rSlot_of _ _ (off21_eq c 1) _) (sem_recv _ _ (off2_eq c 1) _)) $$ [HO HRV]
  · isplitl []; · iexact HR
    isplitl [HO]; · iexact HO
    iexact HRV
  iintro ⟨HO, HRV⟩
  iapply (step_rload m c 1 (off22_eq c 1)) $$ [HRV]
  · iexact HRV
  iintro %v %hv HRV
  iapply (step_rold m c 1 (off23_eq c 1)) $$ [HRV]
  · iexact HRV
  iintro %_ HRV
  iapply (step_rstore m c 1 (tgt_ne c 1 (by decide)) (off23_eq c 1) (by rw [← hv]; exact shapeCast_self _ _)) $$ [HRV]
  · iexact HRV
  iintro HRV
  iapply (step_rwait m K c 2 (tgt_ne c 2 (by decide)) (rSlot_of _ _ (off21_eq c 2) _) (sem_recv _ _ (off2_eq c 2) _)) $$ [HO HRV]
  · isplitl []; · iexact HR
    isplitl [HO]; · iexact HO
    iexact HRV
  iintro ⟨HO, HRV⟩
  ispecialize Hk $$ %_
  iapply Hk
  isplitl [HRV]; · iexact HRV
  iexact HO

/-- The third block and the fourth are put in their rows. -/
theorem part24 (v19 : BitVec 32) (v656 : BitVec 32) (v696 : BitVec 32) {kk : (Σ' (v733 : BitVec 1) (v737 : BitVec 32), BitVec 32) → Prog (TpuEff nD τ sig (Elt F) Λ₀ .tc) α} :
    iprop(recs m K ∗ arrived m c 2 ∗ owing c 0)
      ⊢ iprop((∀ w0 w1 w2, (recvs m c 4 ∗ owing c 0) -∗ wp frame (wpE (defs₀ (F := F)) 𝒱₀ (c : Thread nD τ) none) Set.univ (kk ⟨w0, w1, w2⟩) Q)
        -∗ wp frame (wpE (defs₀ (F := F)) 𝒱₀ (c : Thread nD τ) none) Set.univ (k0_part24 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 v656 v696 >>= kk) Q) := by
  simp only [k0_part24_eq_skeleton]
  unfold k0_part24_skel
  simp only [semSignalWord, semWaitWord, Prog.lift, Prog.bind_op, Prog.bind_ret, Prog.pure_eq_ret]
  iintro ⟨#HR, HRV, HO⟩ Hk
  iapply (step_rload m c 2 (off22_eq c 2)) $$ [HRV]
  · iexact HRV
  iintro %v %hv HRV
  iapply (step_rold m c 2 (off23_eq c 2)) $$ [HRV]
  · iexact HRV
  iintro %_ HRV
  iapply (step_rstore m c 2 (tgt_ne c 2 (by decide)) (off23_eq c 2) (by rw [← hv]; exact shapeCast_self _ _)) $$ [HRV]
  · iexact HRV
  iintro HRV
  iapply (step_rwait m K c 3 (tgt_ne c 3 (by decide)) (rSlot_of _ _ (off21_eq c 3) _) (sem_recv _ _ (off2_eq c 3) _)) $$ [HO HRV]
  · isplitl []; · iexact HR
    isplitl [HO]; · iexact HO
    iexact HRV
  iintro ⟨HO, HRV⟩
  iapply (step_rload m c 3 (off22_eq c 3)) $$ [HRV]
  · iexact HRV
  iintro %v %hv HRV
  iapply (step_rold m c 3 (off23_eq c 3)) $$ [HRV]
  · iexact HRV
  iintro %_ HRV
  iapply (step_rstore m c 3 (tgt_ne c 3 (by decide)) (off23_eq c 3) (by rw [← hv]; exact shapeCast_self _ _)) $$ [HRV]
  · iexact HRV
  iintro HRV
  ispecialize Hk $$ %_
  ispecialize Hk $$ %_
  ispecialize Hk $$ %_
  iapply Hk
  isplitl [HRV]; · iexact HRV
  iexact HO

/-- The fifth block is put in its rows, and the sixth read. -/
theorem part25 (v733 : BitVec 1) (v737 : BitVec 32) (c2_i32_600 : BitVec 32) {kk : (Σ' (v738 : BitVec 32) (v759 : BitVec 32), FVec F S128x128 .bf16) → Prog (TpuEff nD τ sig (Elt F) Λ₀ .tc) α} :
    iprop(recs m K ∗ owing c 0 ∗ recvs m c 4)
      ⊢ iprop((∀ w0 w1, (owing c 0 ∗ taken m c 5) -∗ wp frame (wpE (defs₀ (F := F)) 𝒱₀ (c : Thread nD τ) none) Set.univ (kk ⟨w0, w1, (sendVal m (tgt c 5) (pos (tgt c 5) c))⟩) Q)
        -∗ wp frame (wpE (defs₀ (F := F)) 𝒱₀ (c : Thread nD τ) none) Set.univ (k0_part25 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v733 v737 c2_i32_600 >>= kk) Q) := by
  simp only [k0_part25_eq_skeleton]
  unfold k0_part25_skel
  simp only [semSignalWord, semWaitWord, Prog.lift, Prog.bind_op, Prog.bind_ret, Prog.pure_eq_ret]
  iintro ⟨#HR, HO, HRV⟩ Hk
  iapply (step_rwait m K c 4 (tgt_ne c 4 (by decide)) (rSlot_of _ _ (off21_eq c 4) _) (sem_recv _ _ (off2_eq c 4) _)) $$ [HO HRV]
  · isplitl []; · iexact HR
    isplitl [HO]; · iexact HO
    iexact HRV
  iintro ⟨HO, HRV⟩
  iapply (step_rload m c 4 (off22_eq c 4)) $$ [HRV]
  · iexact HRV
  iintro %v %hv HRV
  iapply (step_rold m c 4 (off23_eq c 4)) $$ [HRV]
  · iexact HRV
  iintro %_ HRV
  iapply (step_rstore m c 4 (tgt_ne c 4 (by decide)) (off23_eq c 4) (by rw [← hv]; exact shapeCast_self _ _)) $$ [HRV]
  · iexact HRV
  iintro HRV
  iapply (step_rwait m K c 5 (tgt_ne c 5 (by decide)) (rSlot_of _ _ (off21_eq c 5) _) (sem_recv _ _ (off2_eq c 5) _)) $$ [HO HRV]
  · isplitl []; · iexact HR
    isplitl [HO]; · iexact HO
    iexact HRV
  iintro ⟨HO, HRV⟩
  iapply (step_rload m c 5 (off22_eq c 5)) $$ [HRV]
  · iexact HRV
  iintro %v %hv HRV
  rw [show k0_pay22 v = sendVal m (tgt c 5) (pos (tgt c 5) c) from by rw [← hv]; rfl]
  ispecialize Hk $$ %_
  ispecialize Hk $$ %_
  iapply Hk
  isplitl [HO]; · iexact HO
  iexact HRV

/-- The sixth block and the seventh are put in their rows. -/
theorem part26 (v738 : BitVec 32) (v759 : BitVec 32) {kk : (BitVec 32) → Prog (TpuEff nD τ sig (Elt F) Λ₀ .tc) α} :
    iprop(recs m K ∗ taken m c 5 ∗ owing c 0)
      ⊢ iprop((∀ w0, (recvs m c 7 ∗ owing c 0) -∗ wp frame (wpE (defs₀ (F := F)) 𝒱₀ (c : Thread nD τ) none) Set.univ (kk w0) Q)
        -∗ wp frame (wpE (defs₀ (F := F)) 𝒱₀ (c : Thread nD τ) none) Set.univ (k0_part26 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v738 v759 (sendVal m (tgt c 5) (pos (tgt c 5) c)) >>= kk) Q) := by
  simp only [k0_part26_eq_skeleton]
  unfold k0_part26_skel
  simp only [semSignalWord, semWaitWord, Prog.lift, Prog.bind_op, Prog.bind_ret, Prog.pure_eq_ret]
  iintro ⟨#HR, HRV, HO⟩ Hk
  iapply (step_rold m c 5 (off23_eq c 5)) $$ [HRV]
  · iexact HRV
  iintro %_ HRV
  iapply (step_rstore m c 5 (tgt_ne c 5 (by decide)) (off23_eq c 5) (shapeCast_self _ _)) $$ [HRV]
  · iexact HRV
  iintro HRV
  iapply (step_rwait m K c 6 (tgt_ne c 6 (by decide)) (rSlot_of _ _ (off21_eq c 6) _) (sem_recv _ _ (off2_eq c 6) _)) $$ [HO HRV]
  · isplitl []; · iexact HR
    isplitl [HO]; · iexact HO
    iexact HRV
  iintro ⟨HO, HRV⟩
  iapply (step_rload m c 6 (off22_eq c 6)) $$ [HRV]
  · iexact HRV
  iintro %v %hv HRV
  iapply (step_rold m c 6 (off23_eq c 6)) $$ [HRV]
  · iexact HRV
  iintro %_ HRV
  iapply (step_rstore m c 6 (tgt_ne c 6 (by decide)) (off23_eq c 6) (by rw [← hv]; exact shapeCast_self _ _)) $$ [HRV]
  · iexact HRV
  iintro HRV
  ispecialize Hk $$ %_
  iapply Hk
  isplitl [HRV]; · iexact HRV
  iexact HO

/-- The eighth block is put in its rows, and the ninth read. -/
theorem part27 (v19 : BitVec 32) (v797 : BitVec 32) {kk : (Σ' (v820 : BitVec 32), FVec F S128x128 .f32) → Prog (TpuEff nD τ sig (Elt F) Λ₀ .tc) α} :
    iprop(recs m K ∗ owing c 0 ∗ recvs m c 7)
      ⊢ iprop((∀ w0, (owing c 0 ∗ taken m c 8) -∗ wp frame (wpE (defs₀ (F := F)) 𝒱₀ (c : Thread nD τ) none) Set.univ (kk ⟨w0, (extf .f32 (sendVal m (tgt c 8) (pos (tgt c 8) c)) bitsLt_bf16_f32)⟩) Q)
        -∗ wp frame (wpE (defs₀ (F := F)) 𝒱₀ (c : Thread nD τ) none) Set.univ (k0_part27 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 v797 >>= kk) Q) := by
  simp only [k0_part27_eq_skeleton]
  unfold k0_part27_skel
  simp only [semSignalWord, semWaitWord, Prog.lift, Prog.bind_op, Prog.bind_ret, Prog.pure_eq_ret]
  iintro ⟨#HR, HO, HRV⟩ Hk
  iapply (step_rwait m K c 7 (tgt_ne c 7 (by decide)) (rSlot_of _ _ (off21_eq c 7) _) (sem_recv _ _ (off2_eq c 7) _)) $$ [HO HRV]
  · isplitl []; · iexact HR
    isplitl [HO]; · iexact HO
    iexact HRV
  iintro ⟨HO, HRV⟩
  iapply (step_rload m c 7 (off22_eq c 7)) $$ [HRV]
  · iexact HRV
  iintro %v %hv HRV
  iapply (step_rold m c 7 (off23_eq c 7)) $$ [HRV]
  · iexact HRV
  iintro %_ HRV
  iapply (step_rstore m c 7 (tgt_ne c 7 (by decide)) (off23_eq c 7) (by rw [← hv]; exact shapeCast_self _ _)) $$ [HRV]
  · iexact HRV
  iintro HRV
  iapply (step_rwait m K c 8 (tgt_ne c 8 (by decide)) (rSlot_of _ _ (off21_eq c 8) _) (sem_recv _ _ (off2_eq c 8) _)) $$ [HO HRV]
  · isplitl []; · iexact HR
    isplitl [HO]; · iexact HO
    iexact HRV
  iintro ⟨HO, HRV⟩
  iapply (step_rload m c 8 (off22_eq c 8)) $$ [HRV]
  · iexact HRV
  iintro %v %hv HRV
  rw [show k0_pay26 v = extf .f32 (sendVal m (tgt c 8) (pos (tgt c 8) c)) bitsLt_bf16_f32 from by rw [← hv]; rfl]
  ispecialize Hk $$ %_
  iapply Hk
  isplitl [HO]; · iexact HO
  iexact HRV

/-- The ninth block and the tenth are put in their rows; the eleventh is awaited. -/
theorem part28 (v820 : BitVec 32) {kk : (BitVec 32) → Prog (TpuEff nD τ sig (Elt F) Λ₀ .tc) α} :
    iprop(recs m K ∗ taken m c 8 ∗ owing c 0)
      ⊢ iprop((∀ w0, (arrived m c 10 ∗ owing c 0) -∗ wp frame (wpE (defs₀ (F := F)) 𝒱₀ (c : Thread nD τ) none) Set.univ (kk w0) Q)
        -∗ wp frame (wpE (defs₀ (F := F)) 𝒱₀ (c : Thread nD τ) none) Set.univ (k0_part28 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v820 (extf .f32 (sendVal m (tgt c 8) (pos (tgt c 8) c)) bitsLt_bf16_f32) >>= kk) Q) := by
  simp only [k0_part28_eq_skeleton]
  unfold k0_part28_skel
  simp only [semSignalWord, semWaitWord, Prog.lift, Prog.bind_op, Prog.bind_ret, Prog.pure_eq_ret]
  iintro ⟨#HR, HRV, HO⟩ Hk
  iapply (step_rold m c 8 (off23_eq c 8)) $$ [HRV]
  · iexact HRV
  iintro %_ HRV
  iapply (step_rstore m c 8 (tgt_ne c 8 (by decide)) (off23_eq c 8) (shapeCast_self _ _)) $$ [HRV]
  · iexact HRV
  iintro HRV
  iapply (step_rwait m K c 9 (tgt_ne c 9 (by decide)) (rSlot_of _ _ (off21_eq c 9) _) (sem_recv _ _ (off2_eq c 9) _)) $$ [HO HRV]
  · isplitl []; · iexact HR
    isplitl [HO]; · iexact HO
    iexact HRV
  iintro ⟨HO, HRV⟩
  iapply (step_rload m c 9 (off22_eq c 9)) $$ [HRV]
  · iexact HRV
  iintro %v %hv HRV
  iapply (step_rold m c 9 (off23_eq c 9)) $$ [HRV]
  · iexact HRV
  iintro %_ HRV
  iapply (step_rstore m c 9 (tgt_ne c 9 (by decide)) (off23_eq c 9) (by rw [← hv]; exact shapeCast_self _ _)) $$ [HRV]
  · iexact HRV
  iintro HRV
  iapply (step_rwait m K c 10 (tgt_ne c 10 (by decide)) (rSlot_of _ _ (off21_eq c 10) _) (sem_recv _ _ (off2_eq c 10) _)) $$ [HO HRV]
  · isplitl []; · iexact HR
    isplitl [HO]; · iexact HO
    iexact HRV
  iintro ⟨HO, HRV⟩
  ispecialize Hk $$ %_
  iapply Hk
  isplitl [HRV]; · iexact HRV
  iexact HO

/-- The eleventh block and the twelfth are put in their rows. -/
theorem part29 (v19 : BitVec 32) (v820 : BitVec 32) (v860 : BitVec 32) {kk : (Σ' (v902 : BitVec 32), BitVec 32) → Prog (TpuEff nD τ sig (Elt F) Λ₀ .tc) α} :
    iprop(recs m K ∗ arrived m c 10 ∗ owing c 0)
      ⊢ iprop((∀ w0 w1, (recvs m c 12 ∗ owing c 0) -∗ wp frame (wpE (defs₀ (F := F)) 𝒱₀ (c : Thread nD τ) none) Set.univ (kk ⟨w0, w1⟩) Q)
        -∗ wp frame (wpE (defs₀ (F := F)) 𝒱₀ (c : Thread nD τ) none) Set.univ (k0_part29 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v19 v820 v860 >>= kk) Q) := by
  simp only [k0_part29_eq_skeleton]
  unfold k0_part29_skel
  simp only [semSignalWord, semWaitWord, Prog.lift, Prog.bind_op, Prog.bind_ret, Prog.pure_eq_ret]
  iintro ⟨#HR, HRV, HO⟩ Hk
  iapply (step_rload m c 10 (off22_eq c 10)) $$ [HRV]
  · iexact HRV
  iintro %v %hv HRV
  iapply (step_rold m c 10 (off23_eq c 10)) $$ [HRV]
  · iexact HRV
  iintro %_ HRV
  iapply (step_rstore m c 10 (tgt_ne c 10 (by decide)) (off23_eq c 10) (by rw [← hv]; exact shapeCast_self _ _)) $$ [HRV]
  · iexact HRV
  iintro HRV
  iapply (step_rwait m K c 11 (tgt_ne c 11 (by decide)) (rSlot_of _ _ (off21_eq c 11) _) (sem_recv _ _ (off2_eq c 11) _)) $$ [HO HRV]
  · isplitl []; · iexact HR
    isplitl [HO]; · iexact HO
    iexact HRV
  iintro ⟨HO, HRV⟩
  iapply (step_rload m c 11 (off22_eq c 11)) $$ [HRV]
  · iexact HRV
  iintro %v %hv HRV
  iapply (step_rold m c 11 (off23_eq c 11)) $$ [HRV]
  · iexact HRV
  iintro %_ HRV
  iapply (step_rstore m c 11 (tgt_ne c 11 (by decide)) (off23_eq c 11) (by rw [← hv]; exact shapeCast_self _ _)) $$ [HRV]
  · iexact HRV
  iintro HRV
  ispecialize Hk $$ %_
  ispecialize Hk $$ %_
  iapply Hk
  isplitl [HRV]; · iexact HRV
  iexact HO

/-- The blocks of the device's own group are received, the result starts on its way out, and the first blocks sent are awaited. -/
theorem part30 (v29 : BitVec 32) (v902 : BitVec 32) (c4_i32_719 : BitVec 32) {kk : (BitVec 1) → Prog (TpuEff nD τ sig (Elt F) Λ₀ .tc) α} :
    iprop(recs m K ∗ owing c 0 ∗ recvs m c 12 ∗ own m c 4 ∗ anyAt c outM ∗ dutyTok (ER (F := F)) ((c : Thread nD τ), .dma oS) 0 c ∗ swaits c 0)
      ⊢ iprop(((owing c 0 ∗ recvEnd c ∗ cred (tallyAt ((c : Thread nD τ), .dma oS) () NO) ∗ swaits c 3) -∗ wp frame (wpE (defs₀ (F := F)) 𝒱₀ (c : Thread nD τ) none) Set.univ (kk (Scalar.cmpi .ne (BitVec.ofNat 32 c.val) 3#32)) Q)
        -∗ wp frame (wpE (defs₀ (F := F)) 𝒱₀ (c : Thread nD τ) none) Set.univ (k0_part30 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 c (BitVec.ofNat 32 c.val) v29 v902 c4_i32_719 >>= kk) Q) := by
  simp only [k0_part30_eq_skeleton]
  unfold k0_part30_skel
  simp only [semSignalWord, semWaitWord, Prog.lift, Prog.bind_op, Prog.bind_ret, Prog.pure_eq_ret]
  iintro ⟨#HR, HO, HRV, HU, HOUT, HTO, HT⟩ Hk
  iapply (recv_if m K c 12 (x := k0_cond9 c) (congrFun (cond_recv c) 0) (fun h => rSlot_of (k0_off25 c) _ (congrFun (off_waitslot c) 0) (k0_off25_inb c h)) (fun h => sem_recv (k0_off24 c) _ (congrFun (off_waitsem c) 0) (k0_off24_inb c h)) (off := k0_off26 c) (congrFun (off_loadslot c) 0) (off' := k0_off27 c) (congrFun (off_rows c) 0) (w := k0_pay31) (fun _ => shapeCast_self _ _)) $$ [HO HRV]
  · isplitl []; · iexact HR
    isplitl [HO]; · iexact HO
    iexact HRV
  iintro ⟨HO, HRV⟩
  iapply (recv_if m K c 13 (x := k0_cond10 c) (congrFun (cond_recv c) 1) (fun h => rSlot_of (k0_off29 c) _ (congrFun (off_waitslot c) 1) (k0_off29_inb c h)) (fun h => sem_recv (k0_off28 c) _ (congrFun (off_waitsem c) 1) (k0_off28_inb c h)) (off := k0_off30 c) (congrFun (off_loadslot c) 1) (off' := k0_off31 c) (congrFun (off_rows c) 1) (w := k0_pay32) (fun _ => shapeCast_self _ _)) $$ [HO HRV]
  · isplitl []; · iexact HR
    isplitl [HO]; · iexact HO
    iexact HRV
  iintro ⟨HO, HRV⟩
  iapply (recv_if m K c 14 (x := k0_cond11 c) (congrFun (cond_recv c) 2) (fun h => rSlot_of (k0_off33 c) _ (congrFun (off_waitslot c) 2) (k0_off33_inb c h)) (fun h => sem_recv (k0_off32 c) _ (congrFun (off_waitsem c) 2) (k0_off32_inb c h)) (off := k0_off34 c) (congrFun (off_loadslot c) 2) (off' := k0_off35 c) (congrFun (off_rows c) 2) (w := k0_pay33) (fun _ => shapeCast_self _ _)) $$ [HO HRV]
  · isplitl []; · iexact HR
    isplitl [HO]; · iexact HO
    iexact HRV
  iintro ⟨HO, HRV⟩
  iapply (recv_if m K c 15 (x := k0_cond12 c) (congrFun (cond_recv c) 3) (fun h => rSlot_of (k0_off37 c) _ (congrFun (off_waitslot c) 3) (k0_off37_inb c h)) (fun h => sem_recv (k0_off36 c) _ (congrFun (off_waitsem c) 3) (k0_off36_inb c h)) (off := k0_off38 c) (congrFun (off_loadslot c) 3) (off' := k0_off39 c) (congrFun (off_rows c) 3) (w := k0_pay34) (fun _ => shapeCast_self _ _)) $$ [HO HRV]
  · isplitl []; · iexact HR
    isplitl [HO]; · iexact HO
    iexact HRV
  iintro ⟨HO, HRV⟩
  simp only [Prog.bind_op, Prog.bind_ret]
  icases (gather m c) $$ [HU HRV] with ⟨HZ, ⟨%g, %hg, HF⟩⟩
  · isplitl [HU]; · iexact HU
    iexact HRV
  iapply (step_ocopy m K c g hg rfl rfl rfl) $$ [HF HOUT HTO]
  · isplitl []; · iexact HR
    isplitl [HF]; · iexact HF
    isplitl [HOUT]; · iexact HOUT
    iexact HTO
  iintro HCO
  iapply (swait_if m K c 0 (x := Scalar.cmpi .ne (Scalar.extui (Scalar.cmpi .ne (BitVec.ofNat 32 c.val) 0#32) : BitVec 32) 0#32) (cond_wait c 0) (ySub_of ![0, 0, 0] 0 rfl _) (sem_send ![0] 0 rfl _)) $$ [HO HT]
  · isplitl []; · iexact HR
    isplitl [HO]; · iexact HO
    iexact HT
  iintro ⟨HO, HT⟩
  iapply (swait_if m K c 1 (x := Scalar.cmpi .ne (Scalar.extui (Scalar.cmpi .ne (BitVec.ofNat 32 c.val) 1#32) : BitVec 32) 0#32) (cond_wait c 1) (ySub_of ![0, 0, 0] 0 rfl _) (sem_send ![1] 1 rfl _)) $$ [HO HT]
  · isplitl []; · iexact HR
    isplitl [HO]; · iexact HO
    iexact HT
  iintro ⟨HO, HT⟩
  iapply (swait_if m K c 2 (x := Scalar.cmpi .ne (Scalar.extui (Scalar.cmpi .ne (BitVec.ofNat 32 c.val) 2#32) : BitVec 32) 0#32) (cond_wait c 2) (ySub_of ![0, 0, 0] 0 rfl _) (sem_send ![2] 2 rfl _)) $$ [HO HT]
  · isplitl []; · iexact HR
    isplitl [HO]; · iexact HO
    iexact HT
  iintro ⟨HO, HT⟩
  simp only [Prog.bind_ret]
  iapply Hk
  isplitl [HO]; · iexact HO
  isplitl [HZ]; · iexact HZ
  isplitl [HCO]; · iexact HCO
  iexact HT

/-- Ten more blocks sent are awaited. -/
theorem part31 {kk : (BitVec 1) → Prog (TpuEff nD τ sig (Elt F) Λ₀ .tc) α} :
    iprop(recs m K ∗ owing c 0 ∗ swaits c 3)
      ⊢ iprop(((owing c 0 ∗ swaits c 13) -∗ wp frame (wpE (defs₀ (F := F)) 𝒱₀ (c : Thread nD τ) none) Set.univ (kk (Scalar.cmpi .ne (BitVec.ofNat 32 c.val) 13#32)) Q)
        -∗ wp frame (wpE (defs₀ (F := F)) 𝒱₀ (c : Thread nD τ) none) Set.univ (k0_part31 aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9 (BitVec.ofNat 32 c.val) (Scalar.cmpi .ne (BitVec.ofNat 32 c.val) 3#32) >>= kk) Q) := by
  simp only [k0_part31_eq_skeleton]
  unfold k0_part31_skel
  simp only [semSignalWord, semWaitWord, Prog.lift, Prog.bind_op, Prog.bind_ret, Prog.pure_eq_ret]
  iintro ⟨#HR, HO, HT⟩ Hk
  iapply (swait_if m K c 3 (x := Scalar.cmpi .ne (Scalar.extui (Scalar.cmpi .ne (BitVec.ofNat 32 c.val) 3#32) : BitVec 32) 0#32) (cond_wait c 3) (ySub_of ![0, 0, 0] 0 rfl _) (sem_send ![3] 3 rfl _)) $$ [HO HT]
  · isplitl []; · iexact HR
    isplitl [HO]; · iexact HO
    iexact HT
  iintro ⟨HO, HT⟩
  iapply (swait_if m K c 4 (x := Scalar.cmpi .ne (Scalar.extui (Scalar.cmpi .ne (BitVec.ofNat 32 c.val) 4#32) : BitVec 32) 0#32) (cond_wait c 4) (ySub_of ![0, 0, 0] 0 rfl _) (sem_send ![4] 4 rfl _)) $$ [HO HT]
  · isplitl []; · iexact HR
    isplitl [HO]; · iexact HO
    iexact HT
  iintro ⟨HO, HT⟩
  iapply (swait_if m K c 5 (x := Scalar.cmpi .ne (Scalar.extui (Scalar.cmpi .ne (BitVec.ofNat 32 c.val) 5#32) : BitVec 32) 0#32) (cond_wait c 5) (ySub_of ![0, 0, 0] 0 rfl _) (sem_send ![5] 5 rfl _)) $$ [HO HT]
  · isplitl []; · iexact HR
    isplitl [HO]; · iexact HO
    iexact HT
  iintro ⟨HO, HT⟩
  iapply (swait_if m K c 6 (x := Scalar.cmpi .ne (Scalar.extui (Scalar.cmpi .ne (BitVec.ofNat 32 c.val) 6#32) : BitVec 32) 0#32) (cond_wait c 6) (ySub_of ![0, 0, 0] 0 rfl _) (sem_send ![6] 6 rfl _)) $$ [HO HT]
  · isplitl []; · iexact HR
    isplitl [HO]; · iexact HO
    iexact HT
  iintro ⟨HO, HT⟩
  iapply (swait_if m K c 7 (x := Scalar.cmpi .ne (Scalar.extui (Scalar.cmpi .ne (BitVec.ofNat 32 c.val) 7#32) : BitVec 32) 0#32) (cond_wait c 7) (ySub_of ![0, 0, 0] 0 rfl _) (sem_send ![7] 7 rfl _)) $$ [HO HT]
  · isplitl []; · iexact HR
    isplitl [HO]; · iexact HO
    iexact HT
  iintro ⟨HO, HT⟩
  iapply (swait_if m K c 8 (x := Scalar.cmpi .ne (Scalar.extui (Scalar.cmpi .ne (BitVec.ofNat 32 c.val) 8#32) : BitVec 32) 0#32) (cond_wait c 8) (ySub_of ![0, 0, 0] 0 rfl _) (sem_send ![8] 8 rfl _)) $$ [HO HT]
  · isplitl []; · iexact HR
    isplitl [HO]; · iexact HO
    iexact HT
  iintro ⟨HO, HT⟩
  iapply (swait_if m K c 9 (x := Scalar.cmpi .ne (Scalar.extui (Scalar.cmpi .ne (BitVec.ofNat 32 c.val) 9#32) : BitVec 32) 0#32) (cond_wait c 9) (ySub_of ![0, 0, 0] 0 rfl _) (sem_send ![9] 9 rfl _)) $$ [HO HT]
  · isplitl []; · iexact HR
    isplitl [HO]; · iexact HO
    iexact HT
  iintro ⟨HO, HT⟩
  iapply (swait_if m K c 10 (x := Scalar.cmpi .ne (Scalar.extui (Scalar.cmpi .ne (BitVec.ofNat 32 c.val) 10#32) : BitVec 32) 0#32) (cond_wait c 10) (ySub_of ![0, 0, 0] 0 rfl _) (sem_send ![10] 10 rfl _)) $$ [HO HT]
  · isplitl []; · iexact HR
    isplitl [HO]; · iexact HO
    iexact HT
  iintro ⟨HO, HT⟩
  iapply (swait_if m K c 11 (x := Scalar.cmpi .ne (Scalar.extui (Scalar.cmpi .ne (BitVec.ofNat 32 c.val) 11#32) : BitVec 32) 0#32) (cond_wait c 11) (ySub_of ![0, 0, 0] 0 rfl _) (sem_send ![11] 11 rfl _)) $$ [HO HT]
  · isplitl []; · iexact HR
    isplitl [HO]; · iexact HO
    iexact HT
  iintro ⟨HO, HT⟩
  iapply (swait_if m K c 12 (x := Scalar.cmpi .ne (Scalar.extui (Scalar.cmpi .ne (BitVec.ofNat 32 c.val) 12#32) : BitVec 32) 0#32) (cond_wait c 12) (ySub_of ![0, 0, 0] 0 rfl _) (sem_send ![12] 12 rfl _)) $$ [HO HT]
  · isplitl []; · iexact HR
    isplitl [HO]; · iexact HO
    iexact HT
  iintro ⟨HO, HT⟩
  simp only [Prog.bind_ret]
  iapply Hk
  isplitl [HO]; · iexact HO
  iexact HT

end Cert.Proof

end
-- ==== Proof.Body.lean ====
/-
  The kernel's body on one device, from its parts.
-/
module

public import proofs.«01_k».proof.Proof.PartsA
public import proofs.«01_k».proof.Proof.PartsB
public import proofs.«01_k».proof.Proof.PartsC

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)
variable (c : Dev nD)

/-- With all the columns on their way, they are to be awaited. -/
theorem wwaits_start : iprop(wcopies m c 8 ∗ (bigSep Finset.univ fun k : Fin 8 => atPos (ER (F := F)) ((c : Thread nD τ), .dma (wS k)) 0 ∅ 0)) ⊢ wwaits m c 0 := by
  unfold wcopies wwaits
  rw [stage_all, stage_zero]
  exact zip_places _ _

/-- With all the blocks on their way, they are to be awaited, in the order of the devices they go to. -/
theorem swaits_start : iprop(sends (F := F) c 16 ∗ (bigSep Finset.univ fun d : Fin 16 => atPos (ER (F := F)) ((c : Thread nD τ), .dma (sendS d)) 0 ∅ 0)) ⊢ swaits c 0 := by
  unfold sends swaits
  rw [stage_all, stage_zero]
  iintro ⟨HS, HP⟩
  iapply (zip_places _ _)
  isplitl [HP]; · iexact HP
  iapply (at_places c (fun d => if d = c then anyAt c (ySub (pos c d)) else cred (tallyAt ((c : Thread nD τ), .dma (sendS d)) () NB)))
  rw [bigSep_congr (Φ := fun p : Fin 16 => if tgt c p = c then anyAt c (ySub (pos c (tgt c p))) else cred (tallyAt ((c : Thread nD τ), .dma (sendS (tgt c p))) () NB))
    (Ψ := fun p : Fin 16 => if tgt c p = c then anyAt c (ySub p) else cred (tallyAt ((c : Thread nD τ), .dma (sendS (tgt c p))) () NB)) fun p _ => by rw [pos_tgt]]
  iexact HS

/-- The program at its end: what is held is what is to be shown. -/
theorem wp_end {α : Type} {P : Prog (TpuEff nD τ sig (Elt F) Λ₀ .tc) α} {Q : α → sProp (MT nD τ sig Unit (Elt F) ℕ UU ℕ)} :
    wp frame (wpE (defs₀ (F := F)) 𝒱₀ (c : Thread nD τ) none) Set.univ (P >>= Prog.ret) Q ⊢ wp frame (wpE (defs₀ (F := F)) 𝒱₀ (c : Thread nD τ) none) Set.univ P Q := by
  rw [show P >>= Prog.ret = P from bind_pure P]

/-- What device `c` holds when the kernel starts. -/
def bodyPre : sProp 𝕄 :=
  iprop(ptsAt c aM (m ((c : Thread nD τ).loc main_arg0))
    ∗ anyAt c xM
    ∗ dutyTok (ER (F := F)) ((c : Thread nD τ), .dma xS) 0 c
    ∗ atPos (ER (F := F)) ((c : Thread nD τ), .dma xS) 0 ∅ 0
    ∗ wcopies m c 0
    ∗ (bigSep Finset.univ fun k : Fin 8 => atPos (ER (F := F)) ((c : Thread nD τ), .dma (wS k)) 0 ∅ 0)
    ∗ signals c 0
    ∗ cred (tallyAt ((c : Thread nD τ), .reg barS) () 15)
    ∗ atPos (ER (F := F)) ((c : Thread nD τ), .reg barS) 0 ∅ 0
    ∗ sendRights c
    ∗ slabs c 0
    ∗ own m c 0
    ∗ recvs m c 0
    ∗ (bigSep Finset.univ fun d : Fin 16 => atPos (ER (F := F)) ((c : Thread nD τ), .dma (sendS d)) 0 ∅ 0)
    ∗ anyAt c outM
    ∗ dutyTok (ER (F := F)) ((c : Thread nD τ), .dma oS) 0 c
    ∗ atPos (ER (F := F)) ((c : Thread nD τ), .dma oS) 0 ∅ 0)

/-- What it holds when the kernel has run: everything it had, its semaphores at zero, the result. -/
def bodyPost : sProp 𝕄 :=
  iprop(semVal ((c : Thread nD τ), .reg barS) 0
    ∗ semVal ((c : Thread nD τ), .dma xS) 0
    ∗ ptsAt c aM (m ((c : Thread nD τ).loc main_arg0))
    ∗ holds c xM (xv m c)
    ∗ wwaits m c 8
    ∗ swaits c 16
    ∗ recvEnd c
    ∗ semVal ((c : Thread nD τ), .dma oS) 0
    ∗ anyAt c oM
    ∗ result m c)

/-- The kernel at device `c`: from what it holds when it starts, it runs through, and holds the result. -/
theorem body_run : iprop(recs m K ∗ owing c (owedFrom c 0 + barOwed c 0) ∗ bodyPre m c)
    ⊢ wp frame (wpE (defs₀ (F := F)) 𝒱₀ (c : Thread nD τ) none) Set.univ (cc0_body aM (Memref.isWhole_whole _) bM (Memref.isWhole_whole _) outM (Memref.isWhole_whole _) xM (Memref.isWhole_whole _) wM (Memref.isWhole_whole _) yM (Memref.isWhole_whole _) rM (Memref.isWhole_whole _) oM (Memref.isWhole_whole _) cc0_scratch5 cc0_scratch6 cc0_scratch7 cc0_scratch8 cc0_scratch9) fun _ => iprop(owing c 0 ∗ bodyPost m c) := by
  simp only [cc0_body_eq_skeleton]
  unfold cc0_body_skel bodyPre bodyPost
  iintro ⟨#HR, HO, HXA, HXM, HTX, HAX, HW, HPW, HG, HCB, HAB, HSR, HY, HU, HRV, HPS, HOUT, HTO, HAO⟩
  iapply (part1 m K c) $$ [HXA HXM HTX]
  · isplitl []; · iexact HR
    isplitl [HXA]; · iexact HXA
    isplitl [HXM]; · iexact HXM
    iexact HTX
  iintro %w1_2 %w1_3 %w1_4 HCX
  dsimp only
  iapply (part2 m K c _ _) $$ [HW]
  · isplitl []; · iexact HR
    iexact HW
  iintro HW
  iapply (part3 m K c _) $$ [HW]
  · isplitl []; · iexact HR
    iexact HW
  iintro HW
  iapply (part4 m K c _) $$ [HW]
  · isplitl []; · iexact HR
    iexact HW
  iintro HW
  iapply (part5 m K c _) $$ [HW HO HG]
  · isplitl []; · iexact HR
    isplitl [HW]; · iexact HW
    isplitl [HO]; · iexact HO
    iexact HG
  iintro %w5_1 %w5_2 %w5_3 ⟨HW, HO, HG⟩
  dsimp only
  iapply (part6 m K c _ _ _) $$ [HO HG]
  · isplitl []; · iexact HR
    isplitl [HO]; · iexact HO
    iexact HG
  iintro %w6_0 %w6_1 %w6_2 ⟨HO, HG⟩
  dsimp only
  iapply (part7 m K c _ _ _) $$ [HO HG]
  · isplitl []; · iexact HR
    isplitl [HO]; · iexact HO
    iexact HG
  iintro %w7_0 %w7_1 %w7_2 ⟨HO, HG⟩
  dsimp only
  iapply (part8 m K c _ _ _) $$ [HO HG]
  · isplitl []; · iexact HR
    isplitl [HO]; · iexact HO
    iexact HG
  iintro %w8_0 %w8_1 %w8_2 ⟨HO, HG⟩
  dsimp only
  iapply (part9 m K c _ _ _) $$ [HO HG]
  · isplitl []; · iexact HR
    isplitl [HO]; · iexact HO
    iexact HG
  iintro %w9_0 %w9_1 %w9_2 ⟨HO, HG⟩
  dsimp only
  iapply (part10 m K c _ _ _) $$ [HO HG]
  · isplitl []; · iexact HR
    isplitl [HO]; · iexact HO
    iexact HG
  iintro %w10_0 %w10_1 %w10_2 ⟨HO, HG⟩
  dsimp only
  iapply (part11 m K c _ _ _ _) $$ [HO HG HCB HAB HSR HCX HAX]
  · isplitl []; · iexact HR
    isplitl [HO]; · iexact HO
    isplitl [HG]; · iexact HG
    isplitl [HCB]; · iexact HCB
    isplitl [HAB]; · iexact HAB
    isplitl [HSR]; · iexact HSR
    isplitl [HCX]; · iexact HCX
    iexact HAX
  iintro %w11_1 ⟨HO, HZB, HN, HZX, HXA, HXH⟩
  dsimp only
  ihave HV := (wwaits_start m c) $$ [HW HPW]
  · isplitl [HW]; · iexact HW
    iexact HPW
  iapply (part12 m K c _) $$ [HO HV HY HN]
  · isplitl []; · iexact HR
    isplitl [HO]; · iexact HO
    isplitl [HV]; · iexact HV
    isplitl [HY]; · iexact HY
    iexact HN
  iintro ⟨HO, HV, HY, HB1, HN⟩
  iapply (part13 m K c _) $$ [HO HN HB1 HV HY]
  · isplitl []; · iexact HR
    isplitl [HO]; · iexact HO
    isplitl [HN]; · iexact HN
    isplitl [HB1]; · iexact HB1
    isplitl [HV]; · iexact HV
    iexact HY
  iintro %w13_0 ⟨HO, HN, HV, HY, HB2, HB3⟩
  iapply (part14 m K c _ _) $$ [HO HN HB2 HB3 HV]
  · isplitl []; · iexact HR
    isplitl [HO]; · iexact HO
    isplitl [HN]; · iexact HN
    isplitl [HB2]; · iexact HB2
    isplitl [HB3]; · iexact HB3
    iexact HV
  iintro %w14_0 ⟨HO, HN, HV⟩
  dsimp only
  iapply (part15 m K c _ _) $$ [HY HO HN]
  · isplitl []; · iexact HR
    isplitl [HY]; · iexact HY
    isplitl [HO]; · iexact HO
    iexact HN
  iintro %w15_0 %w15_1 %w15_2 ⟨HY, HO, HN⟩
  dsimp only
  iapply (part16 m K c _ _ _) $$ [HO HV HY HN]
  · isplitl []; · iexact HR
    isplitl [HO]; · iexact HO
    isplitl [HV]; · iexact HV
    isplitl [HY]; · iexact HY
    iexact HN
  iintro ⟨HO, HV, HY, HB7, HN⟩
  iapply (part17 m K c _) $$ [HO HN HB7 HV HY]
  · isplitl []; · iexact HR
    isplitl [HO]; · iexact HO
    isplitl [HN]; · iexact HN
    isplitl [HB7]; · iexact HB7
    isplitl [HV]; · iexact HV
    iexact HY
  iintro %w17_0 ⟨HO, HN, HV, HY, HB8, HB9⟩
  iapply (part18 m K c _ _) $$ [HO HN HB8 HB9 HV]
  · isplitl []; · iexact HR
    isplitl [HO]; · iexact HO
    isplitl [HN]; · iexact HN
    isplitl [HB8]; · iexact HB8
    isplitl [HB9]; · iexact HB9
    iexact HV
  iintro %w18_0 ⟨HO, HN, HV⟩
  iapply (part19 m K c _ _) $$ [HV HY HO HN]
  · isplitl []; · iexact HR
    isplitl [HV]; · iexact HV
    isplitl [HY]; · iexact HY
    isplitl [HO]; · iexact HO
    iexact HN
  iintro %w19_0 %w19_1 ⟨HV, HY, HO, HN⟩
  dsimp only
  iapply (part20 m K c _ _ _ _) $$ [HO HV HY HU HN]
  · isplitl []; · iexact HR
    isplitl [HO]; · iexact HO
    isplitl [HV]; · iexact HV
    isplitl [HY]; · iexact HY
    isplitl [HU]; · iexact HU
    iexact HN
  iintro %w20_1 %w20_2 %w20_3 ⟨HO, HV, HY, HB13, HU, HN⟩
  dsimp only
  iapply (part21 m K c _ _ _ _ _) $$ [HU HO HN HB13 HV HY]
  · isplitl []; · iexact HR
    isplitl [HU]; · iexact HU
    isplitl [HO]; · iexact HO
    isplitl [HN]; · iexact HN
    isplitl [HB13]; · iexact HB13
    isplitl [HV]; · iexact HV
    iexact HY
  iintro %w21_0 %w21_2 %w21_3 ⟨HU, HO, HN, HV, HY, HB14, HB15⟩
  dsimp only
  iapply (part22 m K c _ _ _ _ _) $$ [HO HN HB14 HU HB15 HRV]
  · isplitl []; · iexact HR
    isplitl [HO]; · iexact HO
    isplitl [HN]; · iexact HN
    isplitl [HB14]; · iexact HB14
    isplitl [HU]; · iexact HU
    isplitl [HB15]; · iexact HB15
    iexact HRV
  iintro %w22_0 %w22_2 ⟨HO, HN, HU, HRV⟩
  dsimp only
  iapply (part23 m K c _ _) $$ [HRV HO]
  · isplitl []; · iexact HR
    isplitl [HRV]; · iexact HRV
    iexact HO
  iintro %w23_0 ⟨HRV, HO⟩
  iapply (part24 m K c _ _ _) $$ [HRV HO]
  · isplitl []; · iexact HR
    isplitl [HRV]; · iexact HRV
    iexact HO
  iintro %w24_0 %w24_1 %w24_2 ⟨HRV, HO⟩
  dsimp only
  iapply (part25 m K c _ _ _) $$ [HO HRV]
  · isplitl []; · iexact HR
    isplitl [HO]; · iexact HO
    iexact HRV
  iintro %w25_0 %w25_1 ⟨HO, HRV⟩
  dsimp only
  iapply (part26 m K c _ _) $$ [HRV HO]
  · isplitl []; · iexact HR
    isplitl [HRV]; · iexact HRV
    iexact HO
  iintro %w26_0 ⟨HRV, HO⟩
  iapply (part27 m K c _ _) $$ [HO HRV]
  · isplitl []; · iexact HR
    isplitl [HO]; · iexact HO
    iexact HRV
  iintro %w27_0 ⟨HO, HRV⟩
  dsimp only
  iapply (part28 m K c _) $$ [HRV HO]
  · isplitl []; · iexact HR
    isplitl [HRV]; · iexact HRV
    iexact HO
  iintro %w28_0 ⟨HRV, HO⟩
  iapply (part29 m K c _ _ _) $$ [HRV HO]
  · isplitl []; · iexact HR
    isplitl [HRV]; · iexact HRV
    iexact HO
  iintro %w29_0 %w29_1 ⟨HRV, HO⟩
  dsimp only
  ihave HT := (swaits_start c) $$ [HN HPS]
  · isplitl [HN]; · iexact HN
    iexact HPS
  iapply (part30 m K c _ _ _) $$ [HO HRV HU HOUT HTO HT]
  · isplitl []; · iexact HR
    isplitl [HO]; · iexact HO
    isplitl [HRV]; · iexact HRV
    isplitl [HU]; · iexact HU
    isplitl [HOUT]; · iexact HOUT
    isplitl [HTO]; · iexact HTO
    iexact HT
  iintro ⟨HO, HZ, HCO, HT⟩
  iapply (part31 m K c) $$ [HO HT]
  · isplitl []; · iexact HR
    isplitl [HO]; · iexact HO
    iexact HT
  iintro ⟨HO, HT⟩
  simp only [Prog.lift, Prog.bind_op, Prog.bind_ret, Prog.pure_eq_ret]
  iapply (wp_end c)
  iapply (swait_if m K c 13 (x := Scalar.cmpi .ne (Scalar.extui (Scalar.cmpi .ne (BitVec.ofNat 32 c.val) 13#32) : BitVec 32) 0#32) (cond_wait c 13) (ySub_of ![0, 0, 0] 0 rfl _) (sem_send ![13] 13 rfl _)) $$ [HO HT]
  · isplitl []; · iexact HR
    isplitl [HO]; · iexact HO
    iexact HT
  iintro ⟨HO, HT⟩
  iapply (swait_if m K c 14 (x := Scalar.cmpi .ne (Scalar.extui (Scalar.cmpi .ne (BitVec.ofNat 32 c.val) 14#32) : BitVec 32) 0#32) (cond_wait c 14) (ySub_of ![0, 0, 0] 0 rfl _) (sem_send ![14] 14 rfl _)) $$ [HO HT]
  · isplitl []; · iexact HR
    isplitl [HO]; · iexact HO
    iexact HT
  iintro ⟨HO, HT⟩
  iapply (swait_if m K c 15 (x := Scalar.cmpi .ne (Scalar.extui (Scalar.cmpi .ne (BitVec.ofNat 32 c.val) 15#32) : BitVec 32) 0#32) (cond_wait c 15) (ySub_of ![0, 0, 0] 0 rfl _) (sem_send ![15] 15 rfl _)) $$ [HO HT]
  · isplitl []; · iexact HR
    isplitl [HO]; · iexact HO
    iexact HT
  iintro ⟨HO, HT⟩
  simp only [Prog.bind_op, Prog.bind_ret]
  iapply (step_owait m K c rfl rfl) $$ [HO HCO HAO]
  · isplitl []; · iexact HR
    isplitl [HO]; · iexact HO
    isplitl [HCO]; · iexact HCO
    iexact HAO
  iintro ⟨HO, HZO, HOM, HRES⟩
  rw [wp_ret]
  imodintro
  isplitl [HO]; · iexact HO
  isplitl [HZB]; · iexact HZB
  isplitl [HZX]; · iexact HZX
  isplitl [HXA]; · iexact HXA
  isplitl [HXH]; · iexact HXH
  isplitl [HV]; · iexact HV
  isplitl [HT]; · iexact HT
  isplitl [HZ]; · iexact HZ
  isplitl [HZO]; · iexact HZO
  isplitl [HOM]; · iexact HOM
  iexact HRES

end Cert.Proof

end
-- ==== Proof.Deal.lean ====
/-
  What the launch deals each device, and what the kernel gives back.
-/
module

public import proofs.«01_k».proof.Proof.Body

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores of a device -/

/-- The semaphores of the copies, by what they are for. -/
def dmaTo : Fin 42 → Unit ⊕ Fin 8 ⊕ Unit ⊕ Fin 16 ⊕ Fin 16 := fun q =>
  match role (.dma q) with
  | .x => .inl () | .w k => .inr (.inl k) | .o => .inr (.inr (.inl ())) | .send d => .inr (.inr (.inr (.inl d)))
  | .recv j => .inr (.inr (.inr (.inr j))) | .bar => .inl ()
def dmaOf : Unit ⊕ Fin 8 ⊕ Unit ⊕ Fin 16 ⊕ Fin 16 → Fin 42
  | .inl _ => xS | .inr (.inl k) => wS k | .inr (.inr (.inl _)) => oS | .inr (.inr (.inr (.inl d))) => sendS d
  | .inr (.inr (.inr (.inr j))) => recvS j
/-- The role of the transfer semaphore for a role is that role. -/
theorem dmaTo_of : ∀ a, dmaTo (dmaOf a) = a
  | .inl _ => rfl | .inr (.inl k) => by unfold dmaTo dmaOf; rw [role_w] | .inr (.inr (.inl _)) => rfl
  | .inr (.inr (.inr (.inl d))) => by unfold dmaTo dmaOf; rw [role_send]
  | .inr (.inr (.inr (.inr j))) => by unfold dmaTo dmaOf; rw [role_recv]
/-- The transfer semaphore for the role of one is that one. -/
theorem dmaOf_to : ∀ q, dmaOf (dmaTo q) = q := by decide +kernel
def dmaEquiv : Unit ⊕ Fin 8 ⊕ Unit ⊕ Fin 16 ⊕ Fin 16 ≃ Fin 42 := ⟨dmaOf, dmaTo, dmaTo_of, dmaOf_to⟩

/-- A product over one index is its one factor. -/
theorem bigSep_unit (Φ : Unit → sProp 𝕄) : bigSep Finset.univ Φ = Φ () :=
  (congrArg (fun s => bigSep s Φ) (show (Finset.univ : Finset Unit) = {()} from rfl)).trans bigSep_singleton

/-- Something for every copy's semaphore, by what the semaphores are for. -/
theorem dma_sems (Φ : Fin 42 → sProp 𝕄) :
    bigSep Finset.univ Φ = iprop(Φ xS ∗ (bigSep Finset.univ fun k : Fin 8 => Φ (wS k)) ∗ Φ oS
      ∗ (bigSep Finset.univ fun d : Fin 16 => Φ (sendS d)) ∗ bigSep Finset.univ fun j : Fin 16 => Φ (recvS j)) := by
  rw [bigSep_univ_equiv dmaEquiv Φ, bigSep_univ_sum, bigSep_univ_sum, bigSep_univ_sum, bigSep_univ_sum, bigSep_unit, bigSep_unit]
  rfl

/-- Transfer semaphores with different numbers are different. -/
theorem dma_inj : Function.Injective (SemLoc.dma : DmaSem sig → SemLoc sig) := fun a b h => by injection h
/-- The semaphores other than the barrier are the transfer semaphores. -/
theorem sems_cover : (Finset.univ : Finset (SemLoc sig)).erase (.reg barS) = Finset.univ.map ⟨SemLoc.dma, dma_inj⟩ := by decide +kernel

/-- Something for every semaphore of a device: for the barrier's, and for the copies'. -/
theorem all_sems (Φ : SemLoc sig → sProp 𝕄) :
    bigSep Finset.univ Φ = iprop(Φ (.reg barS) ∗ bigSep Finset.univ fun q : Fin 42 => Φ (.dma q)) := by
  rw [bigSep_univ_at Φ (.reg barS), sems_cover, bigSep_map]
  rfl

/-- The semaphores of the kernel's own: the copies'. -/
abbrev osem (q : Fin 42) : SemLoc sig := SemLoc.dma q
/-- The kernel's own semaphores are distinct, and its own. -/
theorem ownSemFacts : Pipeline.OwnSemFacts cfg0.spec osem := by decide +kernel

/-- The one semaphore that outlives the kernel is the barrier. -/
theorem unscopedSems0_eq (c : Dev nD) : (unscopedSems0 c : sProp 𝕄) = semVal ((c : Thread nD τ), .reg barS) 0 := by
  unfold unscopedSems0; rw [bigSep_eq_bigSepL_of_eq [SemLoc.reg barS] (by decide +kernel) (by decide)]; rfl

/-- All the semaphores at zero, from the kernel's own and the barrier. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal ((c : Thread nD τ), sm) 0 : sProp 𝕄) := by
  rw [all_sems, unscopedSems0_eq]
  unfold Pipeline.ownSems0
  iintro ⟨H, HB⟩
  isplitl [HB]; · iexact HB
  iexact H

/-! ## Others -/

def onBack (c : Fin 16) (d : Fin 16) : Fin 16 := ⟨(d.val + 16 - c.val) % 16, Nat.mod_lt _ (by decide)⟩
/-- Going on from a device and coming back leads to where one was; -/
theorem onBack_on : ∀ c s : Fin 16, onBack c (on c s) = s := by decide +kernel
/-- so does coming back and going on. -/
theorem on_onBack : ∀ c d : Fin 16, on c (onBack c d) = d := by decide +kernel
def onEquiv (c : Dev nD) : Fin 16 ≃ Dev nD := ⟨on c, onBack c, onBack_on c, on_onBack c⟩
/-- Going on by nothing leads to the device itself. -/
theorem on_zero : ∀ c : Fin 16, on c 0 = c := by decide
/-- The steps other than none are the fifteen. -/
theorem erase_zero : (Finset.univ : Finset (Fin 16)).erase 0 = Finset.univ.map (Fin.succEmb 15) := by decide

variable (m : (ℓ : Loc nD τ sig) → Buf (Elt F) ℓ) (K : Dev nD × SemLoc sig → ℕ)
variable (c : Dev nD)

/-- Something for every device: for `c`, and for each of the others in the order `c` signals them. -/
theorem others_on (X : Fin 16 → sProp 𝕄) :
    bigSep Finset.univ X = iprop(X c ∗ bigSep Finset.univ fun s : Fin 15 => X (on c s.succ)) := by
  rw [bigSep_univ_equiv (onEquiv c) X, bigSep_univ_at _ (0 : Fin 16), erase_zero, bigSep_map]
  rw [show X (onEquiv c 0) = X c from congrArg X (on_zero c)]
  rfl

/-- Something for every device is something for every place not `c`'s own. -/
theorem to_places (X : Fin 16 → sProp 𝕄) :
    bigSep Finset.univ X ⊢ iprop(X c ∗ bigSep Finset.univ fun p : Fin 16 => if tgt c p = c then iprop(emp) else X (tgt c p)) := by
  rw [others_places, bigSep_univ_at X c]

/-! ## The rights to pay -/

/-- The rights of device `d` to pay: one at every semaphore of every device. -/
def rights (d : Dev nD) : sProp 𝕄 :=
  bigSep Finset.univ fun e : Dev nD => bigSep Finset.univ fun sm : SemLoc sig => dutyTok (ER (F := F)) ((e : Thread nD τ), sm) 0 d

/-- Those it uses. -/
theorem rights_use : rights (F := F) c ⊢ iprop(dutyTok (ER (F := F)) ((c : Thread nD τ), .dma xS) 0 c
    ∗ (bigSep Finset.univ fun k : Fin 8 => dutyTok (ER (F := F)) ((c : Thread nD τ), .dma (wS k)) 0 c)
    ∗ dutyTok (ER (F := F)) ((c : Thread nD τ), .dma oS) 0 c
    ∗ (bigSep Finset.univ fun s : Fin 15 => dutyTok (ER (F := F)) ((on c s.succ : Thread nD τ), .reg barS) 0 c)
    ∗ sendRights c) := by
  have at_c (Φ : Dev nD → sProp 𝕄) : bigSep Finset.univ Φ ⊢ Φ c := bigSep_elim (Finset.mem_univ c)
  unfold rights sendRights
  simp only [all_sems, dma_sems, bigSep_sep']
  iintro ⟨HB, HX, HW, HO, HS, HR⟩
  isplitl [HX]; · iapply (at_c fun e => dutyTok (ER (F := F)) ((e : Thread nD τ), .dma xS) 0 c); iexact HX
  isplitl [HW]
  · iapply (at_c fun e => bigSep Finset.univ fun k : Fin 8 => dutyTok (ER (F := F)) ((e : Thread nD τ), .dma (wS k)) 0 c); iexact HW
  isplitl [HO]; · iapply (at_c fun e => dutyTok (ER (F := F)) ((e : Thread nD τ), .dma oS) 0 c); iexact HO
  isplitl [HB]
  · ihave HB := (Entails.of_eq (others_on c fun e : Fin 16 => dutyTok (ER (F := F)) ((e : Thread nD τ), .reg barS) 0 c)) $$ HB
    icases HB with ⟨-, HB⟩
    iexact HB
  ihave HS := (at_c fun e => bigSep Finset.univ fun d : Fin 16 => dutyTok (ER (F := F)) ((e : Thread nD τ), .dma (sendS d)) 0 c) $$ HS
  ihave HR := (show (bigSep Finset.univ fun e : Dev nD => bigSep Finset.univ fun j : Fin 16 => dutyTok (ER (F := F)) ((e : Thread nD τ), .dma (recvS j)) 0 c)
      ⊢ bigSep Finset.univ fun e : Dev nD => dutyTok (ER (F := F)) ((e : Thread nD τ), .dma (recvS c)) 0 c from
    bigSep_mono fun e _ => bigSep_elim (Finset.mem_univ (c : Fin 16)) (Φ := fun j : Fin 16 => dutyTok (ER (F := F)) ((e : Thread nD τ), .dma (recvS j)) 0 c)) $$ HR
  ihave H := (zip_places (fun d : Fin 16 => dutyTok (ER (F := F)) ((c : Thread nD τ), .dma (sendS d)) 0 c)
    (fun d : Fin 16 => dutyTok (ER (F := F)) ((d : Thread nD τ), .dma (recvS c)) 0 c)) $$ [HS HR]
  · isplitl [HS]; · iexact HS
    iexact HR
  ihave H := (to_places c (fun d : Fin 16 => iprop(dutyTok (ER (F := F)) ((c : Thread nD τ), .dma (sendS d)) 0 c
    ∗ dutyTok (ER (F := F)) ((d : Thread nD τ), .dma (recvS c)) 0 c))) $$ H
  icases H with ⟨-, H⟩
  iexact H

/-! ## What is owed at launch -/

/-- What device `c` owes: its blocks and its signals. -/
def owed₀ : CellTallies nD τ sig Unit := owedFrom c 0 + barOwed c 0

/-- Fifteen signals come to each device. -/
theorem bar_count : ∀ c : Fin 16, (∑ d : Fin 16, ∑ s : Fin 15, if on d s.succ = c then 1 else 0) = 15 := by decide +kernel

/-- Two semaphores are one when their devices and their numbers are. -/
theorem cell_eq {a b : Dev nD} {x y : SemLoc sig} : ((a : Thread nD τ), x) = ((b : Thread nD τ), y) ↔ a = b ∧ x = y :=
  ⟨fun h => ⟨congrArg (fun g : GSem nD τ sig => g.1.1) h, congrArg Prod.snd h⟩, fun h => by rw [h.1, h.2]⟩
/-- Receiving semaphores with different numbers are different. -/
theorem recv_inj {i j : Fin 16} : SemLoc.dma (sig := sig) (recvS i) = .dma (recvS j) ↔ i = j := by
  revert i j; decide +kernel
/-- A receiving semaphore is not the barrier. -/
theorem recv_ne_bar (j : Fin 16) : SemLoc.dma (sig := sig) (recvS j) ≠ .reg barS := nofun

/-- What device `d` owes a barrier: one unit if it signals it. -/
theorem owed_bar (d : Dev nD) : owed₀ d ((c : Thread nD τ), .reg barS) () = ∑ s : Fin 15, if on d s.succ = c then 1 else 0 := by
  have h₁ : owedFrom d 0 ((c : Thread nD τ), .reg barS) () = 0 := by
    by_contra h
    obtain ⟨e, he⟩ := owedFrom_pos d 0 _ () (Nat.pos_of_ne_zero h)
    exact recv_ne_bar d (cell_eq.mp he).2.symm
  unfold owed₀ barOwed
  rw [Pi.add_apply, Finsupp.add_apply, h₁, Nat.zero_add, Finset.filter_true_of_mem fun _ _ => Nat.zero_le _, Finset.sum_apply, Finsupp.finset_sum_apply]
  refine Finset.sum_congr rfl fun s _ => ?_
  rw [tallyAt_apply]
  by_cases h : on d s.succ = c
  · rw [if_pos ⟨by rw [h], rfl⟩, if_pos h]
  · rw [if_neg fun h' => h (cell_eq.mp h'.1).1.symm, if_neg h]

/-- What device `d` owes where `j`'s block is received: a block's credit if it is `j`. -/
theorem owed_recv (d : Dev nD) (j : Fin 16) : owed₀ d ((c : Thread nD τ), .dma (recvS j)) () = if d = c then 0 else if d = j then NB else 0 := by
  have h₂ : barOwed d 0 ((c : Thread nD τ), .dma (recvS j)) () = 0 := by
    unfold barOwed
    rw [Finset.sum_apply, Finsupp.finset_sum_apply]
    refine Finset.sum_eq_zero fun s _ => ?_
    rw [tallyAt_apply, if_neg fun h => recv_ne_bar j (cell_eq.mp h.1).2]
  unfold owed₀ owedFrom
  rw [Pi.add_apply, Finsupp.add_apply, h₂, Nat.add_zero, Finset.filter_true_of_mem fun _ _ => Nat.zero_le _, Finset.sum_apply, Finsupp.finset_sum_apply,
    ← Equiv.sum_comp (tgtEquiv d).symm, Finset.sum_eq_single c]
  · rw [show (tgtEquiv d).symm c = pos d c from rfl]
    unfold sendOwed
    rw [tgt_pos]
    by_cases h : c = d
    · rw [if_pos h, if_pos h.symm]; rfl
    · rw [if_neg h, if_neg (Ne.symm h), tallyAt_apply]
      by_cases h' : d = j
      · rw [if_pos h', if_pos ⟨by rw [h'], rfl⟩]
      · rw [if_neg h', if_neg fun hh => h' (recv_inj.mp (cell_eq.mp hh.1).2).symm]
  · intro e _ he
    rw [show (tgtEquiv d).symm e = pos d e from rfl]
    unfold sendOwed
    rw [tgt_pos]
    by_cases h : e = d
    · rw [if_pos h]; rfl
    · rw [if_neg h, tallyAt_apply, if_neg fun hh => he (cell_eq.mp hh.1).1.symm]
  · intro h; exact absurd (Finset.mem_univ _) h

/-- The launch credits a device with its barrier's fifteen signals, -/
theorem launch_bar :
    tallyOn ((c : Thread nD τ), .reg barS) (launchCredit (Pipeline.owing owed₀) 0 ((c : Thread nD τ), .reg barS))
      = (tallyAt ((c : Thread nD τ), .reg barS) () 15 : CellTallies nD τ sig Unit) := by
  unfold tallyAt; refine congrArg _ (Finsupp.ext fun u => ?_); cases u
  rw [Pipeline.launchCredit_owing, Finsupp.single_eq_same, Finset.sum_congr rfl fun d _ => owed_bar c d]
  exact bar_count c

/-- and with every block that comes to it. -/
theorem launch_recv (j : Fin 16) (h : j ≠ c) :
    tallyOn ((c : Thread nD τ), .dma (recvS j)) (launchCredit (Pipeline.owing owed₀) 0 ((c : Thread nD τ), .dma (recvS j)))
      = (tallyAt ((c : Thread nD τ), .dma (recvS j)) () NB : CellTallies nD τ sig Unit) := by
  unfold tallyAt; refine congrArg _ (Finsupp.ext fun u => ?_); cases u
  rw [Pipeline.launchCredit_owing, Finsupp.single_eq_same, Finset.sum_congr rfl fun d _ => owed_recv c d j, Finset.sum_eq_single j]
  · rw [if_neg h, if_pos rfl]
  · intro d _ hd; rw [if_neg hd, ite_self]
  · intro h; exact absurd (Finset.mem_univ _) h

/-- What is not needed may be let go. -/
theorem sep_drop (A B : sProp 𝕄) : iprop(A ∗ B) ⊢ B := by
  iintro ⟨-, H⟩; iexact H

/-- What is owed to device `c`: the signals, and a block from each of the others. -/
theorem credits : (Pipeline.launchCred owed₀ c : sProp 𝕄) ⊢ iprop(cred (tallyAt ((c : Thread nD τ), .reg barS) () 15)
    ∗ bigSep Finset.univ fun p : Fin 16 => if tgt c p = c then iprop(emp) else cred (tallyAt ((c : Thread nD τ), .dma (recvS (tgt c p))) () NB)) := by
  have h : (bigSep Finset.univ fun j : Fin 16 => cred (tallyOn ((c : Thread nD τ), .dma (recvS j)) (launchCredit (Pipeline.owing owed₀) 0 ((c : Thread nD τ), .dma (recvS j)))) : sProp 𝕄)
      ⊢ bigSep (Finset.univ.erase (c : Fin 16)) fun j : Fin 16 => cred (tallyAt ((c : Thread nD τ), .dma (recvS j)) () NB) := by
    rw [bigSep_univ_at _ (c : Fin 16), bigSep_congr (s := Finset.univ.erase (c : Fin 16)) fun j hj => congrArg cred (launch_recv c j (Finset.mem_erase.mp hj).1)]
    exact sep_drop _ _
  unfold Pipeline.launchCred
  rw [all_sems, dma_sems, launch_bar, others_places c fun d => cred (tallyAt ((c : Thread nD τ), .dma (recvS d)) () NB)]
  iintro ⟨HB, -, -, -, -, HR⟩
  isplitl [HB]; · iexact HB
  iapply h
  iexact HR

/-! ## The start -/

/-- A whole buffer that holds anything, in the launch's terms. -/
theorem any_whole (b : Ref sig .tc) : anyAt (F := F) c (Memref.whole b) = iprop(∃ f : Buf (Elt F) ((c : Thread nD τ).loc b), ((c : Thread nD τ).loc b) ↦{fullShare} f) := by
  unfold anyAt; rw [View.set_whole]
/-- A whole buffer with known contents, in the launch's terms. -/
theorem pts_whole (b : Ref sig .tc) (f : Buf (Elt F) ((c : Thread nD τ).loc b)) : ptsAt c (Memref.whole b) f = iprop(((c : Thread nD τ).loc b) ↦{fullShare} f) := by
  unfold ptsAt; rw [View.set_whole]

/-- The buffer of blocks is its eight pairs. -/
theorem split_y : anyAt (F := F) c yM ⊢ bigSep Finset.univ fun k : Fin 8 => anyAt c (yPair k) :=
  split_any (ℓ := (c : Thread nD τ).loc cc0_scratch2) _ yPair_disj yPair_cover (View.set_whole _)

/-- Device `c` at the open round of all its semaphores. -/
def places : sProp 𝕄 := bigSep Finset.univ fun sm : SemLoc sig => atPos (ER (F := F)) ((c : Thread nD τ), sm) 0 ∅ 0

/-- What the launch leaves device `c` with, besides its scratch buffers. -/
def start : sProp 𝕄 :=
  iprop((∃ K, recs m K ∗ places c ∗ rights c) ∗ (Pipeline.launchCred owed₀ c : sProp 𝕄)
    ∗ ptsAt c aM (m ((c : Thread nD τ).loc main_arg0)) ∗ ptsAt c bM (m ((c : Thread nD τ).loc main_arg1)) ∗ anyAt c outM)

/-- What it holds as the kernel starts: with what the body needs, the slot for its own block, never used. -/
def atStart : sProp 𝕄 := iprop(∃ K, recs m K ∗ bodyPre m c ∗ anyAt c (rSlot c))

/-- The credits for the blocks received, by the place of the block, are those for all devices but one's own. -/
theorem open_recvs : (bigSep Finset.univ fun p : Fin 16 => iprop((if tgt c p = c then iprop(emp) else cred (tallyAt ((c : Thread nD τ), .dma (recvS (tgt c p))) () NB))
      ∗ if tgt c p = c then iprop(emp) else anyAt (F := F) c (oBlk (tgt c p))))
    ⊢ bigSep Finset.univ fun p : Fin 16 => if tgt c p = c then iprop(emp) else iprop(cred (tallyAt ((c : Thread nD τ), .dma (recvS (tgt c p))) () NB) ∗ anyAt c (oBlk (tgt c p))) :=
  bigSep_mono fun p _ => by
    by_cases h : tgt c p = c
    · simp only [if_pos h]; exact sep_drop _ _
    · simp only [if_neg h]; exact BI.Entails.refl _

/-- What the launch hands a device is what its body starts with. -/
theorem start_body : iprop(start m c ∗ anyAt c xM ∗ anyAt c wM ∗ anyAt c yM ∗ anyAt c rM ∗ anyAt c oM) ⊢ atStart m c := by
  unfold start atStart bodyPre places
  rw [all_sems, dma_sems, own_start]
  iintro ⟨⟨⟨%K, HR, ⟨HAB, HAX, HAW, HAO, HAS, HAR⟩, Hrt⟩, HC, HA, HB, HOUT⟩, HX, HW, HY, HRr, HO⟩
  ihave Hrt := (rights_use c) $$ Hrt
  icases Hrt with ⟨HTX, HTW, HTO, HTB, HSR⟩
  ihave HC := (credits c) $$ HC
  icases HC with ⟨HCB, HCR⟩
  ihave HB := (Entails.of_eq (split_b c (m ((c : Thread nD τ).loc main_arg1)))) $$ HB
  ihave HW := (split_w c) $$ HW
  ihave HY := (split_y c) $$ HY
  ihave HRr := (split_r c) $$ HRr
  ihave HRr := (Entails.of_eq (others_on c fun j : Fin 16 => anyAt (F := F) c (rSlot j))) $$ HRr
  icases HRr with ⟨HR0, HRr⟩
  ihave HO := (split_o c) $$ HO
  ihave HO := (to_places c fun j : Fin 16 => anyAt (F := F) c (oBlk j)) $$ HO
  icases HO with ⟨HO0, HO⟩
  iexists K
  isplitl [HR]; · iexact HR
  isplitr [HR0]
  · isplitl [HA]; · iexact HA
    isplitl [HX]; · iexact HX
    isplitl [HTX]; · iexact HTX
    isplitl [HAX]; · iexact HAX
    isplitl [HB HW HTW]
    · unfold wcopies
      rw [stage_zero]
      iapply (zip_places _ _)
      isplitl [HB]; · iexact HB
      iapply (zip_places _ _)
      isplitl [HW]; · iexact HW
      iexact HTW
    isplitl [HAW]; · iexact HAW
    isplitl [HTB HRr]
    · unfold signals
      rw [stage_zero]
      iapply (zip_places _ _)
      isplitl [HTB]; · iexact HTB
      iexact HRr
    isplitl [HCB]; · iexact HCB
    isplitl [HAB]; · iexact HAB
    isplitl [HSR]; · iexact HSR
    isplitl [HY]
    · unfold slabs
      rw [stage_zero]
      iexact HY
    isplitl [HO0]; · iexact HO0
    isplitl [HAR HCR HO]
    · unfold recvs
      rw [stage_zero]
      iapply (zip_places _ _)
      isplitl [HAR]
      · iapply (Entails.of_eq (bigSep_univ_equiv (tgtEquiv c) fun d : Fin 16 => atPos (ER (F := F)) ((c : Thread nD τ), .dma (recvS d)) 0 ∅ 0))
        iexact HAR
      iapply (open_recvs c)
      iapply (zip_places _ _)
      isplitl [HCR]; · iexact HCR
      iexact HO
    isplitl [HAS]; · iexact HAS
    isplitl [HOUT]; · iexact HOUT
    isplitl [HTO]; · iexact HTO
    iexact HAO
  iexact HR0

/-! ## The end -/

/-- What device `c` keeps after the kernel: its barrier at zero, its arguments as they were, the result. -/
def kept : sProp 𝕄 :=
  iprop(unscopedSems0 c ∗ ptsAt c aM (m ((c : Thread nD τ).loc main_arg0)) ∗ ptsAt c bM (m ((c : Thread nD τ).loc main_arg1)) ∗ result m c)

/-- What the body leaves, with the slot it never used. -/
def atEnd : sProp 𝕄 := iprop(bodyPost m c ∗ anyAt c (rSlot c))

/-- What its body ends with is what the launch takes back and what is kept. -/
theorem end_body : atEnd m c ⊢ iprop(kept m c
    ∗ Pipeline.ownSems0 (Ix := Unit) (Name := ℕ) (U := UU) (Lvl := ℕ) (Val := Elt F) (τ := τ) osem c
    ∗ anyAt c xM ∗ anyAt c wM ∗ anyAt c yM ∗ anyAt c rM ∗ anyAt c oM) := by
  unfold atEnd bodyPost kept wwaits swaits recvEnd Pipeline.ownSems0
  rw [stage_all, stage_all, dma_sems, unscopedSems0_eq, any_whole c cc0_scratch1, any_whole c cc0_scratch2, any_whole c cc0_scratch3]
  iintro ⟨⟨HZB, HZX, HA, HX, HV, HT, ⟨HZR, HRr⟩, HZO, HO, HRES⟩, HR0⟩
  ihave HV := (unzip_places _ _) $$ HV
  icases HV with ⟨HZW, HV⟩
  ihave HV := (unzip_places _ _) $$ HV
  icases HV with ⟨HB, HW⟩
  ihave HT := (unzip_places _ _) $$ HT
  icases HT with ⟨HZS, HY⟩
  isplitl [HZB HA HB HRES]
  · isplitl [HZB]; · iexact HZB
    isplitl [HA]; · iexact HA
    isplitl [HB]; · rw [split_b]; iexact HB
    iexact HRES
  isplitl [HZX HZW HZO HZS HZR]
  · isplitl [HZX]; · iexact HZX
    isplitl [HZW]; · iexact HZW
    isplitl [HZO]; · iexact HZO
    isplitl [HZS]; · iexact HZS
    iexact HZR
  isplitl [HX]; · iapply (holds_any c xM (xv m c)); iexact HX
  isplitl [HW]; · iapply (join_w c (m ((c : Thread nD τ).loc cc0_scratch1))); iexact HW
  isplitl [HY]
  · iapply (join_y c (m ((c : Thread nD τ).loc cc0_scratch2)))
    iapply (Entails.of_eq (bigSep_univ_equiv (tgtEquiv c).symm fun p : Fin 16 => anyAt (F := F) c (ySub p)).symm)
    iexact HY
  isplitl [HR0 HRr]
  · iapply (join_r c (m ((c : Thread nD τ).loc cc0_scratch3)))
    rw [bigSep_univ_at (fun j : Fin 16 => anyAt (F := F) c (rSlot j)) (c : Fin 16)]
    isplitl [HR0]; · iexact HR0
    iexact HRr
  iexact HO

end Cert.Proof

end
-- ==== Proof.Run.lean ====
/-
  The launch: the kernel runs on all the devices together, and what memory holds when it has run.
-/
module

public import proofs.«01_k».proof.Proof.Deal
public import proofs.«01_k».proof.Proof.Gen.KernelIdeal.Frame
public import Idealize.ShloMosaic.Lib.Pipeline.CollectiveSegs

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- Before the kernel's one point, what a device starts with; after it, what it ends with. -/
def dats (_ : Fin 1) (c : Dev nD) : Dat τ (Elt F) Unit ℕ UU ℕ cfg0 c where
  A w := w.elim0
  after w _ := w.elim0
  Φ t := match t with
    | ⟨0, _⟩ => atStart m c
    | ⟨_ + 1, _⟩ => atEnd m c
  q _ := fullShare
  owed t := match t with
    | ⟨0, _⟩ => owed₀ c
    | ⟨_ + 1, _⟩ => 0

/-- The kernel has no windows: a product over them is empty. -/
theorem no_windows (Φ : Fin cfg0.W → sProp 𝕄) : bigSep Finset.univ Φ = BI.emp := by
  rw [show (Finset.univ : Finset (Fin cfg0.W)) = ∅ from rfl, bigSep_empty]

/-- The kernel's body, as the launch asks for it. -/
theorem body_obligation (c : Dev nD) : BodyObligation (dats (F := F) m 0 c) (defs₀ (F := F)) 𝒱₀ () Set.univ := fun t => by
  rw [fin_N0 t, no_windows, no_windows]
  show iprop(atStart m c ∗ (dats m 0 c).owesAt () (t0_0 : Fin cfg0.N).castSucc ∗ emp)
    ⊢ wp frame (wpE (defs₀ (F := F)) 𝒱₀ (c : Thread nD τ) none) Set.univ (bodyAt0 t0_0)
      fun _ => iprop(atEnd m c ∗ (dats m 0 c).owesAt () (t0_0 : Fin cfg0.N).succ ∗ emp)
  unfold atStart atEnd Dat.owesAt Pipeline.owesWithin
  iintro ⟨⟨%K, #HR, HP, HS⟩, ⟨%W, %hW, HO⟩, -⟩
  iapply (wp_wand frame (wpE (defs₀ (F := F)) 𝒱₀ (c : Thread nD τ) none) Set.univ) $$ [HP HO]
  · iapply (body_run m K c)
    isplitl []; · iexact HR
    isplitl [HO]
    · unfold owing; iexists W; iexact HO
    iexact HP
  iintro %u ⟨HO, HP⟩
  unfold owing
  icases HO with ⟨%W', HO⟩
  isplitl [HP HS]
  · isplitl [HP]; · iexact HP
    iexact HS
  isplitl [HO]
  · iexists W'
    isplitr; · ipureintro; exact fun _ _ => Or.inl trivial
    iexact HO
  iempintro

/-! ## What the launch deals -/

/-- Every semaphore of every device, and every right to pay one. -/
theorem cellOf_injective : Function.Injective fun ck : Dev nD × SemLoc sig => (((ck.1 : Thread nD τ), ck.2) : GSem nD τ sig) :=
  fun a b h => Prod.ext (cell_eq.mp h).1 (cell_eq.mp h).2
def allCells : Finset (GSem nD τ sig) := Finset.univ.map ⟨_, cellOf_injective⟩
/-- Different rights are different. -/
theorem rightOf_injective : Function.Injective fun x : Dev nD × SemLoc sig × Fin 16 => ((((x.1 : Thread nD τ), x.2.1), 0, x.2.2) : GSem nD τ sig × ℕ × Fin 16) :=
  fun a b h => by
    have h₁ := cell_eq.mp (congrArg (fun y : GSem nD τ sig × ℕ × Fin 16 => y.1) h)
    have h₂ := congrArg (fun y : GSem nD τ sig × ℕ × Fin 16 => y.2.2) h
    exact Prod.ext h₁.1 (Prod.ext h₁.2 h₂)
def allRights : Finset (GSem nD τ sig × ℕ × Fin 16) := Finset.univ.map ⟨_, rightOf_injective⟩

def u₀ : UU :=
  (initOf (Pipeline.cells cfgs cellOf_inj) (Pipeline.launchToks cfgs cellOf_inj), initOf allCells allRights)

/-- What device `c` is dealt: its semaphores' rounds, its places in them, the rights to pay them. -/
def dealt (c : Dev nD) : sProp 𝕄 :=
  iprop((bigSep Finset.univ fun sm : SemLoc sig => roundState (ER (F := F)) (Rd m) ((c : Thread nD τ), sm) 0)
    ∗ (bigSep Finset.univ fun sm : SemLoc sig => reached (ER (F := F)) ((c : Thread nD τ), sm) 0)
    ∗ places c
    ∗ bigSep Finset.univ fun sm : SemLoc sig => bigSep Finset.univ fun d : Fin 16 => dutyTok (ER (F := F)) ((c : Thread nD τ), sm) 0 d)

/-- The launch's ghost state is what the devices are dealt. -/
theorem deal : BI.own (ER (F := F) (initOf allCells allRights)) ⊢ (|==> bigSep Finset.univ (dealt m) : sProp 𝕄) := by
  have hX (Φ : GSem nD τ sig → sProp 𝕄) : bigSep allCells Φ = bigSep Finset.univ fun c : Dev nD => bigSep Finset.univ fun sm : SemLoc sig => Φ ((c : Thread nD τ), sm) := by
    unfold allCells; rw [bigSep_map, bigSep_univ_prod]; rfl
  have hT : bigSep allRights (fun x => (dutyTok (ER (F := F)) x.1 x.2.1 x.2.2 : sProp 𝕄))
      = bigSep Finset.univ fun c : Dev nD => bigSep Finset.univ fun sm : SemLoc sig => bigSep Finset.univ fun d : Fin 16 => dutyTok (ER (F := F)) ((c : Thread nD τ), sm) 0 d := by
    unfold allRights; rw [bigSep_map, bigSep_univ_prod]
    exact bigSep_congr fun c _ => bigSep_univ_prod _
  iintro HX
  imod (Rounds.fund (ER (F := F)) (Rd m) allCells allRights) $$ HX with ⟨Hst, Hr, Hat, Htok⟩
  imodintro
  ihave Hst := (Entails.of_eq (hX fun g => roundState (ER (F := F)) (Rd m) g 0)) $$ Hst
  ihave Hr := (Entails.of_eq (hX fun g => reached (ER (F := F)) g 0)) $$ Hr
  ihave Hat := (Entails.of_eq (hX fun g => atPos (ER (F := F)) g 0 ∅ 0)) $$ Hat
  ihave Htok := (Entails.of_eq hT) $$ Htok
  unfold dealt places; simp only [bigSep_sep']
  isplitl [Hst]; · iexact Hst
  isplitl [Hr]; · iexact Hr
  isplitl [Hat]; · iexact Hat
  iexact Htok

/-- The rights, to those who use them. -/
theorem rights_dealt : (bigSep Finset.univ fun c : Dev nD => bigSep Finset.univ fun sm : SemLoc sig => bigSep Finset.univ fun d : Fin 16 =>
      (dutyTok (ER (F := F)) ((c : Thread nD τ), sm) 0 d : sProp 𝕄)) = bigSep Finset.univ fun d : Dev nD => rights d := by
  unfold rights
  rw [bigSep_congr (s := Finset.univ) fun (c : Dev nD) _ =>
    bigSep_univ_comm fun (sm : SemLoc sig) (d : Fin 16) => (dutyTok (ER (F := F)) ((c : Thread nD τ), sm) 0 d : sProp 𝕄)]
  exact bigSep_univ_comm _

/-- What is known of every semaphore. -/
def marks (K : Dev nD × SemLoc sig → ℕ) : sProp 𝕄 :=
  iprop((bigSep Finset.univ fun ck : Dev nD × SemLoc sig => cellInv (ER (F := F)) (Rd m) (K ck) ((ck.1 : Thread nD τ), ck.2))
    ∗ bigSep Finset.univ fun ck : Dev nD × SemLoc sig => reached (ER (F := F)) ((ck.1 : Thread nD τ), ck.2) 0)

/-- What is known of the semaphores stays known. -/
instance marks_persistent (K : Dev nD × SemLoc sig → ℕ) : BI.Persistent (marks m K) := by unfold marks; infer_instance

/-- What device `c` has of it all. -/
def share (c : Dev nD) : sProp 𝕄 := iprop(∃ K, marks m K ∗ places c ∗ rights c)

/-- A device's share, from its parts. -/
theorem share_intro (K : Dev nD × SemLoc sig → ℕ) (c : Dev nD) : iprop(marks m K ∗ places c ∗ rights c) ⊢ share m c := by
  unfold share
  iintro H
  iexists K
  iexact H

/-- Device `c`'s semaphores at zero and their rounds open are their invariants. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun sm : SemLoc sig => iprop(∃ κ : ℕ, cellInv (ER (F := F)) (Rd m) κ ((c : Thread nD τ), sm)))
          ∗ (bigSep Finset.univ fun sm : SemLoc sig => reached (ER (F := F)) ((c : Thread nD τ), sm) 0)
          ∗ places c
          ∗ bigSep Finset.univ fun sm : SemLoc sig => bigSep Finset.univ fun d : Fin 16 => dutyTok (ER (F := F)) ((c : Thread nD τ), sm) 0 d) := by
  unfold dealt
  iintro ⟨Hos, Hus, Hst, HR⟩
  ihave Hv := (sems0 (F := F) c) $$ [Hos Hus]
  · isplitl [Hos] <;> iassumption
  imod (show iprop((bigSep Finset.univ fun sm : SemLoc sig => semVal ((c : Thread nD τ), sm) 0) ∗ bigSep Finset.univ fun sm : SemLoc sig => roundState (ER (F := F)) (Rd m) ((c : Thread nD τ), sm) 0)
      ⊢ (|={Set.univ}=> bigSep Finset.univ fun sm : SemLoc sig => iprop(∃ κ : ℕ, cellInv (ER (F := F)) (Rd m) κ ((c : Thread nD τ), sm)) : sProp 𝕄) from by
        rw [← bigSep_sep']
        exact (bigSep_mono fun sm _ => (Rounds.body_intro (ER (F := F)) (Rd m) ((c : Thread nD τ), sm)).trans inv_alloc).trans (bigSep_fupd _ _)) $$ [Hv Hst] with Hinv
  · isplitl [Hv] <;> iassumption
  imodintro
  isplitl [Hinv]; · iexact Hinv
  iexact HR

/-- What stays known may be used once for each index. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices are dealt, regrouped by who uses it: every device knows every semaphore. -/
theorem regroup :
    (bigSep Finset.univ fun c : Dev nD => iprop((bigSep Finset.univ fun sm : SemLoc sig => iprop(∃ κ : ℕ, cellInv (ER (F := F)) (Rd m) κ ((c : Thread nD τ), sm)))
          ∗ (bigSep Finset.univ fun sm : SemLoc sig => reached (ER (F := F)) ((c : Thread nD τ), sm) 0)
          ∗ places c
          ∗ bigSep Finset.univ fun sm : SemLoc sig => bigSep Finset.univ fun d : Fin 16 => dutyTok (ER (F := F)) ((c : Thread nD τ), sm) 0 d) : sProp 𝕄)
      ⊢ bigSep Finset.univ (share m) := by
  rw [bigSep_sep', bigSep_sep', bigSep_sep', rights_dealt,
    ← bigSep_univ_prod (fun ck : Dev nD × SemLoc sig => iprop(∃ κ : ℕ, cellInv (ER (F := F)) (Rd m) κ ((ck.1 : Thread nD τ), ck.2))),
    ← bigSep_univ_prod (fun ck : Dev nD × SemLoc sig => (reached (ER (F := F)) ((ck.1 : Thread nD τ), ck.2) 0 : sProp 𝕄))]
  iintro ⟨HI, #HR, Hat, Htok⟩
  ihave HK := (BI.bigSep_exists_pi Finset.univ (fun (ck : Dev nD × SemLoc sig) (κ : ℕ) => (cellInv (ER (F := F)) (Rd m) κ ((ck.1 : Thread nD τ), ck.2) : sProp 𝕄))) $$ HI
  icases HK with ⟨%K, #HI⟩
  iapply (with_persistent (R := marks m K) fun c _ => share_intro m K c)
  isplitr
  · unfold marks; isplitl; · iexact HI
    iexact HR
  rw [bigSep_sep']
  isplitl [Hat]; · iexact Hat
  iexact Htok

/-- From all the semaphores at zero and what is dealt, every device's share. -/
theorem deal_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (share m) :=
  ((bigSep_mono fun c _ => open_cells m c).trans (bigSep_fupd _ _)).trans (BI.fupd_mono (regroup m))

/-! ## In and out -/

/-- What a device starts with, from what the launch leaves it. -/
theorem start_intro (c : Dev nD) :
    iprop(Pipeline.unscopedRestP Pipeline.Prefetch.none cfg0.spec c (fun b => m ((c : Thread nD τ).loc b)) ∗ levAts levIx lev
        ∗ Pipeline.launchCred owed₀ c ∗ prngReg c (ρ c) ∗ share m c)
      ⊢ |={Set.univ}=> iprop(start m c ∗ emp) := by
  rw [Pipeline.unscopedRestP_none, unscopedRest0_eq]
  unfold start share recs marks
  rw [pts_whole, pts_whole, any_whole]
  iintro ⟨⟨HA, HB, HOUT⟩, Hlev, Hcr, -, ⟨%K, ⟨HI, HR⟩, Hpl, Hrt⟩⟩
  imodintro
  isplitl
  · isplitl [HI HR Hlev Hpl Hrt]
    · iexists K
      isplitl [HI HR Hlev]
      · isplitl [HI]; · iexact HI
        isplitl [HR]; · iexact HR
        iexact Hlev
      isplitl [Hpl]; · iexact Hpl
      iexact Hrt
    isplitl [Hcr]; · iexact Hcr
    isplitl [HA]; · iexact HA
    isplitl [HB]; · iexact HB
    iexists _; iexact HOUT
  · iempintro

/-- What is not needed may be let go. -/
theorem drop_mid (A B C : sProp 𝕄) : iprop(A ∗ B ∗ C) ⊢ iprop(A ∗ C) := by
  iintro ⟨HA, -, HC⟩
  isplitl [HA]; · iexact HA
  iexact HC

/-- A device enters its body with what it starts with and the scratch buffers. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atStart m c from rfl, scopedRest0_eq]
  have h := start_body m c
  simp only [any_whole] at h
  exact (drop_mid _ _ _).trans h

/-- It leaves its body with what is kept, its semaphores at zero, and the scratch buffers. -/
theorem leave (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = atEnd m c from rfl, scopedRest0_eq]
  refine (end_body m c).trans ?_
  simp only [any_whole]
  exact BI.Entails.refl _

/-! ## What memory holds at the end -/

/-- A buffer held whole is what memory holds. -/
theorem read_whole (ℓ : Loc nD τ sig) (f : Buf (Elt F) ℓ) (s : Phys nD τ sig (Elt F)) :
    iprop((ℓ ↦{fullShare} f : sProp 𝕄) ∗ SI s) ⊢ iprop(⌜s.mem.mem ℓ = f⌝ ∗ SI s) := by
  iintro ⟨H, HSI⟩
  icombine HSI H gives %h
  isplitr; · ipureintro; exact Buf.eq_of_forall_mem_univ h
  iexact HSI

/-- Device `c`'s memory at the end: the barrier at zero, the arguments as they were, every block of the result as it should be. -/
def Final (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ ∀ j : Dev nD, (resBlk j).view.read (Elt F) (s.mem ((c : Thread nD τ).loc main_v1)) = outVal m c j

/-- What is kept at the end says what memory holds. -/
theorem final_read (c : Dev nD) (s : Phys nD τ sig (Elt F)) : iprop(kept m c ∗ emp ∗ SI s) ⊢ |={Set.univ}=> iprop(⌜Final m c s.mem⌝ ∗ SI s) := by
  unfold kept result
  rw [pts_whole, pts_whole]
  iintro ⟨⟨HZ, HA, HB, ⟨%g, %hg, HG⟩⟩, -, HSI⟩
  ihave HG := (Entails.of_eq (pts_whole c main_v1 g)) $$ HG
  ihave H := (read_whole _ _ s) $$ [HA HSI]
  · isplitl [HA] <;> iassumption
  icases H with ⟨%hA, HSI⟩
  ihave H := (read_whole _ _ s) $$ [HB HSI]
  · isplitl [HB] <;> iassumption
  icases H with ⟨%hB, HSI⟩
  ihave H := (read_whole _ _ s) $$ [HG HSI]
  · isplitl [HG] <;> iassumption
  icases H with ⟨%hG, HSI⟩
  imod (Pipeline.unscopedSems0_read (X := unscopedSems0 c) (c := c) fupd_intro s) $$ [HZ HSI] with ⟨%hZ, HSI⟩
  · isplitl [HZ] <;> iassumption
  imodintro
  isplitr
  · ipureintro
    exact ⟨hZ, hA, hB, fun j => by rw [hG]; exact hg j⟩
  iexact HSI

/-! ## The run -/

set_option maxRecDepth 8000 in
/-- For any float values, from any memory with the counters at zero: every weakly fair execution of the program on the
    sixteen devices ends, with the arguments unchanged, every counter at zero, and every block of every device's result as
    it should be. -/
theorem run_main : θ_run defs (onTc (τ := τ) (main (F := F))) ⟨m, fun _ => 0, ρ⟩ (fun r => (∀ c : Dev nD, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owed₀) (howed₀ := fun _ => rfl) (howedN := fun _ => rfl)
    (L := levIx) (lv := lev) (hL := levIx_ne) (hwaits := fun c => Pipeline.cellsWaits_intro cfgs (dats m) () 0 c fun w => w.elim0)
    (G := dealt m) (G' := share m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := deal_all m)
    (hA := fun _ w => w.elim0) (hpf := fun _ k => k.elim0)
    (X := start m) (Y := kept m) (Z := fun _ => iprop(emp))
    (hX := start_intro m ρ) (hin := enter m) (hout := leave m)
    (QY := Final m)
    (hY := final_read m)
    (hQ := fun _ h hs => ⟨fun c => (h c).2.2, sem_eq_zero hs fun c => (h c).2.2.1⟩)

end Cert.Proof

end
-- ==== Proof.Value.lean ====
/-
  What the kernel computes, over exact arithmetic: its columns of the product of the whole arrays.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Pipeline.Value

@[expose] public section

set_option maxRecDepth 16384

noncomputable section

namespace Cert.Proof

open Cert.KernelIdeal Cert.KernelIdeal.Gen

open Idealize.ShloMosaic
open Idealize.ShloMosaic.TcCoe
open Idealize.SL.Sem Idealize.ShloMosaic.ValueIdx
open Idealize.ShloMosaic.Rounds
open Idealize.ShloMosaic.Pipeline (Dat Cfg Window BodyObligation cellOf)

variable (m : (ℓ : Loc nD τ sig) → Buf (Elt Ideal) ℓ)

/-- A device's weights. -/
def bv (c : Dev nD) : Vec Ideal S2048x2048 .f32 := m ((c : Thread nD τ).loc main_arg1)

/-- A device makes its blocks in pairs of neighbours. -/
theorem neighbours : ∀ (c p : Fin 16), 128 * (tgt c (fst (half p))).val + 128 * (p.val % 2) = 128 * (tgt c p).val := by decide +kernel

/-- A column of a device is a column of the weights. -/
theorem col_lt (d : Fin 16) (l : Fin 128) : 128 * d.val + l.val < 2048 := by omega
/-- A column of a block is a column of its pair. -/
theorem part_lt (p : Fin 16) (l : Fin 128) : 128 * (p.val % 2) + l.val < 256 := by omega

/-- The entry of the product that device `c` makes for column `l` of device `d`, in its own row `r`. -/
def entry (c d : Fin 16) (r l : Fin 128) : Ideal .f32 :=
  ∑ k : Fin 2048, xv m c (ix2 r k) * bv m c (ix2 k ⟨128 * d.val + l.val, col_lt d l⟩)

/-- A pair's columns are the columns of the weights. -/
theorem wv_apply (c : Dev nD) (k : Fin 8) (i : Fin 2048) (l : Fin 256) (h : 128 * (tgt c (fst k)).val + l.val < 2048) :
    wv m c k (ix2 i l) = bv m c (ix2 i ⟨128 * (tgt c (fst k)).val + l.val, h⟩) := by
  refine congrArg (bv m c) (funext fun a => Fin.ext ?_)
  match a with
  | ⟨0, _⟩ => show 0 + 1 * i.val = i.val; omega
  | ⟨1, _⟩ => show 128 * (tgt c (fst k)).val + 1 * l.val = 128 * (tgt c (fst k)).val + l.val; omega

/-- A pair's product, entry by entry. -/
theorem prod_apply (c : Dev nD) (k : Fin 8) (r : Fin 128) (l : Fin 256) :
    prod m c k (ix2 r l) = ∑ i : Fin 2048, xv m c (ix2 r i) * wv m c k (ix2 i l) := by
  unfold prod
  rw [show dot_S128x2048_S2048x256_S128x256_1_0_0_1_n_n = DotDims.plain 128 2048 256 from rfl]
  refine (Ideal.matmul_plain_apply _ _ _ _ r l).trans ?_
  rw [show constant (F := Ideal) S128x256 .f32 0x00000000#32 (ix2 r l) = (0 : EReal) from Ideal.ofBits_zero_f32]
  exact zero_add _

/-- The part of a pair's product that is block `p`. -/
theorem prod_part (c : Dev nD) (p : Fin 16) (r l : Fin 128) :
    prod m c (half p) (ix2 r ⟨128 * (p.val % 2) + l.val, part_lt p l⟩) = entry m c (tgt c p) r l := by
  rw [prod_apply]
  refine Finset.sum_congr rfl fun i _ => congrArg (xv m c (ix2 r i) * ·) ?_
  have h := neighbours c p
  have h' := col_lt (tgt c p) l
  rw [wv_apply m c (half p) i _ (by show _ + (128 * (p.val % 2) + l.val) < _; omega)]
  exact congrArg (bv m c) (congrArg (ix2 i) (Fin.ext (by show _ + (128 * (p.val % 2) + l.val) = 128 * (tgt c p).val + l.val; omega)))

/-- The block a device keeps. -/
theorem ownVal_apply (c : Dev nD) (p : Fin 16) (r l : Fin 128) : ownVal m c p (ix2 r l) = entry m c (tgt c p) r l := by
  rw [← prod_part]
  refine extractStridedSlice_apply _ _ _ _ _ fun a => ?_
  match a with
  | ⟨0, _⟩ => show r.val = 0 + r.val; omega
  | ⟨1, _⟩ => rfl

/-- A stored pair is the pair. -/
theorem stored_apply (c : Dev nD) (k : Fin 8) (z : Fin 1) (r : Fin 128) (l : Fin 256) : stored m c k (ix3 z r l) = prod m c k (ix2 r l) := by
  unfold stored
  refine (shapeCast_addUnit_apply (n := 2) ![128, 256] _ _ (ix3 z r l)).trans ?_
  refine congrArg (prod m c k) (funext fun a => ?_)
  match a with
  | ⟨0, _⟩ => rfl
  | ⟨1, _⟩ => rfl

/-- Where an entry of a sent block lies in the buffer. -/
theorem ySub_emb (p : Fin 16) (r l : Fin 128) :
    (ySub p).view.emb (ix2 r l) = (yM.access (yRect (half p))).emb (ix3 (0 : Fin 1) r ⟨128 * (p.val % 2) + l.val, part_lt p l⟩) := by
  have e : Shape.reshapeEquiv squeezes_S1x128x128_S128x128.numel_eq (ix2 r l) = (ix3 (0 : Fin 1) r l : S1x128x128.Idx) := by
    refine Shape.reshapeEquiv_eq_of_rowMajor _ ?_
    show (Shape.rowMajorPi (Matrix.vecCons 1 ![128, 128]) (Fin.cons ⟨0, Nat.one_pos⟩ (ix2 r l))).val = (Shape.rowMajorPi ![128, 128] (ix2 r l)).val
    rw [Shape.rowMajorPi_succ_val]
    show 0 * _ + (Shape.rowMajorPi ![128, 128] (ix2 r l)).val = _
    simp
  show (Rect.unit (s := S8x128x256) ![p.val / 2, 0, 128 * (p.val % 2)] S1x128x128.size (sub_inb p)).emb
    (Shape.reshapeEquiv squeezes_S1x128x128_S128x128.numel_eq (ix2 r l)) = _
  rw [e]
  refine funext fun a => Fin.ext ?_
  match a with
  | ⟨0, _⟩ => rfl
  | ⟨1, _⟩ => rfl
  | ⟨2, _⟩ => show 128 * (p.val % 2) + 1 * l.val = 0 + 1 * (128 * (p.val % 2) + l.val); omega

/-- The block a device sends. -/
theorem sendVal_apply (c : Dev nD) (p : Fin 16) (r l : Fin 128) : sendVal m c p (ix2 r l) = entry m c (tgt c p) r l := by
  rw [← prod_part, ← stored_apply m c (half p) 0, ← yBuf_emb, ← ySub_emb]
  rfl

/-- Every block of a result: device `j`'s rows, device `c`'s columns. -/
theorem outVal_apply (c j : Dev nD) (r l : Fin 128) : outVal m c j (ix2 r l) = entry m j c r l := by
  unfold outVal
  by_cases h : j = c
  · subst h
    rw [if_pos rfl, ownVal_apply, tgt_pos]
  · rw [if_neg h]
    rw [extf_apply, sendVal_apply, tgt_pos]

/-- Row by row, a result whose blocks are these. -/
theorem result_apply (c : Dev nD) (g : Vec Ideal S2048x128 .f32) (h : ∀ j : Dev nD, (resBlk j).view.read (Elt Ideal) g = outVal m c j)
    (j : Dev nD) (r l : Fin 128) (hr : 128 * j.val + r.val < 2048) : g (ix2 ⟨128 * j.val + r.val, hr⟩ l) = entry m j c r l := by
  rw [← outVal_apply m c j, ← h j]
  refine congrArg g (funext fun a => Fin.ext ?_)
  match a with
  | ⟨0, _⟩ => show 128 * j.val + r.val = 128 * j.val + 1 * r.val; omega
  | ⟨1, _⟩ => show l.val = 0 + 1 * l.val; omega

/-- The product of the whole arrays, as the reference has it. -/
def whole (A B : Vec Ideal S2048x2048 .f32) : Vec Ideal S2048x2048 .f32 :=
  Host.dotGeneral (F := Ideal) (φ₁ := .f32) (φ₂ := .f32) Cert.ReferenceIdeal.dot_S2048x2048_S2048x2048_S2048x2048_1_0_0_1_n_n none A B

/-- The product of the whole arrays, entry by entry. -/
theorem whole_apply (A B : Vec Ideal S2048x2048 .f32) (a b : Fin 2048) : whole A B (ix2 a b) = ∑ k : Fin 2048, A (ix2 a k) * B (ix2 k b) := by
  unfold whole
  rw [show Cert.ReferenceIdeal.dot_S2048x2048_S2048x2048_S2048x2048_1_0_0_1_n_n = DotDims.plain 2048 2048 2048 from rfl]
  exact StackMember.dotGeneral_plain_apply none A B a b

/-- A device's result is its columns of the product, where the arguments are the devices' parts of the whole arrays. -/
theorem result_eq (A B : Vec Ideal S2048x2048 .f32)
    (hA : ∀ j : Dev nD, m ((j : Thread nD τ).loc main_arg0) = Layout.block ⟨2, ![128, 2048]⟩ ⟨2, ![2048, 2048]⟩ 0 16 j A)
    (hB : ∀ j : Dev nD, m ((j : Thread nD τ).loc main_arg1) = B)
    (c : Dev nD) (g : Vec Ideal S2048x128 .f32) (h : ∀ j : Dev nD, (resBlk j).view.read (Elt Ideal) g = outVal m c j) :
    g = Layout.block ⟨2, ![2048, 128]⟩ ⟨2, ![2048, 2048]⟩ 1 16 c (whole A B) := by
  funext i
  obtain ⟨a, l, rfl⟩ : ∃ (a : Fin 2048) (l : Fin 128), i = ix2 a l := ⟨i 0, i 1, eq_ix2 i⟩
  have hj : a.val / 128 < 16 := by omega
  have hr : a.val % 128 < 128 := by omega
  have ha : 128 * (a.val / 128) + a.val % 128 < 2048 := by omega
  have e : a = ⟨128 * (⟨a.val / 128, hj⟩ : Fin 16).val + (⟨a.val % 128, hr⟩ : Fin 128).val, ha⟩ := Fin.ext (by show a.val = 128 * (a.val / 128) + a.val % 128; omega)
  have hl := col_lt c l
  have hw : Layout.block ⟨2, ![2048, 128]⟩ ⟨2, ![2048, 2048]⟩ 1 16 c (whole A B) (by decide) (ix2 a l) = whole A B (ix2 a ⟨128 * c.val + l.val, hl⟩) := by
    refine congrArg (whole A B) (funext fun x => Fin.ext ?_)
    match x with
    | ⟨0, _⟩ => rfl
    | ⟨1, _⟩ => show c.val * 128 + l.val = 128 * c.val + l.val; omega
  rw [hw, whole_apply]
  refine (congrArg (fun x => g (ix2 x l)) e).trans ?_
  rw [result_apply m c g h]
  refine Finset.sum_congr rfl fun k _ => ?_
  refine congrArg₂ (fun x y : EReal => x * y) ?_ ?_
  · refine (congrFun (hA ⟨a.val / 128, hj⟩) _).trans (congrArg A (funext fun x => Fin.ext ?_))
    match x with
    | ⟨0, _⟩ => show a.val / 128 * 128 + a.val % 128 = a.val; omega
    | ⟨1, _⟩ => rfl
  · exact congrFun (hB ⟨a.val / 128, hj⟩) _

end Cert.Proof

end
-- ==== Proof.lean ====
/-
  The five claims: that the kernel runs, at bits and over exact arithmetic, that the reference runs, that the kernel is its own
  idealization, and that over exact arithmetic the two compute the same product. The run is in Proof/Run.lean, written once for
  any float values; what it computes over exact arithmetic is in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel runs at bits, its arguments unchanged and every counter at zero: its text is the idealized kernel's. -/
theorem frame_kernel : Cert.quiescent_Kernel := fun m ρ _ =>
  (θ_run (Cert.KernelIdeal.defs (F := Bits)) _ _).mono (fun _ h => ⟨fun c => ⟨(h.1 c).2.1, (h.1 c).2.2.1⟩, h.2⟩) (run_main (F := Bits) m ρ)

/-- The kernel runs over exact arithmetic, its arguments unchanged and every counter at zero. -/
theorem frame_ideal : Cert.quiescent_KernelIdeal := fun m ρ _ =>
  (θ_run (Cert.KernelIdeal.defs (F := Ideal)) _ _).mono (fun _ h => ⟨fun c => ⟨(h.1 c).2.1, (h.1 c).2.2.1⟩, h.2⟩) (run_main (F := Ideal) m ρ)

/-- The reference runs over exact arithmetic, its arguments unchanged and every counter at zero. -/
theorem frame_reference : Cert.quiescent_ReferenceIdeal := fun m ρ _ =>
  (θ_run (Cert.ReferenceIdeal.defs (F := Ideal)) _ _).mono (fun r h => ⟨fun c => ⟨(h c).2.1, (h c).2.2⟩, sem_eq_zero_of_no_sems (by decide) r.2⟩)
    (Cert.ReferenceIdeal.Value.run (F := Ideal) m ρ)

/-- Over exact arithmetic the devices' results are the blocks of columns of the reference's result. -/
theorem same_product : Cert.algebraic_KernelIdeal_ReferenceIdeal := fun m ρ m' ρ' _ hargs =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono (fun _ h c =>
      ⟨result_eq m _ _ (fun j => (hargs j).1) (fun j => (hargs j).2) c _ (h.1 c).2.2.2, (h.1 c).2.1, (h.1 c).2.2.1⟩) (run_main (F := Ideal) m ρ),
    (θ_run (Cert.ReferenceIdeal.defs (F := Ideal)) _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, trivial, same_product⟩

end Cert.Proof

end
